-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v283) = v0 c
          ∧ r.2.mem ((c.tc : Thread Cert.ReferenceIdeal.nD Cert.ReferenceIdeal.τ).loc Cert.ReferenceIdeal.main_v284) = v1 c
          ∧ r.2.mem ((c.tc : Thread Cert.ReferenceIdeal.nD Cert.ReferenceIdeal.τ).loc Cert.ReferenceIdeal.main_v285) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v19)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v118) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S32x256x1024 : Shape := ⟨3, ![32, 256, 1024]⟩
abbrev S1x6x1024 : Shape := ⟨3, ![1, 6, 1024]⟩
abbrev S1x1024 : Shape := ⟨2, ![1, 1024]⟩
abbrev S1x1024x3088 : Shape := ⟨3, ![1, 1024, 3088]⟩
abbrev S1x3x512 : Shape := ⟨3, ![1, 3, 512]⟩
abbrev S1x3x1024 : Shape := ⟨3, ![1, 3, 1024]⟩
abbrev S1x2x8 : Shape := ⟨3, ![1, 2, 8]⟩
abbrev S1x8 : Shape := ⟨2, ![1, 8]⟩
abbrev S1x512 : Shape := ⟨2, ![1, 512]⟩
abbrev S1x1024x1024 : Shape := ⟨3, ![1, 1024, 1024]⟩
abbrev S1024x3088 : Shape := ⟨2, ![1024, 3088]⟩
abbrev S_ : Shape := ⟨0, ![]⟩
abbrev S1024x3200 : Shape := ⟨2, ![1024, 3200]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1024 : Shape := ⟨1, ![1024]⟩
abbrev S128x1024 : Shape := ⟨2, ![128, 1024]⟩
abbrev S3x512 : Shape := ⟨2, ![3, 512]⟩
abbrev S3x1024 : Shape := ⟨2, ![3, 1024]⟩
abbrev S2x8 : Shape := ⟨2, ![2, 8]⟩
abbrev S1x16 : Shape := ⟨2, ![1, 16]⟩
abbrev S8 : Shape := ⟨1, ![8]⟩
abbrev S8x64 : Shape := ⟨2, ![8, 64]⟩
abbrev S512 : Shape := ⟨1, ![512]⟩
abbrev S1024x1024 : Shape := ⟨2, ![1024, 1024]⟩
abbrev S8192x1024 : Shape := ⟨2, ![8192, 1024]⟩
abbrev S32x512x128 : Shape := ⟨3, ![32, 512, 128]⟩
abbrev S4x512x128 : Shape := ⟨3, ![4, 512, 128]⟩
abbrev S1040x512 : Shape := ⟨2, ![1040, 512]⟩
abbrev S1040x1024 : Shape := ⟨2, ![1040, 1024]⟩
abbrev S1024x512 : Shape := ⟨2, ![1024, 512]⟩
abbrev S1024x128 : Shape := ⟨2, ![1024, 128]⟩
abbrev S8x128x512 : Shape := ⟨3, ![8, 128, 512]⟩
abbrev S128x512 : Shape := ⟨2, ![128, 512]⟩
abbrev S1x1x1024 : Shape := ⟨3, ![1, 1, 1024]⟩
abbrev S8x512 : Shape := ⟨2, ![8, 512]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S144x1024 : Shape := ⟨2, ![144, 1024]⟩
abbrev S144x512 : Shape := ⟨2, ![144, 512]⟩
abbrev S8x128 : Shape := ⟨2, ![8, 128]⟩
abbrev S128x256 : Shape := ⟨2, ![128, 256]⟩
abbrev S1x128x512 : Shape := ⟨3, ![1, 128, 512]⟩
abbrev S512x128 : Shape := ⟨2, ![512, 128]⟩
abbrev S1x512x128 : Shape := ⟨3, ![1, 512, 128]⟩

abbrev nBuf : Space → Nat
  | .hbm => 84
  | .vmem => 35
  | .smem => 0
  | _ => 0

abbrev bufTy : (tb : Table) → Fin (tcTables nBuf tb) → BufTy
  | .hbm, ⟨0, _⟩ => ⟨S32x256x1024, .f32⟩
  | .hbm, ⟨1, _⟩ => ⟨S1x6x1024, .f32⟩
  | .hbm, ⟨2, _⟩ => ⟨S1x1024, .f32⟩
  | .hbm, ⟨3, _⟩ => ⟨S1x1024x3088, .f32⟩
  | .hbm, ⟨4, _⟩ => ⟨S1x3x512, .f32⟩
  | .hbm, ⟨5, _⟩ => ⟨S1x3x1024, .f32⟩
  | .hbm, ⟨6, _⟩ => ⟨S1x1024, .f32⟩
  | .hbm, ⟨7, _⟩ => ⟨S1x2x8, .f32⟩
  | .hbm, ⟨8, _⟩ => ⟨S1x2x8, .f32⟩
  | .hbm, ⟨9, _⟩ => ⟨S1x8, .f32⟩
  | .hbm, ⟨10, _⟩ => ⟨S1x512, .f32⟩
  | .hbm, ⟨11, _⟩ => ⟨S1x1024x1024, .f32⟩
  | .hbm, ⟨12, _⟩ => ⟨S1024x3088, .f32⟩
  | .hbm, ⟨13, _⟩ => ⟨S_, .i32⟩
  | .hbm, ⟨14, _⟩ => ⟨S_, .f32⟩
  | .hbm, ⟨15, _⟩ => ⟨S1024x3200, .f32⟩
  | .hbm, ⟨16, _⟩ => ⟨S1024x3200, .bf16⟩
  | .hbm, ⟨17, _⟩ => ⟨S128, .i32⟩
  | .hbm, ⟨18, _⟩ => ⟨S128x1, .i32⟩
  | .hbm, ⟨19, _⟩ => ⟨S1x128, .i32⟩
  | .hbm, ⟨20, _⟩ => ⟨S128x128, .i32⟩
  | .hbm, ⟨21, _⟩ => ⟨S128x128, .i32⟩
  | .hbm, ⟨22, _⟩ => ⟨S128x128, .i1⟩
  | .hbm, ⟨23, _⟩ => ⟨S128x128, .bf16⟩
  | .hbm, ⟨24, _⟩ => ⟨S128x1, .i32⟩
  | .hbm, ⟨25, _⟩ => ⟨S1x128, .i32⟩
  | .hbm, ⟨26, _⟩ => ⟨S128x128, .i32⟩
  | .hbm, ⟨27, _⟩ => ⟨S128x128, .i32⟩
  | .hbm, ⟨28, _⟩ => ⟨S128x128, .i1⟩
  | .hbm, ⟨29, _⟩ => ⟨S128x128, .bf16⟩
  | .hbm, ⟨30, _⟩ => ⟨S128, .i32⟩
  | .hbm, ⟨31, _⟩ => ⟨S128x1, .i32⟩
  | .hbm, ⟨32, _⟩ => ⟨S1024, .i32⟩
  | .hbm, ⟨33, _⟩ => ⟨S1x1024, .i32⟩
  | .hbm, ⟨34, _⟩ => ⟨S_, .i32⟩
  | .hbm, ⟨35, _⟩ => ⟨S_, .i32⟩
  | .hbm, ⟨36, _⟩ => ⟨S1x1024, .i32⟩
  | .hbm, ⟨37, _⟩ => ⟨S1x1024, .i32⟩
  | .hbm, ⟨38, _⟩ => ⟨S1x1024, .i32⟩
  | .hbm, ⟨39, _⟩ => ⟨S_, .i32⟩
  | .hbm, ⟨40, _⟩ => ⟨S1x1024, .i32⟩
  | .hbm, ⟨41, _⟩ => ⟨S1x1024, .i1⟩
  | .hbm, ⟨42, _⟩ => ⟨S1x1024, .i32⟩
  | .hbm, ⟨43, _⟩ => ⟨S1x1024, .i32⟩
  | .hbm, ⟨44, _⟩ => ⟨S_, .i32⟩
  | .hbm, ⟨45, _⟩ => ⟨S1x1024, .i32⟩
  | .hbm, ⟨46, _⟩ => ⟨S1x1024, .i1⟩
  | .hbm, ⟨47, _⟩ => ⟨S1x1024, .i1⟩
  | .hbm, ⟨48, _⟩ => ⟨S_, .i32⟩
  | .hbm, ⟨49, _⟩ => ⟨S1x1024, .i32⟩
  | .hbm, ⟨50, _⟩ => ⟨S1x1024, .i32⟩
  | .hbm, ⟨51, _⟩ => ⟨S1x1024, .i32⟩
  | .hbm, ⟨52, _⟩ => ⟨S128x1024, .i32⟩
  | .hbm, ⟨53, _⟩ => ⟨S128x1024, .i32⟩
  | .hbm, ⟨54, _⟩ => ⟨S128x1024, .i1⟩
  | .hbm, ⟨55, _⟩ => ⟨S128x1024, .bf16⟩
  | .hbm, ⟨56, _⟩ => ⟨S1024, .f32⟩
  | .hbm, ⟨57, _⟩ => ⟨S1x1024, .f32⟩
  | .hbm, ⟨58, _⟩ => ⟨S3x512, .f32⟩
  | .hbm, ⟨59, _⟩ => ⟨S3x1024, .f32⟩
  | .hbm, ⟨60, _⟩ => ⟨S1024, .f32⟩
  | .hbm, ⟨61, _⟩ => ⟨S1x1024, .f32⟩
  | .hbm, ⟨62, _⟩ => ⟨S2x8, .f32⟩
  | .hbm, ⟨63, _⟩ => ⟨S1x16, .f32⟩
  | .hbm, ⟨64, _⟩ => ⟨S_, .i32⟩
  | .hbm, ⟨65, _⟩ => ⟨S_, .f32⟩
  | .hbm, ⟨66, _⟩ => ⟨S1x128, .f32⟩
  | .hbm, ⟨67, _⟩ => ⟨S2x8, .f32⟩
  | .hbm, ⟨68, _⟩ => ⟨S1x16, .f32⟩
  | .hbm, ⟨69, _⟩ => ⟨S_, .i32⟩
  | .hbm, ⟨70, _⟩ => ⟨S_, .f32⟩
  | .hbm, ⟨71, _⟩ => ⟨S1x128, .f32⟩
  | .hbm, ⟨72, _⟩ => ⟨S8, .f32⟩
  | .hbm, ⟨73, _⟩ => ⟨S8x64, .f32⟩
  | .hbm, ⟨74, _⟩ => ⟨S512, .f32⟩
  | .hbm, ⟨75, _⟩ => ⟨S1x512, .f32⟩
  | .hbm, ⟨76, _⟩ => ⟨S512, .f32⟩
  | .hbm, ⟨77, _⟩ => ⟨S1x512, .f32⟩
  | .hbm, ⟨78, _⟩ => ⟨S1024x1024, .f32⟩
  | .hbm, ⟨79, _⟩ => ⟨S1024x1024, .bf16⟩
  | .hbm, ⟨80, _⟩ => ⟨S8192x1024, .f32⟩
  | .hbm, ⟨81, _⟩ => ⟨S8192x1024, .f32⟩
  | .hbm, ⟨82, _⟩ => ⟨S32x512x128, .f32⟩
  | .hbm, ⟨83, _⟩ => ⟨S32x512x128, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1024, .f32⟩
  | .local _ .vmem, ⟨4, _⟩ => ⟨S1024x3200, .bf16⟩
  | .local _ .vmem, ⟨5, _⟩ => ⟨S3x512, .f32⟩
  | .local _ .vmem, ⟨6, _⟩ => ⟨S3x1024, .f32⟩
  | .local _ .vmem, ⟨7, _⟩ => ⟨S1x1024, .f32⟩
  | .local _ .vmem, ⟨8, _⟩ => ⟨S1x128, .f32⟩
  | .local _ .vmem, ⟨9, _⟩ => ⟨S1x128, .f32⟩
  | .local _ .vmem, ⟨10, _⟩ => ⟨S1x512, .f32⟩
  | .local _ .vmem, ⟨11, _⟩ => ⟨S1x512, .f32⟩
  | .local _ .vmem, ⟨12, _⟩ => ⟨S1024x1024, .bf16⟩
  | .local _ .vmem, ⟨13, _⟩ => ⟨S128x128, .bf16⟩
  | .local _ .vmem, ⟨14, _⟩ => ⟨S128x128, .bf16⟩
  | .local _ .vmem, ⟨15, _⟩ => ⟨S128x1024, .bf16⟩
  | .local _ .vmem, ⟨16, _⟩ => ⟨S1024x1024, .f32⟩
  | .local _ .vmem, ⟨17, _⟩ => ⟨S1024x1024, .f32⟩
  | .local _ .vmem, ⟨18, _⟩ => ⟨S4x512x128, .f32⟩
  | .local _ .vmem, ⟨19, _⟩ => ⟨S4x512x128, .f32⟩
  | .local _ .vmem, ⟨20, _⟩ => ⟨S4x512x128, .f32⟩
  | .local _ .vmem, ⟨21, _⟩ => ⟨S4x512x128, .f32⟩
  | .local _ .vmem, ⟨22, _⟩ => ⟨S1040x512, .f32⟩
  | .local _ .vmem, ⟨23, _⟩ => ⟨S1040x1024, .f32⟩
  | .local _ .vmem, ⟨24, _⟩ => ⟨S1024x512, .f32⟩
  | .local _ .vmem, ⟨25, _⟩ => ⟨S1024x512, .f32⟩
  | .local _ .vmem, ⟨26, _⟩ => ⟨S1024x128, .f32⟩
  | .local _ .vmem, ⟨27, _⟩ => ⟨S1024x128, .f32⟩
  | .local _ .vmem, ⟨28, _⟩ => ⟨S1024x512, .f32⟩
  | .local _ .vmem, ⟨29, _⟩ => ⟨S1024x512, .bf16⟩
  | .local _ .vmem, ⟨30, _⟩ => ⟨S1024x1024, .bf16⟩
  | .local _ .vmem, ⟨31, _⟩ => ⟨S8x128x512, .f32⟩
  | .local _ .vmem, ⟨32, _⟩ => ⟨S8x128x512, .f32⟩
  | .local _ .vmem, ⟨33, _⟩ => ⟨S128x512, .f32⟩
  | .local _ .vmem, ⟨34, _⟩ => ⟨S128x512, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_1 : Ref sig .tc := ⟨.hbm, 64, rfl⟩
abbrev main_call2_v0 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_c_2 : Ref sig .tc := ⟨.hbm, 69, rfl⟩
abbrev main_call3_v0 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46_0 : Ref sig .tc := ⟨.hbm, 81, rfl⟩
abbrev main_v46_1 : Ref sig .tc := ⟨.hbm, 82, rfl⟩
abbrev main_v46_2 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_scratch11 : Ref sig .tc := ⟨.vmem, 33, rfl⟩
abbrev cc0_scratch12 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v20 : BitVec 32 := Scalar.addi c0_i32 c4_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg32 : BitVec 32 := Scf.iv c0_i32 c1_i32 k0_t1
  let c256_i32 : BitVec 32 := 256#32
  let v41 : BitVec 32 := Scalar.muli arg32 c256_i32
  v41
def k0_mult2 (k0_t1 : Fin k0_t1_loop.trips) : BitVec 32 :=
  let c0_i32 : BitVec 32 := 0#32
  let c1_i32 : BitVec 32 := 1#32
  let arg32 : BitVec 32 := Scf.iv c0_i32 c1_i32 k0_t1
  let c256_i32_31 : BitVec 32 := 256#32
  let v43 : BitVec 32 := Scalar.muli arg32 c256_i32_31
  let c8_i32_32 : BitVec 32 := 8#32
  let v44 : BitVec 32 := Scalar.addi v43 c8_i32_32
  v44
def k0_off1 (k0_t1 : Fin k0_t1_loop.trips) : Fin 2 → Nat :=
  let c0_i32 : BitVec 32 := 0#32
  let c1_i32 : BitVec 32 := 1#32
  let arg32 : BitVec 32 := Scf.iv c0_i32 c1_i32 k0_t1
  let c256_i32 : BitVec 32 := 256#32
  let v41 : BitVec 32 := Scalar.muli arg32 c256_i32
  let v42 : BitVec 32 := v41
  let v46 : Index := Scalar.indexCast v42
  let c0_33 : Index := 0#32
  ![v46.toNat, 0]
def k0_off2 (k0_t1 : Fin k0_t1_loop.trips) : Fin 2 → Nat :=
  let c0_i32 : BitVec 32 := 0#32
  let c1_i32 : BitVec 32 := 1#32
  let arg32 : BitVec 32 := Scf.iv c0_i32 c1_i32 k0_t1
  let c256_i32_31 : BitVec 32 := 256#32
  let v43 : BitVec 32 := Scalar.muli arg32 c256_i32_31
  let c8_i32_32 : BitVec 32 := 8#32
  let v44 : BitVec 32 := Scalar.addi v43 c8_i32_32
  let v45 : BitVec 32 := v44
  let v77 : Index := Scalar.indexCast v45
  let c0_45 : Index := 0#32
  ![v77.toNat, 0]
def k0_off3 (k0_t1 : Fin k0_t1_loop.trips) : Fin 2 → Nat :=
  let c0_i32 : BitVec 32 := 0#32
  let c1_i32 : BitVec 32 := 1#32
  let arg32 : BitVec 32 := Scf.iv c0_i32 c1_i32 k0_t1
  let c256_i32 : BitVec 32 := 256#32
  let v41 : BitVec 32 := Scalar.muli arg32 c256_i32
  let v42 : BitVec 32 := v41
  let v84 : Index := Scalar.indexCast v42
  let c0_48 : Index := 0#32
  ![v84.toNat, 0]
def k0_off4 (k0_t1 : Fin k0_t1_loop.trips) : Fin 2 → Nat :=
  let c0_i32 : BitVec 32 := 0#32
  let c1_i32 : BitVec 32 := 1#32
  let arg32 : BitVec 32 := Scf.iv c0_i32 c1_i32 k0_t1
  let c256_i32_31 : BitVec 32 := 256#32
  let v43 : BitVec 32 := Scalar.muli arg32 c256_i32_31
  let c8_i32_32 : BitVec 32 := 8#32
  let v44 : BitVec 32 := Scalar.addi v43 c8_i32_32
  let v45 : BitVec 32 := v44
  let v98 : Index := Scalar.indexCast v45
  let c0_54 : Index := 0#32
  ![v98.toNat, 0]
def k0_off5 (k0_t1 : Fin k0_t1_loop.trips) : Fin 2 → Nat :=
  let c0_i32 : BitVec 32 := 0#32
  let c1_i32 : BitVec 32 := 1#32
  let arg32 : BitVec 32 := Scf.iv c0_i32 c1_i32 k0_t1
  let c256_i32 : BitVec 32 := 256#32
  let v41 : BitVec 32 := Scalar.muli arg32 c256_i32
  let v42 : BitVec 32 := v41
  let v117 : Index := Scalar.indexCast v42
  let c0_61 : Index := 0#32
  ![v117.toNat, 0]
@[reducible] def k0_t2_loop : Scf.Loop 32 :=
  let c0_i32_19 : BitVec 32 := 0#32
  let c8_i32_20 : BitVec 32 := 8#32
  let v32 : BitVec 32 := Scalar.addi c0_i32_19 c8_i32_20
  let c1_i32_21 : BitVec 32 := 1#32
  ⟨c0_i32_19, v32, c1_i32_21⟩
def k0_mult3 (k0_t2 : Fin k0_t2_loop.trips) : BitVec 32 :=
  let c0_i32_19 : BitVec 32 := 0#32
  let c1_i32_21 : BitVec 32 := 1#32
  let arg32 : BitVec 32 := Scf.iv c0_i32_19 c1_i32_21 k0_t2
  let c128_i32 : BitVec 32 := 128#32
  let v41 : BitVec 32 := Scalar.muli arg32 c128_i32
  v41
def k0_off6 (k0_t2 : Fin k0_t2_loop.trips) : Fin 2 → Nat :=
  let c0_i32_19 : BitVec 32 := 0#32
  let c1_i32_21 : BitVec 32 := 1#32
  let arg32 : BitVec 32 := Scf.iv c0_i32_19 c1_i32_21 k0_t2
  let c128_i32 : BitVec 32 := 128#32
  let v41 : BitVec 32 := Scalar.muli arg32 c128_i32
  let v42 : BitVec 32 := v41
  let v48 : Index := Scalar.indexCast v42
  let c0_35 : Index := 0#32
  ![v48.toNat, 0]
def k0_off7 (k0_t2 : Fin k0_t2_loop.trips) : Fin 2 → Nat :=
  let c0_i32_19 : BitVec 32 := 0#32
  let c1_i32_21 : BitVec 32 := 1#32
  let arg32 : BitVec 32 := Scf.iv c0_i32_19 c1_i32_21 k0_t2
  let c128_i32 : BitVec 32 := 128#32
  let v41 : BitVec 32 := Scalar.muli arg32 c128_i32
  let v42 : BitVec 32 := v41
  let v93 : Index := Scalar.indexCast v42
  let c0_49 : Index := 0#32
  ![v93.toNat, 0]
def k0_off8 (k0_t2 : Fin k0_t2_loop.trips) : Fin 2 → Nat :=
  let c0_i32_19 : BitVec 32 := 0#32
  let c1_i32_21 : BitVec 32 := 1#32
  let arg32 : BitVec 32 := Scf.iv c0_i32_19 c1_i32_21 k0_t2
  let c128_i32 : BitVec 32 := 128#32
  let v41 : BitVec 32 := Scalar.muli arg32 c128_i32
  let v42 : BitVec 32 := v41
  let v103 : Index := Scalar.indexCast v42
  let c0_51 : Index := 0#32
  ![v103.toNat, 0]
def k0_off9 (k0_t2 : Fin k0_t2_loop.trips) : Fin 2 → Nat :=
  let c0_i32_19 : BitVec 32 := 0#32
  let c1_i32_21 : BitVec 32 := 1#32
  let arg32 : BitVec 32 := Scf.iv c0_i32_19 c1_i32_21 k0_t2
  let c128_i32 : BitVec 32 := 128#32
  let v41 : BitVec 32 := Scalar.muli arg32 c128_i32
  let v42 : BitVec 32 := v41
  let v141 : Index := Scalar.indexCast v42
  let c0_63 : Index := 0#32
  ![v141.toNat, 0]
def k0_off10 (k0_t2 : Fin k0_t2_loop.trips) : Fin 2 → Nat :=
  let c0_i32_19 : BitVec 32 := 0#32
  let c1_i32_21 : BitVec 32 := 1#32
  let arg32 : BitVec 32 := Scf.iv c0_i32_19 c1_i32_21 k0_t2
  let c128_i32 : BitVec 32 := 128#32
  let v41 : BitVec 32 := Scalar.muli arg32 c128_i32
  let v42 : BitVec 32 := v41
  let v145 : Index := Scalar.indexCast v42
  let c0_64 : Index := 0#32
  ![v145.toNat, 0]
def k0_off11 (k0_t2 : Fin k0_t2_loop.trips) : Fin 3 → Nat :=
  let c0_i32_19 : BitVec 32 := 0#32
  let c1_i32_21 : BitVec 32 := 1#32
  let arg32 : BitVec 32 := Scf.iv c0_i32_19 c1_i32_21 k0_t2
  let v232 : Index := Scalar.indexCast arg32
  let c0_88 : Index := 0#32
  let c0_89 : Index := 0#32
  ![v232.toNat, 0, 0]
def k0_cond2 (k0_t2 : Fin k0_t2_loop.trips) : BitVec 1 :=
  let c0_i32_19 : BitVec 32 := 0#32
  let c1_i32_21 : BitVec 32 := 1#32
  let arg32 : BitVec 32 := Scf.iv c0_i32_19 c1_i32_21 k0_t2
  let c2_i32 : BitVec 32 := 2#32
  let v43 : BitVec 32 := Scalar.remsi arg32 c2_i32
  let c1_i32_32 : BitVec 32 := 1#32
  let v45 : BitVec 1 := Scalar.cmpi .eq v43 c1_i32_32
  let v251 : BitVec 32 := Scalar.extui v45
  let c0_i32_97 : BitVec 32 := 0#32
  let v252 : BitVec 1 := Scalar.cmpi .ne v251 c0_i32_97
  v252

def k0_off12 (k0_t2 : Fin k0_t2_loop.trips) : Fin 3 → Nat :=
  let c0_i32_19 : BitVec 32 := 0#32
  let c1_i32_21 : BitVec 32 := 1#32
  let arg32 : BitVec 32 := Scf.iv c0_i32_19 c1_i32_21 k0_t2
  let c2_i32_98 : BitVec 32 := 2#32
  let v254 : BitVec 32 := Scalar.divsi arg32 c2_i32_98
  let v255 : Index := Scalar.indexCast v254
  let c0_99 : Index := 0#32
  let c0_100 : Index := 0#32
  ![v255.toNat, 0, 0]
@[reducible] def k0_t3_loop : Scf.Loop 32 :=
  let c0_i32_23 : BitVec 32 := 0#32
  let c8_i32_24 : BitVec 32 := 8#32
  let v39 : BitVec 32 := Scalar.addi c0_i32_23 c8_i32_24
  let c1_i32_25 : BitVec 32 := 1#32
  ⟨c0_i32_23, v39, c1_i32_25⟩
def k0_mult4 (k0_t3 : Fin k0_t3_loop.trips) : BitVec 32 :=
  let c7_i32 : BitVec 32 := 7#32
  let c0_i32_23 : BitVec 32 := 0#32
  let c1_i32_25 : BitVec 32 := 1#32
  let arg32 : BitVec 32 := Scf.iv c0_i32_23 c1_i32_25 k0_t3
  let v41 : BitVec 32 := Scalar.subi c7_i32 arg32
  let c128_i32 : BitVec 32 := 128#32
  let v42 : BitVec 32 := Scalar.muli v41 c128_i32
  v42
def k0_off13 (k0_t3 : Fin k0_t3_loop.trips) : Fin 2 → Nat :=
  let c7_i32 : BitVec 32 := 7#32
  let c0_i32_23 : BitVec 32 := 0#32
  let c1_i32_25 : BitVec 32 := 1#32
  let arg32 : BitVec 32 := Scf.iv c0_i32_23 c1_i32_25 k0_t3
  let v41 : BitVec 32 := Scalar.subi c7_i32 arg32
  let c128_i32 : BitVec 32 := 128#32
  let v42 : BitVec 32 := Scalar.muli v41 c128_i32
  let v43 : BitVec 32 := v42
  let v49 : Index := Scalar.indexCast v43
  let c0_34 : Index := 0#32
  ![v49.toNat, 0]
def k0_off14 (k0_t3 : Fin k0_t3_loop.trips) : Fin 2 → Nat :=
  let c7_i32 : BitVec 32 := 7#32
  let c0_i32_23 : BitVec 32 := 0#32
  let c1_i32_25 : BitVec 32 := 1#32
  let arg32 : BitVec 32 := Scf.iv c0_i32_23 c1_i32_25 k0_t3
  let v41 : BitVec 32 := Scalar.subi c7_i32 arg32
  let c128_i32 : BitVec 32 := 128#32
  let v42 : BitVec 32 := Scalar.muli v41 c128_i32
  let v43 : BitVec 32 := v42
  let v54 : Index := Scalar.indexCast v43
  let c0_36 : Index := 0#32
  ![v54.toNat, 0]
def k0_off15 (k0_t3 : Fin k0_t3_loop.trips) : Fin 3 → Nat :=
  let c7_i32 : BitVec 32 := 7#32
  let c0_i32_23 : BitVec 32 := 0#32
  let c1_i32_25 : BitVec 32 := 1#32
  let arg32 : BitVec 32 := Scf.iv c0_i32_23 c1_i32_25 k0_t3
  let v41 : BitVec 32 := Scalar.subi c7_i32 arg32
  let v58 : Index := Scalar.indexCast v41
  let c0_38 : Index := 0#32
  let c0_39 : Index := 0#32
  ![v58.toNat, 0, 0]
def k0_off16 (k0_t3 : Fin k0_t3_loop.trips) : Fin 2 → Nat :=
  let c7_i32 : BitVec 32 := 7#32
  let c0_i32_23 : BitVec 32 := 0#32
  let c1_i32_25 : BitVec 32 := 1#32
  let arg32 : BitVec 32 := Scf.iv c0_i32_23 c1_i32_25 k0_t3
  let v41 : BitVec 32 := Scalar.subi c7_i32 arg32
  let c128_i32 : BitVec 32 := 128#32
  let v42 : BitVec 32 := Scalar.muli v41 c128_i32
  let v43 : BitVec 32 := v42
  let v387 : Index := Scalar.indexCast v43
  let c512 : Index := 512#32
  ![v387.toNat, 512]
def k0_cond4 (k0_t3 : Fin k0_t3_loop.trips) : BitVec 1 :=
  let c7_i32 : BitVec 32 := 7#32
  let c0_i32_23 : BitVec 32 := 0#32
  let c1_i32_25 : BitVec 32 := 1#32
  let arg32 : BitVec 32 := Scf.iv c0_i32_23 c1_i32_25 k0_t3
  let v41 : BitVec 32 := Scalar.subi c7_i32 arg32
  let c2_i32 : BitVec 32 := 2#32
  let v44 : BitVec 32 := Scalar.remsi v41 c2_i32
  let c0_i32_31 : BitVec 32 := 0#32
  let v45 : BitVec 1 := Scalar.cmpi .eq v44 c0_i32_31
  let v422 : BitVec 32 := Scalar.extui v45
  let c0_i32_125 : BitVec 32 := 0#32
  let v423 : BitVec 1 := Scalar.cmpi .ne v422 c0_i32_125
  v423

def k0_off17 (k0_t3 : Fin k0_t3_loop.trips) : Fin 3 → Nat :=
  let c7_i32 : BitVec 32 := 7#32
  let c0_i32_23 : BitVec 32 := 0#32
  let c1_i32_25 : BitVec 32 := 1#32
  let arg32 : BitVec 32 := Scf.iv c0_i32_23 c1_i32_25 k0_t3
  let v41 : BitVec 32 := Scalar.subi c7_i32 arg32
  let c2_i32_126 : BitVec 32 := 2#32
  let v425 : BitVec 32 := Scalar.divsi v41 c2_i32_126
  let v426 : Index := Scalar.indexCast v425
  let c0_127 : Index := 0#32
  let c0_128 : Index := 0#32
  ![v426.toNat, 0, 0]
@[reducible] def k0_t4_loop : Scf.Loop 32 :=
  let c0_i32_27 : BitVec 32 := 0#32
  let c4_i32_28 : BitVec 32 := 4#32
  let v40 : BitVec 32 := Scalar.addi c0_i32_27 c4_i32_28
  let c1_i32_29 : BitVec 32 := 1#32
  ⟨c0_i32_27, v40, c1_i32_29⟩
def k0_mult5 (k0_t4 : Fin k0_t4_loop.trips) : BitVec 32 :=
  let c0_i32_27 : BitVec 32 := 0#32
  let c1_i32_29 : BitVec 32 := 1#32
  let arg32 : BitVec 32 := Scf.iv c0_i32_27 c1_i32_29 k0_t4
  let c256_i32 : BitVec 32 := 256#32
  let v41 : BitVec 32 := Scalar.muli arg32 c256_i32
  v41
def k0_off18 (k0_t4 : Fin k0_t4_loop.trips) : Fin 2 → Nat :=
  let c0_i32_27 : BitVec 32 := 0#32
  let c1_i32_29 : BitVec 32 := 1#32
  let arg32 : BitVec 32 := Scf.iv c0_i32_27 c1_i32_29 k0_t4
  let c256_i32 : BitVec 32 := 256#32
  let v41 : BitVec 32 := Scalar.muli arg32 c256_i32
  let v42 : BitVec 32 := v41
  let v43 : Index := Scalar.indexCast v42
  let c0_31 : Index := 0#32
  ![v43.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S32x256x1024 : Shape := ⟨3, ![32, 256, 1024]⟩
abbrev S1x6x1024 : Shape := ⟨3, ![1, 6, 1024]⟩
abbrev S1x1024 : Shape := ⟨2, ![1, 1024]⟩
abbrev S1x1024x3088 : Shape := ⟨3, ![1, 1024, 3088]⟩
abbrev S1x3x512 : Shape := ⟨3, ![1, 3, 512]⟩
abbrev S1x3x1024 : Shape := ⟨3, ![1, 3, 1024]⟩
abbrev S1x2x8 : Shape := ⟨3, ![1, 2, 8]⟩
abbrev S1x8 : Shape := ⟨2, ![1, 8]⟩
abbrev S1x512 : Shape := ⟨2, ![1, 512]⟩
abbrev S1x1024x1024 : Shape := ⟨3, ![1, 1024, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S1024x3088 : Shape := ⟨2, ![1024, 3088]⟩
abbrev S32x256x3088 : Shape := ⟨3, ![32, 256, 3088]⟩
abbrev S32x256x512 : Shape := ⟨3, ![32, 256, 512]⟩
abbrev S32x256x8 : Shape := ⟨3, ![32, 256, 8]⟩
abbrev S3x512 : Shape := ⟨2, ![3, 512]⟩
abbrev S32x258x512 : Shape := ⟨3, ![32, 258, 512]⟩
abbrev S512 : Shape := ⟨1, ![512]⟩
abbrev S1x1x512 : Shape := ⟨3, ![1, 1, 512]⟩
abbrev S3x1024 : Shape := ⟨2, ![3, 1024]⟩
abbrev S32x258x1024 : Shape := ⟨3, ![32, 258, 1024]⟩
abbrev S32x256x256 : Shape := ⟨3, ![32, 256, 256]⟩
abbrev S32x256x8x64 : Shape := ⟨4, ![32, 256, 8, 64]⟩
abbrev S32x256x2x128 : Shape := ⟨4, ![32, 256, 2, 128]⟩
abbrev S1x1x8 : Shape := ⟨3, ![1, 1, 8]⟩
abbrev S8 : Shape := ⟨1, ![8]⟩
abbrev S2x8 : Shape := ⟨2, ![2, 8]⟩
abbrev S32x256x8x1 : Shape := ⟨4, ![32, 256, 8, 1]⟩
abbrev S32x2x128x8x64 : Shape := ⟨5, ![32, 2, 128, 8, 64]⟩
abbrev S32x256x2x4x128 : Shape := ⟨5, ![32, 256, 2, 4, 128]⟩
abbrev S32x256x8x128 : Shape := ⟨4, ![32, 256, 8, 128]⟩
abbrev S32x2x128x8x128 : Shape := ⟨5, ![32, 2, 128, 8, 128]⟩
abbrev S32x2x128x8 : Shape := ⟨4, ![32, 2, 128, 8]⟩
abbrev S32x8x2x128 : Shape := ⟨4, ![32, 8, 2, 128]⟩
abbrev S128x128 : Shape := ⟨2, ![128, 128]⟩
abbrev S32x8x2x128x1 : Shape := ⟨5, ![32, 8, 2, 128, 1]⟩
abbrev S32x8x2x1x128 : Shape := ⟨5, ![32, 8, 2, 1, 128]⟩
abbrev S32x8x2x128x128 : Shape := ⟨5, ![32, 8, 2, 128, 128]⟩
abbrev S32x2x8x64x128 : Shape := ⟨5, ![32, 2, 8, 64, 128]⟩
abbrev S32x8x2x1 : Shape := ⟨4, ![32, 8, 2, 1]⟩
abbrev S32x2x128x8x1 : Shape := ⟨5, ![32, 2, 128, 8, 1]⟩
abbrev S32x8x2 : Shape := ⟨3, ![32, 8, 2]⟩
abbrev S32x8x64x128 : Shape := ⟨4, ![32, 8, 64, 128]⟩
abbrev S32x8x1 : Shape := ⟨3, ![32, 8, 1]⟩
abbrev S32x8 : Shape := ⟨2, ![32, 8]⟩
abbrev S32x8x1x1 : Shape := ⟨4, ![32, 8, 1, 1]⟩
abbrev S32x1x8x64x128 : Shape := ⟨5, ![32, 1, 8, 64, 128]⟩
abbrev S8x1 : Shape := ⟨2, ![8, 1]⟩
abbrev S1x1x8x1 : Shape := ⟨4, ![1, 1, 8, 1]⟩
abbrev S1024x1024 : Shape := ⟨2, ![1024, 1024]⟩
abbrev S8192x1024 : Shape := ⟨2, ![8192, 1024]⟩
abbrev S32x512x128 : Shape := ⟨3, ![32, 512, 128]⟩

abbrev nBuf : Space → Nat
  | .hbm => 383
  | .vmem => 0
  | .smem => 0
  | _ => 0

abbrev hbmTy0_0 (i : Nat) : BufTy := match i % 128 with
  | 0 => ⟨S32x256x1024, .f32⟩
  | 1 => ⟨S1x6x1024, .f32⟩
  | 2 => ⟨S1x1024, .f32⟩
  | 3 => ⟨S1x1024x3088, .f32⟩
  | 4 => ⟨S1x3x512, .f32⟩
  | 5 => ⟨S1x3x1024, .f32⟩
  | 6 => ⟨S1x1024, .f32⟩
  | 7 => ⟨S1x2x8, .f32⟩
  | 8 => ⟨S1x2x8, .f32⟩
  | 9 => ⟨S1x8, .f32⟩
  | 10 => ⟨S1x512, .f32⟩
  | 11 => ⟨S1x1024x1024, .f32⟩
  | 12 => ⟨S1024, .f32⟩
  | 13 => ⟨S32x256x1024, .f32⟩
  | 14 => ⟨S_, .f32⟩
  | 15 => ⟨S32x256, .f32⟩
  | 16 => ⟨S32x256x1, .f32⟩
  | 17 => ⟨S_, .f32⟩
  | 18 => ⟨S32x256x1, .f32⟩
  | 19 => ⟨S32x256x1, .f32⟩
  | 20 => ⟨S_, .f32⟩
  | 21 => ⟨S32x256x1, .f32⟩
  | 22 => ⟨S32x256x1, .f32⟩
  | 23 => ⟨S32x256x1, .f32⟩
  | 24 => ⟨S32x256x1024, .f32⟩
  | 25 => ⟨S32x256x1024, .f32⟩
  | 26 => ⟨S1x1x1024, .f32⟩
  | 27 => ⟨S32x256x1024, .f32⟩
  | 28 => ⟨S32x256x1024, .f32⟩
  | 29 => ⟨S1x1x1024, .f32⟩
  | 30 => ⟨S_, .f32⟩
  | 31 => ⟨S1x1x1024, .f32⟩
  | 32 => ⟨S1x1x1024, .f32⟩
  | 33 => ⟨S32x256x1024, .f32⟩
  | 34 => ⟨S32x256x1024, .f32⟩
  | 35 => ⟨S1x1x1024, .f32⟩
  | 36 => ⟨S32x256x1024, .f32⟩
  | 37 => ⟨S32x256x1024, .f32⟩
  | 38 => ⟨S1024x3088, .f32⟩
  | 39 => ⟨S32x256x3088, .f32⟩
  | 40 => ⟨S32x256x512, .f32⟩
  | 41 => ⟨S32x256x512, .f32⟩
  | 42 => ⟨S32x256x512, .f32⟩
  | 43 => ⟨S32x256x512, .f32⟩
  | 44 => ⟨S32x256x1024, .f32⟩
  | 45 => ⟨S32x256x8, .f32⟩
  | 46 => ⟨S32x256x8, .f32⟩
  | 47 => ⟨S32x256x512, .f32⟩
  | 48 => ⟨S3x512, .f32⟩
  | 49 => ⟨S_, .i32⟩
  | 50 => ⟨S_, .f32⟩
  | 51 => ⟨S32x258x512, .f32⟩
  | 52 => ⟨S32x256x512, .f32⟩
  | 53 => ⟨S1x512, .f32⟩
  | 54 => ⟨S512, .f32⟩
  | 55 => ⟨S1x1x512, .f32⟩
  | 56 => ⟨S32x256x512, .f32⟩
  | 57 => ⟨S32x256x512, .f32⟩
  | 58 => ⟨S32x256x512, .f32⟩
  | 59 => ⟨S1x512, .f32⟩
  | 60 => ⟨S512, .f32⟩
  | 61 => ⟨S1x1x512, .f32⟩
  | 62 => ⟨S32x256x512, .f32⟩
  | 63 => ⟨S32x256x512, .f32⟩
  | 64 => ⟨S32x256x512, .f32⟩
  | 65 => ⟨S32x256x512, .f32⟩
  | 66 => ⟨S1x512, .f32⟩
  | 67 => ⟨S512, .f32⟩
  | 68 => ⟨S1x1x512, .f32⟩
  | 69 => ⟨S32x256x512, .f32⟩
  | 70 => ⟨S32x256x512, .f32⟩
  | 71 => ⟨S32x256x512, .f32⟩
  | 72 => ⟨S32x256x512, .f32⟩
  | 73 => ⟨S3x1024, .f32⟩
  | 74 => ⟨S1024, .f32⟩
  | 75 => ⟨S_, .i32⟩
  | 76 => ⟨S_, .f32⟩
  | 77 => ⟨S32x258x1024, .f32⟩
  | 78 => ⟨S32x256x1024, .f32⟩
  | 79 => ⟨S1x1024, .f32⟩
  | 80 => ⟨S1024, .f32⟩
  | 81 => ⟨S1x1x1024, .f32⟩
  | 82 => ⟨S32x256x1024, .f32⟩
  | 83 => ⟨S32x256x1024, .f32⟩
  | 84 => ⟨S32x256x1024, .f32⟩
  | 85 => ⟨S1x1024, .f32⟩
  | 86 => ⟨S1024, .f32⟩
  | 87 => ⟨S1x1x1024, .f32⟩
  | 88 => ⟨S32x256x1024, .f32⟩
  | 89 => ⟨S32x256x1024, .f32⟩
  | 90 => ⟨S32x256x1024, .f32⟩
  | 91 => ⟨S32x256x1024, .f32⟩
  | 92 => ⟨S1x1024, .f32⟩
  | 93 => ⟨S1024, .f32⟩
  | 94 => ⟨S1x1x1024, .f32⟩
  | 95 => ⟨S32x256x1024, .f32⟩
  | 96 => ⟨S32x256x1024, .f32⟩
  | 97 => ⟨S32x256x1024, .f32⟩
  | 98 => ⟨S1x1x1024, .f32⟩
  | 99 => ⟨S32x256x1024, .f32⟩
  | 100 => ⟨S32x256x1024, .f32⟩
  | 101 => ⟨S32x256x1024, .f32⟩
  | 102 => ⟨S32x256x1024, .f32⟩
  | 103 => ⟨S_, .f32⟩
  | 104 => ⟨S32x256x1024, .f32⟩
  | 105 => ⟨S32x256x1024, .f32⟩
  | 106 => ⟨S_, .f32⟩
  | 107 => ⟨S32x256x1024, .f32⟩
  | 108 => ⟨S32x256x1024, .f32⟩
  | 109 => ⟨S32x256x1024, .f32⟩
  | 110 => ⟨S32x256x512, .f32⟩
  | 111 => ⟨S32x256x256, .f32⟩
  | 112 => ⟨S32x256x256, .f32⟩
  | 113 => ⟨S32x256x8x64, .f32⟩
  | 114 => ⟨S32x256x2x128, .f32⟩
  | 115 => ⟨S32x256x2x128, .f32⟩
  | 116 => ⟨S1x1x8, .f32⟩
  | 117 => ⟨S8, .f32⟩
  | 118 => ⟨S1x1x8, .f32⟩
  | 119 => ⟨S32x256x8, .f32⟩
  | 120 => ⟨S32x256x8, .f32⟩
  | 121 => ⟨S_, .f32⟩
  | 122 => ⟨S32x256x8, .f32⟩
  | 123 => ⟨S32x256x8, .f32⟩
  | 124 => ⟨S32x256x8, .f32⟩
  | 125 => ⟨S32x256x8, .f32⟩
  | 126 => ⟨S32x256x8, .i1⟩
  | 127 => ⟨S32x256x8, .f32⟩
  | _ => ⟨S32x256x1024, .f32⟩

abbrev hbmTy0_1 (i : Nat) : BufTy := match i % 128 with
  | 0 => ⟨S32x256x8, .f32⟩
  | 1 => ⟨S32x256x8, .f32⟩
  | 2 => ⟨S32x256x8, .f32⟩
  | 3 => ⟨S32x256x8, .f32⟩
  | 4 => ⟨S32x256x8, .f32⟩
  | 5 => ⟨S32x256x8, .f32⟩
  | 6 => ⟨S32x256x8, .f32⟩
  | 7 => ⟨S1x1x8, .f32⟩
  | 8 => ⟨S8, .f32⟩
  | 9 => ⟨S1x1x8, .f32⟩
  | 10 => ⟨S32x256x8, .f32⟩
  | 11 => ⟨S32x256x8, .f32⟩
  | 12 => ⟨S_, .f32⟩
  | 13 => ⟨S32x256x8, .f32⟩
  | 14 => ⟨S32x256x8, .f32⟩
  | 15 => ⟨S32x256x8, .f32⟩
  | 16 => ⟨S32x256x8, .f32⟩
  | 17 => ⟨S32x256x8, .i1⟩
  | 18 => ⟨S32x256x8, .f32⟩
  | 19 => ⟨S32x256x8, .f32⟩
  | 20 => ⟨S32x256x8, .f32⟩
  | 21 => ⟨S32x256x8, .f32⟩
  | 22 => ⟨S32x256x8, .f32⟩
  | 23 => ⟨S32x256x8, .f32⟩
  | 24 => ⟨S32x256x8, .f32⟩
  | 25 => ⟨S32x256x8, .f32⟩
  | 26 => ⟨S2x8, .f32⟩
  | 27 => ⟨S2x8, .f32⟩
  | 28 => ⟨S2x8, .f32⟩
  | 29 => ⟨S1x8, .f32⟩
  | 30 => ⟨S8, .f32⟩
  | 31 => ⟨S32x256x8x1, .f32⟩
  | 32 => ⟨S32x256x8x64, .f32⟩
  | 33 => ⟨S32x256x8x64, .f32⟩
  | 34 => ⟨S32x2x128x8x64, .f32⟩
  | 35 => ⟨S32x256x2x4x128, .f32⟩
  | 36 => ⟨S32x256x8x128, .f32⟩
  | 37 => ⟨S32x2x128x8x128, .f32⟩
  | 38 => ⟨S32x256x2x4x128, .f32⟩
  | 39 => ⟨S32x256x8x128, .f32⟩
  | 40 => ⟨S32x2x128x8x128, .f32⟩
  | 41 => ⟨S1x1x8, .f32⟩
  | 42 => ⟨S32x256x8, .f32⟩
  | 43 => ⟨S32x256x8, .f32⟩
  | 44 => ⟨S32x2x128x8, .f32⟩
  | 45 => ⟨S32x8x2x128, .f32⟩
  | 46 => ⟨S_, .f32⟩
  | 47 => ⟨S_, .f32⟩
  | 48 => ⟨S32x8x2x128, .f32⟩
  | 49 => ⟨S_, .i1⟩
  | 50 => ⟨S128x128, .i1⟩
  | 51 => ⟨S128x128, .i32⟩
  | 52 => ⟨S_, .i32⟩
  | 53 => ⟨S128x128, .i32⟩
  | 54 => ⟨S128x128, .i32⟩
  | 55 => ⟨S128x128, .i32⟩
  | 56 => ⟨S128x128, .i1⟩
  | 57 => ⟨S_, .i1⟩
  | 58 => ⟨S128x128, .i1⟩
  | 59 => ⟨S128x128, .i1⟩
  | 60 => ⟨S32x8x2x128x1, .f32⟩
  | 61 => ⟨S32x8x2x1x128, .f32⟩
  | 62 => ⟨S32x8x2x128x128, .f32⟩
  | 63 => ⟨S32x8x2x128x128, .f32⟩
  | 64 => ⟨S32x8x2x128x128, .f32⟩
  | 65 => ⟨S_, .f32⟩
  | 66 => ⟨S_, .f32⟩
  | 67 => ⟨S32x8x2x128x128, .i1⟩
  | 68 => ⟨S32x8x2x128x128, .f32⟩
  | 69 => ⟨S32x8x2x128x128, .f32⟩
  | 70 => ⟨S32x8x2x128x128, .f32⟩
  | 71 => ⟨S32x8x2x128x128, .f32⟩
  | 72 => ⟨S32x8x2x128x128, .f32⟩
  | 73 => ⟨S32x2x8x64x128, .f32⟩
  | 74 => ⟨S32x2x128x8x64, .f32⟩
  | 75 => ⟨S32x8x2x1, .f32⟩
  | 76 => ⟨S32x8x2x128, .f32⟩
  | 77 => ⟨S32x8x2x128, .f32⟩
  | 78 => ⟨S32x8x2x128, .f32⟩
  | 79 => ⟨S32x2x128x8, .f32⟩
  | 80 => ⟨S32x2x128x8x1, .f32⟩
  | 81 => ⟨S32x2x128x8x64, .f32⟩
  | 82 => ⟨S32x2x128x8x64, .f32⟩
  | 83 => ⟨S32x2x8x64x128, .f32⟩
  | 84 => ⟨S32x8x2x1, .f32⟩
  | 85 => ⟨S32x8x2, .f32⟩
  | 86 => ⟨S32x8x2, .f32⟩
  | 87 => ⟨S_, .f32⟩
  | 88 => ⟨S32x8x64x128, .f32⟩
  | 89 => ⟨S32x8x1, .f32⟩
  | 90 => ⟨S32x8, .f32⟩
  | 91 => ⟨S32x8x1x1, .f32⟩
  | 92 => ⟨S32x8x64x128, .f32⟩
  | 93 => ⟨S32x8x64x128, .f32⟩
  | 94 => ⟨S32x1x8x64x128, .f32⟩
  | 95 => ⟨S32x8x64x128, .f32⟩
  | 96 => ⟨S32x8x64x128, .f32⟩
  | 97 => ⟨S32x8x1, .f32⟩
  | 98 => ⟨S32x8, .f32⟩
  | 99 => ⟨S32x8x1x1, .f32⟩
  | 100 => ⟨S32x8x64x128, .f32⟩
  | 101 => ⟨S32x8x64x128, .f32⟩
  | 102 => ⟨S32x1x8x64x128, .f32⟩
  | 103 => ⟨S32x8x64x128, .f32⟩
  | 104 => ⟨S32x8x64x128, .f32⟩
  | 105 => ⟨S32x1x8x64x128, .f32⟩
  | 106 => ⟨S32x1x8x64x128, .f32⟩
  | 107 => ⟨S32x2x8x64x128, .f32⟩
  | 108 => ⟨S32x2x8x64x128, .f32⟩
  | 109 => ⟨S32x2x128x8x64, .f32⟩
  | 110 => ⟨S32x8x2x128, .f32⟩
  | 111 => ⟨S32x2x128x8, .f32⟩
  | 112 => ⟨S32x2x128x8x1, .f32⟩
  | 113 => ⟨S32x2x128x8x64, .f32⟩
  | 114 => ⟨S32x2x128x8x64, .f32⟩
  | 115 => ⟨S32x2x128x8x64, .f32⟩
  | 116 => ⟨S32x256x8x64, .f32⟩
  | 117 => ⟨S32x256x8x64, .f32⟩
  | 118 => ⟨S32x256x8, .f32⟩
  | 119 => ⟨S1x8, .f32⟩
  | 120 => ⟨S8, .f32⟩
  | 121 => ⟨S32x256x2x128, .f32⟩
  | 122 => ⟨S32x256x2x128, .f32⟩
  | 123 => ⟨S32x256x8x1, .f32⟩
  | 124 => ⟨S32x256x8x64, .f32⟩
  | 125 => ⟨S32x256x8x64, .f32⟩
  | 126 => ⟨S32x2x128x8x64, .f32⟩
  | 127 => ⟨S32x256x2x4x128, .f32⟩
  | _ => ⟨S32x256x1024, .f32⟩

abbrev hbmTy0_2 (i : Nat) : BufTy := match i % 128 with
  | 0 => ⟨S32x256x8x128, .f32⟩
  | 1 => ⟨S32x2x128x8x128, .f32⟩
  | 2 => ⟨S32x256x2x4x128, .f32⟩
  | 3 => ⟨S32x256x8x128, .f32⟩
  | 4 => ⟨S32x2x128x8x128, .f32⟩
  | 5 => ⟨S1x1x8, .f32⟩
  | 6 => ⟨S32x256x8, .f32⟩
  | 7 => ⟨S32x256x8, .f32⟩
  | 8 => ⟨S32x2x128x8, .f32⟩
  | 9 => ⟨S32x8x2x128, .f32⟩
  | 10 => ⟨S_, .f32⟩
  | 11 => ⟨S_, .f32⟩
  | 12 => ⟨S32x8x2x128, .f32⟩
  | 13 => ⟨S_, .i1⟩
  | 14 => ⟨S128x128, .i1⟩
  | 15 => ⟨S128x128, .i32⟩
  | 16 => ⟨S_, .i32⟩
  | 17 => ⟨S128x128, .i32⟩
  | 18 => ⟨S128x128, .i32⟩
  | 19 => ⟨S128x128, .i32⟩
  | 20 => ⟨S128x128, .i1⟩
  | 21 => ⟨S_, .i1⟩
  | 22 => ⟨S128x128, .i1⟩
  | 23 => ⟨S128x128, .i1⟩
  | 24 => ⟨S32x8x2x128x1, .f32⟩
  | 25 => ⟨S32x8x2x1x128, .f32⟩
  | 26 => ⟨S32x8x2x128x128, .f32⟩
  | 27 => ⟨S32x8x2x128x128, .f32⟩
  | 28 => ⟨S32x8x2x128x128, .f32⟩
  | 29 => ⟨S_, .f32⟩
  | 30 => ⟨S_, .f32⟩
  | 31 => ⟨S32x8x2x128x128, .i1⟩
  | 32 => ⟨S32x8x2x128x128, .f32⟩
  | 33 => ⟨S32x8x2x128x128, .f32⟩
  | 34 => ⟨S32x8x2x128x128, .f32⟩
  | 35 => ⟨S32x8x2x128x128, .f32⟩
  | 36 => ⟨S32x8x2x128x128, .f32⟩
  | 37 => ⟨S32x2x8x64x128, .f32⟩
  | 38 => ⟨S32x2x128x8x64, .f32⟩
  | 39 => ⟨S32x8x2x1, .f32⟩
  | 40 => ⟨S32x8x2x128, .f32⟩
  | 41 => ⟨S32x8x2x128, .f32⟩
  | 42 => ⟨S32x8x2x128, .f32⟩
  | 43 => ⟨S32x2x128x8, .f32⟩
  | 44 => ⟨S32x2x128x8x1, .f32⟩
  | 45 => ⟨S32x2x128x8x64, .f32⟩
  | 46 => ⟨S32x2x128x8x64, .f32⟩
  | 47 => ⟨S32x2x8x64x128, .f32⟩
  | 48 => ⟨S32x8x2x1, .f32⟩
  | 49 => ⟨S32x8x2, .f32⟩
  | 50 => ⟨S32x8x2, .f32⟩
  | 51 => ⟨S_, .f32⟩
  | 52 => ⟨S32x8x64x128, .f32⟩
  | 53 => ⟨S32x8x1, .f32⟩
  | 54 => ⟨S32x8, .f32⟩
  | 55 => ⟨S32x8x1x1, .f32⟩
  | 56 => ⟨S32x8x64x128, .f32⟩
  | 57 => ⟨S32x8x64x128, .f32⟩
  | 58 => ⟨S32x1x8x64x128, .f32⟩
  | 59 => ⟨S32x8x64x128, .f32⟩
  | 60 => ⟨S32x8x64x128, .f32⟩
  | 61 => ⟨S32x8x1, .f32⟩
  | 62 => ⟨S32x8, .f32⟩
  | 63 => ⟨S32x8x1x1, .f32⟩
  | 64 => ⟨S32x8x64x128, .f32⟩
  | 65 => ⟨S32x8x64x128, .f32⟩
  | 66 => ⟨S32x1x8x64x128, .f32⟩
  | 67 => ⟨S32x8x64x128, .f32⟩
  | 68 => ⟨S32x8x64x128, .f32⟩
  | 69 => ⟨S32x1x8x64x128, .f32⟩
  | 70 => ⟨S32x1x8x64x128, .f32⟩
  | 71 => ⟨S32x2x8x64x128, .f32⟩
  | 72 => ⟨S32x2x8x64x128, .f32⟩
  | 73 => ⟨S32x2x128x8x64, .f32⟩
  | 74 => ⟨S32x8x2x128, .f32⟩
  | 75 => ⟨S32x2x128x8, .f32⟩
  | 76 => ⟨S32x2x128x8x1, .f32⟩
  | 77 => ⟨S32x2x128x8x64, .f32⟩
  | 78 => ⟨S32x2x128x8x64, .f32⟩
  | 79 => ⟨S32x2x128x8x64, .f32⟩
  | 80 => ⟨S32x256x8x64, .f32⟩
  | 81 => ⟨S32x256x8x64, .f32⟩
  | 82 => ⟨S32x256x8x64, .f32⟩
  | 83 => ⟨S8, .f32⟩
  | 84 => ⟨S8x1, .f32⟩
  | 85 => ⟨S1x1x8x1, .f32⟩
  | 86 => ⟨S32x256x8x64, .f32⟩
  | 87 => ⟨S32x256x8x64, .f32⟩
  | 88 => ⟨S32x256x8x64, .f32⟩
  | 89 => ⟨S32x256x512, .f32⟩
  | 90 => ⟨S32x256x512, .f32⟩
  | 91 => ⟨S32x256x512, .f32⟩
  | 92 => ⟨S_, .f32⟩
  | 93 => ⟨S32x256x512, .f32⟩
  | 94 => ⟨S32x256x512, .f32⟩
  | 95 => ⟨S_, .f32⟩
  | 96 => ⟨S32x256x512, .f32⟩
  | 97 => ⟨S32x256x512, .f32⟩
  | 98 => ⟨S32x256x512, .f32⟩
  | 99 => ⟨S32x256x512, .f32⟩
  | 100 => ⟨S512, .f32⟩
  | 101 => ⟨S32x256x512, .f32⟩
  | 102 => ⟨S_, .f32⟩
  | 103 => ⟨S32x256, .f32⟩
  | 104 => ⟨S32x256x1, .f32⟩
  | 105 => ⟨S_, .f32⟩
  | 106 => ⟨S32x256x1, .f32⟩
  | 107 => ⟨S32x256x1, .f32⟩
  | 108 => ⟨S_, .f32⟩
  | 109 => ⟨S32x256x1, .f32⟩
  | 110 => ⟨S32x256x1, .f32⟩
  | 111 => ⟨S32x256x1, .f32⟩
  | 112 => ⟨S32x256x512, .f32⟩
  | 113 => ⟨S32x256x512, .f32⟩
  | 114 => ⟨S1x1x512, .f32⟩
  | 115 => ⟨S32x256x512, .f32⟩
  | 116 => ⟨S32x256x512, .f32⟩
  | 117 => ⟨S1x1x1024, .f32⟩
  | 118 => ⟨S32x256x1024, .f32⟩
  | 119 => ⟨S1024x1024, .f32⟩
  | 120 => ⟨S32x256x1024, .f32⟩
  | 121 => ⟨S32x256x1024, .f32⟩
  | 122 => ⟨S32x256x1024, .f32⟩
  | 123 => ⟨S32x256x1024, .f32⟩
  | 124 => ⟨S8192x1024, .f32⟩
  | 125 => ⟨S32x512x128, .f32⟩
  | 126 => ⟨S32x512x128, .f32⟩
  | _ => ⟨S32x256x1024, .f32⟩

abbrev hbmTy (i : Nat) : BufTy := match i / 128 with
  | 0 => hbmTy0_0 i
  | 1 => hbmTy0_1 i
  | 2 => hbmTy0_2 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c : Ref sig .tc := ⟨.hbm, 49, rfl⟩
abbrev main_call0_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_3 : Ref sig .tc := ⟨.hbm, 75, rfl⟩
abbrev main_call1_v0 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_call2_v0 : Ref sig .tc := ⟨.hbm, 101, rfl⟩
abbrev main_call2_v1 : Ref sig .tc := ⟨.hbm, 102, rfl⟩
abbrev main_call2_cst : Ref sig .tc := ⟨.hbm, 103, rfl⟩
abbrev main_call2_v2 : Ref sig .tc := ⟨.hbm, 104, rfl⟩
abbrev main_call2_v3 : Ref sig .tc := ⟨.hbm, 105, rfl⟩
abbrev main_call2_cst_0 : Ref sig .tc := ⟨.hbm, 106, rfl⟩
abbrev main_call2_v4 : Ref sig .tc := ⟨.hbm, 107, rfl⟩
abbrev main_call2_v5 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_call3_cst : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_v6 : Ref sig .tc := ⟨.hbm, 128, rfl⟩
abbrev main_call3_v7 : Ref sig .tc := ⟨.hbm, 129, rfl⟩
abbrev main_call3_v8 : Ref sig .tc := ⟨.hbm, 130, rfl⟩
abbrev main_call3_v9 : Ref sig .tc := ⟨.hbm, 131, rfl⟩
abbrev main_call3_v10 : Ref sig .tc := ⟨.hbm, 132, rfl⟩
abbrev main_call3_v11 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_call4_cst : Ref sig .tc := ⟨.hbm, 140, rfl⟩
abbrev main_call4_v0 : Ref sig .tc := ⟨.hbm, 141, rfl⟩
abbrev main_call4_v1 : Ref sig .tc := ⟨.hbm, 142, rfl⟩
abbrev main_call4_v2 : Ref sig .tc := ⟨.hbm, 143, rfl⟩
abbrev main_call4_v3 : Ref sig .tc := ⟨.hbm, 144, rfl⟩
abbrev main_call4_v4 : Ref sig .tc := ⟨.hbm, 145, rfl⟩
abbrev main_call4_v5 : Ref sig .tc := ⟨.hbm, 146, rfl⟩
abbrev main_call4_v6 : Ref sig .tc := ⟨.hbm, 147, rfl⟩
abbrev main_call4_v7 : Ref sig .tc := ⟨.hbm, 148, rfl⟩
abbrev main_call4_v8 : Ref sig .tc := ⟨.hbm, 149, rfl⟩
abbrev main_call4_v9 : Ref sig .tc := ⟨.hbm, 150, rfl⟩
abbrev main_call4_v10 : Ref sig .tc := ⟨.hbm, 151, rfl⟩
abbrev main_call4_v11 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_call5_call0_cst : Ref sig .tc := ⟨.hbm, 174, rfl⟩
abbrev main_call5_call0_v0 : Ref sig .tc := ⟨.hbm, 175, rfl⟩
abbrev main_v120 : Ref sig .tc := ⟨.hbm, 176, rfl⟩
abbrev main_c_4 : Ref sig .tc := ⟨.hbm, 177, rfl⟩
abbrev main_v121 : Ref sig .tc := ⟨.hbm, 178, rfl⟩
abbrev main_call6_v0 : Ref sig .tc := ⟨.hbm, 179, rfl⟩
abbrev main_call6_c : Ref sig .tc := ⟨.hbm, 180, rfl⟩
abbrev main_call6_v1 : Ref sig .tc := ⟨.hbm, 181, rfl⟩
abbrev main_call6_v2 : Ref sig .tc := ⟨.hbm, 182, rfl⟩
abbrev main_call6_v3 : Ref sig .tc := ⟨.hbm, 183, rfl⟩
abbrev main_call6_v4 : Ref sig .tc := ⟨.hbm, 184, rfl⟩
abbrev main_call6_c_0 : Ref sig .tc := ⟨.hbm, 185, rfl⟩
abbrev main_call6_v5 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_cst_5 : Ref sig .tc := ⟨.hbm, 193, rfl⟩
abbrev main_call7_v0 : Ref sig .tc := ⟨.hbm, 194, rfl⟩
abbrev main_call7_v1 : Ref sig .tc := ⟨.hbm, 195, rfl⟩
abbrev main_call7_v2 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_cst_6 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_call8_call0_cst : Ref sig .tc := ⟨.hbm, 266, rfl⟩
abbrev main_call8_call0_v0 : Ref sig .tc := ⟨.hbm, 267, rfl⟩
abbrev main_v196 : Ref sig .tc := ⟨.hbm, 268, rfl⟩
abbrev main_c_7 : Ref sig .tc := ⟨.hbm, 269, rfl⟩
abbrev main_v197 : Ref sig .tc := ⟨.hbm, 270, rfl⟩
abbrev main_call9_v0 : Ref sig .tc := ⟨.hbm, 271, rfl⟩
abbrev main_call9_c : Ref sig .tc := ⟨.hbm, 272, rfl⟩
abbrev main_call9_v1 : Ref sig .tc := ⟨.hbm, 273, rfl⟩
abbrev main_call9_v2 : Ref sig .tc := ⟨.hbm, 274, rfl⟩
abbrev main_call9_v3 : Ref sig .tc := ⟨.hbm, 275, rfl⟩
abbrev main_call9_v4 : Ref sig .tc := ⟨.hbm, 276, rfl⟩
abbrev main_call9_c_0 : Ref sig .tc := ⟨.hbm, 277, rfl⟩
abbrev main_call9_v5 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_cst_8 : Ref sig .tc := ⟨.hbm, 285, rfl⟩
abbrev main_call10_v0 : Ref sig .tc := ⟨.hbm, 286, rfl⟩
abbrev main_call10_v1 : Ref sig .tc := ⟨.hbm, 287, rfl⟩
abbrev main_call10_v2 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_v207 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩
abbrev main_v218 : Ref sig .tc := ⟨.hbm, 303, rfl⟩
abbrev main_v219 : Ref sig .tc := ⟨.hbm, 304, rfl⟩
abbrev main_v220 : Ref sig .tc := ⟨.hbm, 305, rfl⟩
abbrev main_v221 : Ref sig .tc := ⟨.hbm, 306, rfl⟩
abbrev main_cst_9 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_v231 : Ref sig .tc := ⟨.hbm, 317, rfl⟩
abbrev main_v232 : Ref sig .tc := ⟨.hbm, 318, rfl⟩
abbrev main_v233 : Ref sig .tc := ⟨.hbm, 319, rfl⟩
abbrev main_v234 : Ref sig .tc := ⟨.hbm, 320, rfl⟩
abbrev main_v235 : Ref sig .tc := ⟨.hbm, 321, rfl⟩
abbrev main_v236 : Ref sig .tc := ⟨.hbm, 322, rfl⟩
abbrev main_v237 : Ref sig .tc := ⟨.hbm, 323, rfl⟩
abbrev main_v238 : Ref sig .tc := ⟨.hbm, 324, rfl⟩
abbrev main_v239 : Ref sig .tc := ⟨.hbm, 325, rfl⟩
abbrev main_v240 : Ref sig .tc := ⟨.hbm, 326, rfl⟩
abbrev main_v241 : Ref sig .tc := ⟨.hbm, 327, rfl⟩
abbrev main_v242 : Ref sig .tc := ⟨.hbm, 328, rfl⟩
abbrev main_v243 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_v254 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_call11_v0 : Ref sig .tc := ⟨.hbm, 346, rfl⟩
abbrev main_call11_v1 : Ref sig .tc := ⟨.hbm, 347, rfl⟩
abbrev main_call11_cst : Ref sig .tc := ⟨.hbm, 348, rfl⟩
abbrev main_call11_v2 : Ref sig .tc := ⟨.hbm, 349, rfl⟩
abbrev main_call11_v3 : Ref sig .tc := ⟨.hbm, 350, rfl⟩
abbrev main_call11_cst_0 : Ref sig .tc := ⟨.hbm, 351, rfl⟩
abbrev main_call11_v4 : Ref sig .tc := ⟨.hbm, 352, rfl⟩
abbrev main_call11_v5 : Ref sig .tc := ⟨.hbm, 353, rfl⟩
abbrev main_v260 : Ref sig .tc := ⟨.hbm, 354, rfl⟩
abbrev main_v261 : Ref sig .tc := ⟨.hbm, 355, rfl⟩
abbrev main_v262 : Ref sig .tc := ⟨.hbm, 356, rfl⟩
abbrev main_v263 : Ref sig .tc := ⟨.hbm, 357, rfl⟩
abbrev main_cst_10 : Ref sig .tc := ⟨.hbm, 358, rfl⟩
abbrev main_v264 : Ref sig .tc := ⟨.hbm, 359, rfl⟩
abbrev main_v265 : Ref sig .tc := ⟨.hbm, 360, rfl⟩
abbrev main_cst_11 : Ref sig .tc := ⟨.hbm, 361, rfl⟩
abbrev main_v266 : Ref sig .tc := ⟨.hbm, 362, rfl⟩
abbrev main_v267 : Ref sig .tc := ⟨.hbm, 363, rfl⟩
abbrev main_cst_12 : Ref sig .tc := ⟨.hbm, 364, rfl⟩
abbrev main_v268 : Ref sig .tc := ⟨.hbm, 365, rfl⟩
abbrev main_v269 : Ref sig .tc := ⟨.hbm, 366, rfl⟩
abbrev main_v270 : Ref sig .tc := ⟨.hbm, 367, rfl⟩
abbrev main_v271 : Ref sig .tc := ⟨.hbm, 368, rfl⟩
abbrev main_v272 : Ref sig .tc := ⟨.hbm, 369, rfl⟩
abbrev main_v273 : Ref sig .tc := ⟨.hbm, 370, rfl⟩
abbrev main_v274 : Ref sig .tc := ⟨.hbm, 371, rfl⟩
abbrev main_v275 : Ref sig .tc := ⟨.hbm, 372, rfl⟩
abbrev main_v276 : Ref sig .tc := ⟨.hbm, 373, rfl⟩
abbrev main_v277 : Ref sig .tc := ⟨.hbm, 374, rfl⟩
abbrev main_v278 : Ref sig .tc := ⟨.hbm, 375, rfl⟩
abbrev main_v279 : Ref sig .tc := ⟨.hbm, 376, rfl⟩
abbrev main_v280 : Ref sig .tc := ⟨.hbm, 377, rfl⟩
abbrev main_v281 : Ref sig .tc := ⟨.hbm, 378, rfl⟩
abbrev main_v282 : Ref sig .tc := ⟨.hbm, 379, rfl⟩
abbrev main_v283 : Ref sig .tc := ⟨.hbm, 380, rfl⟩
abbrev main_v284 : Ref sig .tc := ⟨.hbm, 381, rfl⟩
abbrev main_v285 : Ref sig .tc := ⟨.hbm, 382, rfl⟩

abbrev nD : Nat := 1
abbrev τ : Topo := Topo.v7x

variable {F : FTy → Type} [FloatOps F]
-- ==== Kernel2.lean ====
abbrev S8192x1024 : Shape := ⟨2, ![8192, 1024]⟩
abbrev S1x6x1024 : Shape := ⟨3, ![1, 6, 1024]⟩
abbrev S1x1024 : Shape := ⟨2, ![1, 1024]⟩
abbrev S1x1024x5632 : Shape := ⟨3, ![1, 1024, 5632]⟩
abbrev S1x3x3x5632 : Shape := ⟨4, ![1, 3, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S1024x2x11x256 : Shape := ⟨4, ![1024, 2, 11, 256]⟩
abbrev S11x1024x2x256 : Shape := ⟨4, ![11, 1024, 2, 256]⟩
abbrev S11x1024x512 : Shape := ⟨3, ![11, 1024, 512]⟩
abbrev S3x3x5632 : Shape := ⟨3, ![3, 3, 5632]⟩
abbrev S9x2x11x256 : Shape := ⟨4, ![9, 2, 11, 256]⟩
abbrev S11x9x2x256 : Shape := ⟨4, ![11, 9, 2, 256]⟩
abbrev S11x9x512 : Shape := ⟨3, ![11, 9, 512]⟩
abbrev S5632 : Shape := ⟨1, ![5632]⟩
abbrev S2x11x256 : Shape := ⟨3, ![2, 11, 256]⟩
abbrev S11x2x256 : Shape := ⟨3, ![11, 2, 256]⟩
abbrev S11x1x512 : Shape := ⟨3, ![11, 1, 512]⟩
abbrev S2816x1024 : Shape := ⟨2, ![2816, 1024]⟩
abbrev S11x256x1024 : Shape := ⟨3, ![11, 256, 1024]⟩
abbrev S1024x1024 : Shape := ⟨2, ![1024, 1024]⟩
abbrev S1x1024x512 : Shape := ⟨3, ![1, 1024, 512]⟩
abbrev S1x9x512 : Shape := ⟨3, ![1, 9, 512]⟩
abbrev S1x1x512 : Shape := ⟨3, ![1, 1, 512]⟩
abbrev S1x256x1024 : Shape := ⟨3, ![1, 256, 1024]⟩
abbrev S1x1x1024 : Shape := ⟨3, ![1, 1, 1024]⟩
abbrev S1024x1 : Shape := ⟨2, ![1024, 1]⟩
abbrev S1024x512 : Shape := ⟨2, ![1024, 512]⟩
abbrev S1x512 : Shape := ⟨2, ![1, 512]⟩
abbrev S1024x256 : Shape := ⟨2, ![1024, 256]⟩
abbrev S256x1024 : Shape := ⟨2, ![256, 1024]⟩

abbrev nBuf : Space → Nat
  | .hbm => 28
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x6x1024, .f32⟩
  | .hbm, ⟨2, _⟩ => ⟨S1x1024, .f32⟩
  | .hbm, ⟨3, _⟩ => ⟨S1x1024x5632, .f32⟩
  | .hbm, ⟨4, _⟩ => ⟨S1x3x3x5632, .f32⟩
  | .hbm, ⟨5, _⟩ => ⟨S1x5632, .f32⟩
  | .hbm, ⟨6, _⟩ => ⟨S1x2816x1024, .f32⟩
  | .hbm, ⟨7, _⟩ => ⟨S1024, .f32⟩
  | .hbm, ⟨8, _⟩ => ⟨S1024x5632, .f32⟩
  | .hbm, ⟨9, _⟩ => ⟨S1024x2x11x256, .f32⟩
  | .hbm, ⟨10, _⟩ => ⟨S11x1024x2x256, .f32⟩
  | .hbm, ⟨11, _⟩ => ⟨S11x1024x512, .f32⟩
  | .hbm, ⟨12, _⟩ => ⟨S11x1024x512, .bf16⟩
  | .hbm, ⟨13, _⟩ => ⟨S3x3x5632, .f32⟩
  | .hbm, ⟨14, _⟩ => ⟨S9x2x11x256, .f32⟩
  | .hbm, ⟨15, _⟩ => ⟨S11x9x2x256, .f32⟩
  | .hbm, ⟨16, _⟩ => ⟨S11x9x512, .f32⟩
  | .hbm, ⟨17, _⟩ => ⟨S5632, .f32⟩
  | .hbm, ⟨18, _⟩ => ⟨S2x11x256, .f32⟩
  | .hbm, ⟨19, _⟩ => ⟨S11x2x256, .f32⟩
  | .hbm, ⟨20, _⟩ => ⟨S11x1x512, .f32⟩
  | .hbm, ⟨21, _⟩ => ⟨S2816x1024, .f32⟩
  | .hbm, ⟨22, _⟩ => ⟨S11x256x1024, .f32⟩
  | .hbm, ⟨23, _⟩ => ⟨S11x256x1024, .bf16⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x1024, .f32⟩
  | .local _ .vmem, ⟨4, _⟩ => ⟨S1x1024x512, .bf16⟩
  | .local _ .vmem, ⟨5, _⟩ => ⟨S1x1024x512, .bf16⟩
  | .local _ .vmem, ⟨6, _⟩ => ⟨S1x9x512, .f32⟩
  | .local _ .vmem, ⟨7, _⟩ => ⟨S1x9x512, .f32⟩
  | .local _ .vmem, ⟨8, _⟩ => ⟨S1x1x512, .f32⟩
  | .local _ .vmem, ⟨9, _⟩ => ⟨S1x1x512, .f32⟩
  | .local _ .vmem, ⟨10, _⟩ => ⟨S1x256x1024, .bf16⟩
  | .local _ .vmem, ⟨11, _⟩ => ⟨S1x256x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c10_i32 : BitVec 32 := 10#32
  let v60 : BitVec 1 := Scalar.cmpi .eq arg1 c10_i32
  let v61 : BitVec 32 := Scalar.extui v60
  let c0_i32_28 : BitVec 32 := 0#32
  let v62 : BitVec 1 := Scalar.cmpi .ne v61 c0_i32_28
  v62

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x9x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S8192x1024 : Shape := ⟨2, ![8192, 1024]⟩
abbrev S1x6x1024 : Shape := ⟨3, ![1, 6, 1024]⟩
abbrev S1x1024 : Shape := ⟨2, ![1, 1024]⟩
abbrev S1x1024x5632 : Shape := ⟨3, ![1, 1024, 5632]⟩
abbrev S1x3x3x5632 : Shape := ⟨4, ![1, 3, 3, 5632]⟩
abbrev S1x5632 : Shape := ⟨2, ![1, 5632]⟩
abbrev S1x2816x1024 : Shape := ⟨3, ![1, 2816, 1024]⟩
abbrev S1024 : Shape := ⟨1, ![1024]⟩
abbrev S32x256x1024 : Shape := ⟨3, ![32, 256, 1024]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S1024x5632 : Shape := ⟨2, ![1024, 5632]⟩
abbrev S32x256x5632 : Shape := ⟨3, ![32, 256, 5632]⟩
abbrev S1x1x3x5632 : Shape := ⟨4, ![1, 1, 3, 5632]⟩
abbrev S3x5632 : Shape := ⟨2, ![3, 5632]⟩
abbrev S5632 : Shape := ⟨1, ![5632]⟩
abbrev S32x258x5632 : Shape := ⟨3, ![32, 258, 5632]⟩
abbrev S1x1x5632 : Shape := ⟨3, ![1, 1, 5632]⟩
abbrev S32x256x2816 : Shape := ⟨3, ![32, 256, 2816]⟩
abbrev S2816x1024 : Shape := ⟨2, ![2816, 1024]⟩

abbrev nBuf : Space → Nat
  | .hbm => 101
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x6x1024, .f32⟩
  | .hbm, ⟨2, _⟩ => ⟨S1x1024, .f32⟩
  | .hbm, ⟨3, _⟩ => ⟨S1x1024x5632, .f32⟩
  | .hbm, ⟨4, _⟩ => ⟨S1x3x3x5632, .f32⟩
  | .hbm, ⟨5, _⟩ => ⟨S1x5632, .f32⟩
  | .hbm, ⟨6, _⟩ => ⟨S1x2816x1024, .f32⟩
  | .hbm, ⟨7, _⟩ => ⟨S1024, .f32⟩
  | .hbm, ⟨8, _⟩ => ⟨S32x256x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1024, .f32⟩
  | .hbm, ⟨13, _⟩ => ⟨S32x256x1024, .f32⟩
  | .hbm, ⟨14, _⟩ => ⟨S_, .f32⟩
  | .hbm, ⟨15, _⟩ => ⟨S32x256, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S_, .f32⟩
  | .hbm, ⟨21, _⟩ => ⟨S32x256x1, .f32⟩
  | .hbm, ⟨22, _⟩ => ⟨S32x256x1, .f32⟩
  | .hbm, ⟨23, _⟩ => ⟨S32x256x1, .f32⟩
  | .hbm, ⟨24, _⟩ => ⟨S32x256x1024, .f32⟩
  | .hbm, ⟨25, _⟩ => ⟨S32x256x1024, .f32⟩
  | .hbm, ⟨26, _⟩ => ⟨S1x1x1024, .f32⟩
  | .hbm, ⟨27, _⟩ => ⟨S32x256x1024, .f32⟩
  | .hbm, ⟨28, _⟩ => ⟨S32x256x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S32x256x1024, .f32⟩
  | .hbm, ⟨35, _⟩ => ⟨S32x256x1024, .f32⟩
  | .hbm, ⟨36, _⟩ => ⟨S1024x5632, .f32⟩
  | .hbm, ⟨37, _⟩ => ⟨S32x256x5632, .f32⟩
  | .hbm, ⟨38, _⟩ => ⟨S1x1x3x5632, .f32⟩
  | .hbm, ⟨39, _⟩ => ⟨S3x5632, .f32⟩
  | .hbm, ⟨40, _⟩ => ⟨S5632, .f32⟩
  | .hbm, ⟨41, _⟩ => ⟨S_, .i32⟩
  | .hbm, ⟨42, _⟩ => ⟨S_, .f32⟩
  | .hbm, ⟨43, _⟩ => ⟨S32x258x5632, .f32⟩
  | .hbm, ⟨44, _⟩ => ⟨S32x256x5632, .f32⟩
  | .hbm, ⟨45, _⟩ => ⟨S1x5632, .f32⟩
  | .hbm, ⟨46, _⟩ => ⟨S5632, .f32⟩
  | .hbm, ⟨47, _⟩ => ⟨S1x1x5632, .f32⟩
  | .hbm, ⟨48, _⟩ => ⟨S32x256x5632, .f32⟩
  | .hbm, ⟨49, _⟩ => ⟨S32x256x5632, .f32⟩
  | .hbm, ⟨50, _⟩ => ⟨S32x256x5632, .f32⟩
  | .hbm, ⟨51, _⟩ => ⟨S1x5632, .f32⟩
  | .hbm, ⟨52, _⟩ => ⟨S5632, .f32⟩
  | .hbm, ⟨53, _⟩ => ⟨S1x1x5632, .f32⟩
  | .hbm, ⟨54, _⟩ => ⟨S32x256x5632, .f32⟩
  | .hbm, ⟨55, _⟩ => ⟨S32x256x5632, .f32⟩
  | .hbm, ⟨56, _⟩ => ⟨S32x256x5632, .f32⟩
  | .hbm, ⟨57, _⟩ => ⟨S32x256x5632, .f32⟩
  | .hbm, ⟨58, _⟩ => ⟨S1x5632, .f32⟩
  | .hbm, ⟨59, _⟩ => ⟨S5632, .f32⟩
  | .hbm, ⟨60, _⟩ => ⟨S1x1x5632, .f32⟩
  | .hbm, ⟨61, _⟩ => ⟨S32x256x5632, .f32⟩
  | .hbm, ⟨62, _⟩ => ⟨S32x256x5632, .f32⟩
  | .hbm, ⟨63, _⟩ => ⟨S32x256x5632, .f32⟩
  | .hbm, ⟨64, _⟩ => ⟨S1x1x5632, .f32⟩
  | .hbm, ⟨65, _⟩ => ⟨S32x256x5632, .f32⟩
  | .hbm, ⟨66, _⟩ => ⟨S32x256x5632, .f32⟩
  | .hbm, ⟨67, _⟩ => ⟨S32x256x2816, .f32⟩
  | .hbm, ⟨68, _⟩ => ⟨S32x256x2816, .f32⟩
  | .hbm, ⟨69, _⟩ => ⟨S32x256x2816, .f32⟩
  | .hbm, ⟨70, _⟩ => ⟨S32x256x2816, .f32⟩
  | .hbm, ⟨71, _⟩ => ⟨S_, .f32⟩
  | .hbm, ⟨72, _⟩ => ⟨S32x256x2816, .f32⟩
  | .hbm, ⟨73, _⟩ => ⟨S32x256x2816, .f32⟩
  | .hbm, ⟨74, _⟩ => ⟨S_, .f32⟩
  | .hbm, ⟨75, _⟩ => ⟨S32x256x2816, .f32⟩
  | .hbm, ⟨76, _⟩ => ⟨S32x256x2816, .f32⟩
  | .hbm, ⟨77, _⟩ => ⟨S32x256x2816, .f32⟩
  | .hbm, ⟨78, _⟩ => ⟨S32x256x2816, .f32⟩
  | .hbm, ⟨79, _⟩ => ⟨S2816x1024, .f32⟩
  | .hbm, ⟨80, _⟩ => ⟨S32x256x1024, .f32⟩
  | .hbm, ⟨81, _⟩ => ⟨S32x256x1024, .f32⟩
  | .hbm, ⟨82, _⟩ => ⟨S32x256x1024, .f32⟩
  | .hbm, ⟨83, _⟩ => ⟨S32x256x1024, .f32⟩
  | .hbm, ⟨84, _⟩ => ⟨S32x256x1024, .f32⟩
  | .hbm, ⟨85, _⟩ => ⟨S_, .f32⟩
  | .hbm, ⟨86, _⟩ => ⟨S32x256, .f32⟩
  | .hbm, ⟨87, _⟩ => ⟨S32x256x1, .f32⟩
  | .hbm, ⟨88, _⟩ => ⟨S_, .f32⟩
  | .hbm, ⟨89, _⟩ => ⟨S32x256x1, .f32⟩
  | .hbm, ⟨90, _⟩ => ⟨S32x256x1, .f32⟩
  | .hbm, ⟨91, _⟩ => ⟨S_, .f32⟩
  | .hbm, ⟨92, _⟩ => ⟨S32x256x1, .f32⟩
  | .hbm, ⟨93, _⟩ => ⟨S32x256x1, .f32⟩
  | .hbm, ⟨94, _⟩ => ⟨S32x256x1, .f32⟩
  | .hbm, ⟨95, _⟩ => ⟨S32x256x1024, .f32⟩
  | .hbm, ⟨96, _⟩ => ⟨S32x256x1024, .f32⟩
  | .hbm, ⟨97, _⟩ => ⟨S1x1x1024, .f32⟩
  | .hbm, ⟨98, _⟩ => ⟨S32x256x1024, .f32⟩
  | .hbm, ⟨99, _⟩ => ⟨S32x256x1024, .f32⟩
  | .hbm, ⟨100, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_call0_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_3 : Ref sig .tc := ⟨.hbm, 85, rfl⟩
abbrev main_v63 : Ref sig .tc := ⟨.hbm, 86, rfl⟩
abbrev main_v64 : Ref sig .tc := ⟨.hbm, 87, rfl⟩
abbrev main_cst_4 : Ref sig .tc := ⟨.hbm, 88, rfl⟩
abbrev main_v65 : Ref sig .tc := ⟨.hbm, 89, rfl⟩
abbrev main_v66 : Ref sig .tc := ⟨.hbm, 90, rfl⟩
abbrev main_cst_5 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]
-- ==== Kernel3.lean ====
abbrev S8192x1024 : Shape := ⟨2, ![8192, 1024]⟩
abbrev S8x6x1024 : Shape := ⟨3, ![8, 6, 1024]⟩
abbrev S1x1024 : Shape := ⟨2, ![1, 1024]⟩
abbrev S1x1024x5632 : Shape := ⟨3, ![1, 1024, 5632]⟩
abbrev S1x3x3x5632 : Shape := ⟨4, ![1, 3, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S1024x2x11x256 : Shape := ⟨4, ![1024, 2, 11, 256]⟩
abbrev S11x1024x2x256 : Shape := ⟨4, ![11, 1024, 2, 256]⟩
abbrev S11x1024x512 : Shape := ⟨3, ![11, 1024, 512]⟩
abbrev S3x3x5632 : Shape := ⟨3, ![3, 3, 5632]⟩
abbrev S9x2x11x256 : Shape := ⟨4, ![9, 2, 11, 256]⟩
abbrev S11x9x2x256 : Shape := ⟨4, ![11, 9, 2, 256]⟩
abbrev S11x9x512 : Shape := ⟨3, ![11, 9, 512]⟩
abbrev S5632 : Shape := ⟨1, ![5632]⟩
abbrev S2x11x256 : Shape := ⟨3, ![2, 11, 256]⟩
abbrev S11x2x256 : Shape := ⟨3, ![11, 2, 256]⟩
abbrev S11x1x512 : Shape := ⟨3, ![11, 1, 512]⟩
abbrev S2816x1024 : Shape := ⟨2, ![2816, 1024]⟩
abbrev S11x256x1024 : Shape := ⟨3, ![11, 256, 1024]⟩
abbrev S1024x1024 : Shape := ⟨2, ![1024, 1024]⟩
abbrev S1x6x1024 : Shape := ⟨3, ![1, 6, 1024]⟩
abbrev S1x1024x512 : Shape := ⟨3, ![1, 1024, 512]⟩
abbrev S1x9x512 : Shape := ⟨3, ![1, 9, 512]⟩
abbrev S1x1x512 : Shape := ⟨3, ![1, 1, 512]⟩
abbrev S1x256x1024 : Shape := ⟨3, ![1, 256, 1024]⟩
abbrev S1x1x1024 : Shape := ⟨3, ![1, 1, 1024]⟩
abbrev S1024x1 : Shape := ⟨2, ![1024, 1]⟩
abbrev S1024x512 : Shape := ⟨2, ![1024, 512]⟩
abbrev S1x512 : Shape := ⟨2, ![1, 512]⟩
abbrev S64x512 : Shape := ⟨2, ![64, 512]⟩
abbrev S960x512 : Shape := ⟨2, ![960, 512]⟩
abbrev S1024x256 : Shape := ⟨2, ![1024, 256]⟩
abbrev S256x1024 : Shape := ⟨2, ![256, 1024]⟩

abbrev nBuf : Space → Nat
  | .hbm => 28
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8x6x1024, .f32⟩
  | .hbm, ⟨2, _⟩ => ⟨S1x1024, .f32⟩
  | .hbm, ⟨3, _⟩ => ⟨S1x1024x5632, .f32⟩
  | .hbm, ⟨4, _⟩ => ⟨S1x3x3x5632, .f32⟩
  | .hbm, ⟨5, _⟩ => ⟨S1x5632, .f32⟩
  | .hbm, ⟨6, _⟩ => ⟨S1x2816x1024, .f32⟩
  | .hbm, ⟨7, _⟩ => ⟨S1024, .f32⟩
  | .hbm, ⟨8, _⟩ => ⟨S1024x5632, .f32⟩
  | .hbm, ⟨9, _⟩ => ⟨S1024x2x11x256, .f32⟩
  | .hbm, ⟨10, _⟩ => ⟨S11x1024x2x256, .f32⟩
  | .hbm, ⟨11, _⟩ => ⟨S11x1024x512, .f32⟩
  | .hbm, ⟨12, _⟩ => ⟨S11x1024x512, .bf16⟩
  | .hbm, ⟨13, _⟩ => ⟨S3x3x5632, .f32⟩
  | .hbm, ⟨14, _⟩ => ⟨S9x2x11x256, .f32⟩
  | .hbm, ⟨15, _⟩ => ⟨S11x9x2x256, .f32⟩
  | .hbm, ⟨16, _⟩ => ⟨S11x9x512, .f32⟩
  | .hbm, ⟨17, _⟩ => ⟨S5632, .f32⟩
  | .hbm, ⟨18, _⟩ => ⟨S2x11x256, .f32⟩
  | .hbm, ⟨19, _⟩ => ⟨S11x2x256, .f32⟩
  | .hbm, ⟨20, _⟩ => ⟨S11x1x512, .f32⟩
  | .hbm, ⟨21, _⟩ => ⟨S2816x1024, .f32⟩
  | .hbm, ⟨22, _⟩ => ⟨S11x256x1024, .f32⟩
  | .hbm, ⟨23, _⟩ => ⟨S11x256x1024, .bf16⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024x512, .bf16⟩
  | .local _ .vmem, ⟨6, _⟩ => ⟨S1x1024x512, .bf16⟩
  | .local _ .vmem, ⟨7, _⟩ => ⟨S1x9x512, .f32⟩
  | .local _ .vmem, ⟨8, _⟩ => ⟨S1x9x512, .f32⟩
  | .local _ .vmem, ⟨9, _⟩ => ⟨S1x1x512, .f32⟩
  | .local _ .vmem, ⟨10, _⟩ => ⟨S1x1x512, .f32⟩
  | .local _ .vmem, ⟨11, _⟩ => ⟨S1x256x1024, .bf16⟩
  | .local _ .vmem, ⟨12, _⟩ => ⟨S1x256x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c10_i32 : BitVec 32 := 10#32
  let v95 : BitVec 1 := Scalar.cmpi .eq arg1 c10_i32
  let v96 : BitVec 32 := Scalar.extui v95
  let c0_i32_42 : BitVec 32 := 0#32
  let v97 : BitVec 1 := Scalar.cmpi .ne v96 c0_i32_42
  v97

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x9x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S8192x1024 : Shape := ⟨2, ![8192, 1024]⟩
abbrev S8x6x1024 : Shape := ⟨3, ![8, 6, 1024]⟩
abbrev S1x1024 : Shape := ⟨2, ![1, 1024]⟩
abbrev S1x1024x5632 : Shape := ⟨3, ![1, 1024, 5632]⟩
abbrev S1x3x3x5632 : Shape := ⟨4, ![1, 3, 3, 5632]⟩
abbrev S1x5632 : Shape := ⟨2, ![1, 5632]⟩
abbrev S1x2816x1024 : Shape := ⟨3, ![1, 2816, 1024]⟩
abbrev S1024 : Shape := ⟨1, ![1024]⟩
abbrev S8x1024x1024 : Shape := ⟨3, ![8, 1024, 1024]⟩
abbrev S8x1x1024 : Shape := ⟨3, ![8, 1, 1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S1024x5632 : Shape := ⟨2, ![1024, 5632]⟩
abbrev S8x1024x5632 : Shape := ⟨3, ![8, 1024, 5632]⟩
abbrev S3x3x5632 : Shape := ⟨3, ![3, 3, 5632]⟩
abbrev S5632 : Shape := ⟨1, ![5632]⟩
abbrev S8x16x64x5632 : Shape := ⟨4, ![8, 16, 64, 5632]⟩
abbrev S8x18x66x5632 : Shape := ⟨4, ![8, 18, 66, 5632]⟩
abbrev S1x1x5632 : Shape := ⟨3, ![1, 1, 5632]⟩
abbrev S1x1x1x5632 : Shape := ⟨4, ![1, 1, 1, 5632]⟩
abbrev S8x1024x2816 : Shape := ⟨3, ![8, 1024, 2816]⟩
abbrev S2816x1024 : Shape := ⟨2, ![2816, 1024]⟩

abbrev nBuf : Space → Nat
  | .hbm => 144
  | .vmem => 0
  | .smem => 0
  | _ => 0

abbrev hbmTy0_0 (i : Nat) : BufTy := match i % 128 with
  | 0 => ⟨S8192x1024, .f32⟩
  | 1 => ⟨S8x6x1024, .f32⟩
  | 2 => ⟨S1x1024, .f32⟩
  | 3 => ⟨S1x1024x5632, .f32⟩
  | 4 => ⟨S1x3x3x5632, .f32⟩
  | 5 => ⟨S1x5632, .f32⟩
  | 6 => ⟨S1x2816x1024, .f32⟩
  | 7 => ⟨S1024, .f32⟩
  | 8 => ⟨S8x1024x1024, .f32⟩
  | 9 => ⟨S8x1x1024, .f32⟩
  | 10 => ⟨S8x1x1024, .f32⟩
  | 11 => ⟨S8x1x1024, .f32⟩
  | 12 => ⟨S1024, .f32⟩
  | 13 => ⟨S8x1024x1024, .f32⟩
  | 14 => ⟨S_, .f32⟩
  | 15 => ⟨S8x1024, .f32⟩
  | 16 => ⟨S8x1024x1, .f32⟩
  | 17 => ⟨S_, .f32⟩
  | 18 => ⟨S8x1024x1, .f32⟩
  | 19 => ⟨S8x1024x1, .f32⟩
  | 20 => ⟨S_, .f32⟩
  | 21 => ⟨S8x1024x1, .f32⟩
  | 22 => ⟨S8x1024x1, .f32⟩
  | 23 => ⟨S8x1024x1, .f32⟩
  | 24 => ⟨S8x1024x1024, .f32⟩
  | 25 => ⟨S8x1024x1024, .f32⟩
  | 26 => ⟨S1x1x1024, .f32⟩
  | 27 => ⟨S8x1024x1024, .f32⟩
  | 28 => ⟨S8x1024x1024, .f32⟩
  | 29 => ⟨S_, .f32⟩
  | 30 => ⟨S8x1x1024, .f32⟩
  | 31 => ⟨S8x1x1024, .f32⟩
  | 32 => ⟨S8x1024x1024, .f32⟩
  | 33 => ⟨S8x1024x1024, .f32⟩
  | 34 => ⟨S8x1024x1024, .f32⟩
  | 35 => ⟨S8x1024x1024, .f32⟩
  | 36 => ⟨S1024x5632, .f32⟩
  | 37 => ⟨S8x1024x5632, .f32⟩
  | 38 => ⟨S3x3x5632, .f32⟩
  | 39 => ⟨S5632, .f32⟩
  | 40 => ⟨S8x16x64x5632, .f32⟩
  | 41 => ⟨S_, .i32⟩
  | 42 => ⟨S_, .f32⟩
  | 43 => ⟨S8x18x66x5632, .f32⟩
  | 44 => ⟨S8x16x64x5632, .f32⟩
  | 45 => ⟨S1x1x5632, .f32⟩
  | 46 => ⟨S5632, .f32⟩
  | 47 => ⟨S1x1x1x5632, .f32⟩
  | 48 => ⟨S8x16x64x5632, .f32⟩
  | 49 => ⟨S8x16x64x5632, .f32⟩
  | 50 => ⟨S1x1x1x5632, .f32⟩
  | 51 => ⟨S8x16x64x5632, .f32⟩
  | 52 => ⟨S8x16x64x5632, .f32⟩
  | 53 => ⟨S8x16x64x5632, .f32⟩
  | 54 => ⟨S1x1x5632, .f32⟩
  | 55 => ⟨S5632, .f32⟩
  | 56 => ⟨S1x1x1x5632, .f32⟩
  | 57 => ⟨S8x16x64x5632, .f32⟩
  | 58 => ⟨S8x16x64x5632, .f32⟩
  | 59 => ⟨S8x16x64x5632, .f32⟩
  | 60 => ⟨S8x16x64x5632, .f32⟩
  | 61 => ⟨S1x1x5632, .f32⟩
  | 62 => ⟨S5632, .f32⟩
  | 63 => ⟨S1x1x1x5632, .f32⟩
  | 64 => ⟨S8x16x64x5632, .f32⟩
  | 65 => ⟨S8x16x64x5632, .f32⟩
  | 66 => ⟨S8x16x64x5632, .f32⟩
  | 67 => ⟨S8x16x64x5632, .f32⟩
  | 68 => ⟨S1x1x5632, .f32⟩
  | 69 => ⟨S5632, .f32⟩
  | 70 => ⟨S1x1x1x5632, .f32⟩
  | 71 => ⟨S8x16x64x5632, .f32⟩
  | 72 => ⟨S8x16x64x5632, .f32⟩
  | 73 => ⟨S8x16x64x5632, .f32⟩
  | 74 => ⟨S8x16x64x5632, .f32⟩
  | 75 => ⟨S1x1x5632, .f32⟩
  | 76 => ⟨S5632, .f32⟩
  | 77 => ⟨S1x1x1x5632, .f32⟩
  | 78 => ⟨S8x16x64x5632, .f32⟩
  | 79 => ⟨S8x16x64x5632, .f32⟩
  | 80 => ⟨S8x16x64x5632, .f32⟩
  | 81 => ⟨S8x16x64x5632, .f32⟩
  | 82 => ⟨S1x1x5632, .f32⟩
  | 83 => ⟨S5632, .f32⟩
  | 84 => ⟨S1x1x1x5632, .f32⟩
  | 85 => ⟨S8x16x64x5632, .f32⟩
  | 86 => ⟨S8x16x64x5632, .f32⟩
  | 87 => ⟨S8x16x64x5632, .f32⟩
  | 88 => ⟨S8x16x64x5632, .f32⟩
  | 89 => ⟨S1x1x5632, .f32⟩
  | 90 => ⟨S5632, .f32⟩
  | 91 => ⟨S1x1x1x5632, .f32⟩
  | 92 => ⟨S8x16x64x5632, .f32⟩
  | 93 => ⟨S8x16x64x5632, .f32⟩
  | 94 => ⟨S8x16x64x5632, .f32⟩
  | 95 => ⟨S8x16x64x5632, .f32⟩
  | 96 => ⟨S1x1x5632, .f32⟩
  | 97 => ⟨S5632, .f32⟩
  | 98 => ⟨S1x1x1x5632, .f32⟩
  | 99 => ⟨S8x16x64x5632, .f32⟩
  | 100 => ⟨S8x16x64x5632, .f32⟩
  | 101 => ⟨S8x16x64x5632, .f32⟩
  | 102 => ⟨S8x16x64x5632, .f32⟩
  | 103 => ⟨S1x1x5632, .f32⟩
  | 104 => ⟨S5632, .f32⟩
  | 105 => ⟨S1x1x1x5632, .f32⟩
  | 106 => ⟨S8x16x64x5632, .f32⟩
  | 107 => ⟨S8x16x64x5632, .f32⟩
  | 108 => ⟨S8x16x64x5632, .f32⟩
  | 109 => ⟨S8x1024x5632, .f32⟩
  | 110 => ⟨S8x1024x2816, .f32⟩
  | 111 => ⟨S8x1024x2816, .f32⟩
  | 112 => ⟨S8x1024x2816, .f32⟩
  | 113 => ⟨S8x1024x2816, .f32⟩
  | 114 => ⟨S_, .f32⟩
  | 115 => ⟨S8x1024x2816, .f32⟩
  | 116 => ⟨S8x1024x2816, .f32⟩
  | 117 => ⟨S_, .f32⟩
  | 118 => ⟨S8x1024x2816, .f32⟩
  | 119 => ⟨S8x1024x2816, .f32⟩
  | 120 => ⟨S8x1024x2816, .f32⟩
  | 121 => ⟨S8x1024x2816, .f32⟩
  | 122 => ⟨S2816x1024, .f32⟩
  | 123 => ⟨S8x1024x1024, .f32⟩
  | 124 => ⟨S8x1024x1024, .f32⟩
  | 125 => ⟨S8x1024x1024, .f32⟩
  | 126 => ⟨S8x1024x1024, .f32⟩
  | 127 => ⟨S8x1024x1024, .f32⟩
  | _ => ⟨S8192x1024, .f32⟩

abbrev hbmTy0_1 (i : Nat) : BufTy := match i % 128 with
  | 0 => ⟨S_, .f32⟩
  | 1 => ⟨S8x1024, .f32⟩
  | 2 => ⟨S8x1024x1, .f32⟩
  | 3 => ⟨S_, .f32⟩
  | 4 => ⟨S8x1024x1, .f32⟩
  | 5 => ⟨S8x1024x1, .f32⟩
  | 6 => ⟨S_, .f32⟩
  | 7 => ⟨S8x1024x1, .f32⟩
  | 8 => ⟨S8x1024x1, .f32⟩
  | 9 => ⟨S8x1024x1, .f32⟩
  | 10 => ⟨S8x1024x1024, .f32⟩
  | 11 => ⟨S8x1024x1024, .f32⟩
  | 12 => ⟨S1x1x1024, .f32⟩
  | 13 => ⟨S8x1024x1024, .f32⟩
  | 14 => ⟨S8x1024x1024, .f32⟩
  | 15 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_call0_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_call1_v0 : Ref sig .tc := ⟨.hbm, 112, rfl⟩
abbrev main_call1_v1 : Ref sig .tc := ⟨.hbm, 113, rfl⟩
abbrev main_call1_cst : Ref sig .tc := ⟨.hbm, 114, rfl⟩
abbrev main_call1_v2 : Ref sig .tc := ⟨.hbm, 115, rfl⟩
abbrev main_call1_v3 : Ref sig .tc := ⟨.hbm, 116, rfl⟩
abbrev main_call1_cst_0 : Ref sig .tc := ⟨.hbm, 117, rfl⟩
abbrev main_call1_v4 : Ref sig .tc := ⟨.hbm, 118, rfl⟩
abbrev main_call1_v5 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_3 : Ref sig .tc := ⟨.hbm, 128, rfl⟩
abbrev main_v106 : Ref sig .tc := ⟨.hbm, 129, rfl⟩
abbrev main_v107 : Ref sig .tc := ⟨.hbm, 130, rfl⟩
abbrev main_cst_4 : Ref sig .tc := ⟨.hbm, 131, rfl⟩
abbrev main_v108 : Ref sig .tc := ⟨.hbm, 132, rfl⟩
abbrev main_v109 : Ref sig .tc := ⟨.hbm, 133, rfl⟩
abbrev main_cst_5 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩

abbrev nD : Nat := 1
abbrev τ : Topo := Topo.v7x

variable {F : FTy → Type} [FloatOps F]
-- ==== Kernel4.lean ====
abbrev S16x1024 : Shape := ⟨2, ![16, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S16x6144 : Shape := ⟨2, ![16, 6144]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S16x6144, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16x1024 : Shape := ⟨2, ![16, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S16x6144 : Shape := ⟨2, ![16, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024x6144, .f32⟩
  | .hbm, ⟨2, _⟩ => ⟨S1x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1024x6144, .f32⟩
  | .hbm, ⟨13, _⟩ => ⟨S16x6144, .f32⟩
  | .hbm, ⟨14, _⟩ => ⟨S6144, .f32⟩
  | .hbm, ⟨15, _⟩ => ⟨S1x6144, .f32⟩
  | .hbm, ⟨16, _⟩ => ⟨S16x6144, .f32⟩
  | .hbm, ⟨17, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.FfnMath.lean ====
module

public import proofs.«01_k».proof.Kernel2Ideal
public import Idealize.ShloMosaic.Lib.Pointwise
public import Idealize.ShloMosaic.Lib.IdealHost

@[expose] public section

set_option maxRecDepth 16384

/-! # The feed-forward half as mathematics over the extended reals

Every quantity is a function of the row of the token array, of the channel, and of the arguments. The kernel and the
reference are each shown to compute these functions. -/

open Idealize.ShloMosaic

namespace Cert.Proof.Ffn

open Cert.Kernel2Ideal

noncomputable section

/-- The root-mean-square normalization of one row `v` with the weights `g`, at channel `l`. -/
def rms (v g : Fin 1024 → EReal) (l : Fin 1024) : EReal :=
  v l * Ideal.rsqrt (Ideal.div (∑ k, v k * v k) (Ideal.ofBits .f32 1149239296#32) + Ideal.ofBits .f32 897988541#32) * g l

/-- The arguments of the feed-forward half: tokens, modulation vectors, the norm's weights, the up-projection, the
    convolution's taps and bias, the down-projection, and the final norm's weights. -/
structure Args where
  x : FVec Ideal S8192x1024 .f32
  md : FVec Ideal S1x6x1024 .f32
  g : FVec Ideal S1x1024 .f32
  wu : FVec Ideal S1x1024x5632 .f32
  wc : FVec Ideal S1x3x3x5632 .f32
  bc : FVec Ideal S1x5632 .f32
  wd : FVec Ideal S1x2816x1024 .f32
  gf : FVec Ideal S1024 .f32

variable (A : Args)

/-- The normalized and modulated row `r`, at channel `l`. -/
def h2 (r : Fin 8192) (l : Fin 1024) : EReal :=
  rms (fun k => A.x (ix2 r k)) (fun k => A.g (ix2 0 k)) l * (1 + A.md (ix3 0 4 l)) + A.md (ix3 0 3 l)

/-- The up-projection of row `r`, at column `n`. -/
def up (r : Fin 8192) (n : Fin 5632) : EReal := ∑ k, h2 A r k * A.wu (ix3 0 k n)

/-- The depthwise convolution of width 3 along a sequence of 256 rows, zero outside the sequence, with its bias. -/
def cv (r : Fin 8192) (n : Fin 5632) : EReal :=
  (if r.val % 256 = 0 then 0 else up A ⟨(r.val + 8191) % 8192, Nat.mod_lt _ (by decide)⟩ n) * A.wc (ix4 0 1 0 n)
    + up A r n * A.wc (ix4 0 1 1 n)
    + (if r.val % 256 = 255 then 0 else up A ⟨(r.val + 1) % 8192, Nat.mod_lt _ (by decide)⟩ n) * A.wc (ix4 0 1 2 n)
    + A.bc (ix2 0 n)

/-- `silu(gate) * value` at row `r` and column `n` of the hidden layer. -/
def act (r : Fin 8192) (n : Fin 2816) : EReal :=
  Ideal.div (cv A r ⟨n.val, by omega⟩) (1 + Ideal.exp (0 - cv A r ⟨n.val, by omega⟩))
    * cv A r ⟨2816 + n.val, by omega⟩

/-- The gated residual sum of row `r`, at channel `l`. -/
def x2 (r : Fin 8192) (l : Fin 1024) : EReal :=
  A.x (ix2 r l) + A.md (ix3 0 5 l) * ∑ n, act A r n * A.wd (ix3 0 n l)

/-- The result: the final normalization of the gated residual sum. -/
def out (r : Fin 8192) (l : Fin 1024) : EReal := rms (x2 A r) (fun k => A.gf (ix1 k)) l

/-- One plus an exponential is not zero. -/
theorem one_add_exp_ne (x : EReal) : (1 : EReal) + Ideal.exp x ≠ 0 := by
  have h : (0 : EReal) ≤ Ideal.exp x := by
    unfold Ideal.exp
    split
    · exact le_rfl
    · exact le_top
    · exact_mod_cast (Real.exp_pos _).le
  have h1 : (1 : EReal) ≤ 1 + Ideal.exp x := le_add_of_nonneg_right h
  intro h0
  rw [h0] at h1
  exact absurd h1 (by norm_num)

/-- The two spellings of `silu`. -/
theorem silu_eq (x : EReal) : x * Ideal.div 1 (1 + Ideal.exp (-x)) = Ideal.div x (1 + Ideal.exp (0 - x)) := by
  rw [zero_sub]
  exact Ideal.mul_one_div (one_add_exp_ne _)

end

end Cert.Proof.Ffn
-- ==== Proof.FfnRef.lean ====
module

public import proofs.«01_k».proof.Proof.FfnMath
public import proofs.«01_k».proof.Proof.Gen.Reference2Ideal.Read

@[expose] public section

set_option maxRecDepth 16384

/-! # The reference of the feed-forward half computes `Ffn.out` -/

open Idealize.ShloMosaic

namespace Cert.Proof.Ffn

open Cert.Reference2Ideal.Read

variable (A : Args)

/-- Row `256 * b + s` of the tokens, as sequence `b`'s row `s`. -/
abbrev row (b : Fin 32) (s : Fin 256) : Fin 8192 := ⟨b.val * 256 + s.val, by omega⟩

/-- The reference's normalized and modulated tokens. -/
theorem ref_h2 (b : Fin 32) (s : Fin 256) (l : Fin 1024) :
    val_main_v23 (F := Ideal) A.x A.md A.g (ix3 b s l) = h2 A (row b s) l := by
  pointwise [val_main_v23, val_main_v22, val_main_v21, val_main_v20, val_main_v19, val_main_v18, val_main_cst_2,
    val_main_v17, val_main_v16, val_main_v15, val_main_v14, val_main_v13, val_main_v12, val_main_v11, val_main_v10,
    val_main_cst_1, val_main_v9, val_main_v8, val_main_cst_0, val_main_v7, val_main_v6, val_main_cst, val_main_v5,
    val_main_v4, val_main_v2, val_main_v1, val_main_v0, h2, rms]

/-- The reference's up-projection. -/
theorem ref_up (b : Fin 32) (s : Fin 256) (n : Fin 5632) :
    val_main_v25 (F := Ideal) A.x A.md A.g A.wu (ix3 b s n) = up A (row b s) n := by
  pointwise [val_main_v25, val_main_v24, up]
  simp only [ref_h2]

/-- The reference's convolution. -/
theorem ref_cv (b : Fin 32) (s : Fin 256) (n : Fin 5632) :
    val_main_v52 (F := Ideal) A.x A.md A.g A.wu A.wc A.bc (ix3 b s n) = cv A (row b s) n := by
  pointwise [val_main_v52, val_main_v51, val_main_v50, val_main_v49, val_main_v48, val_main_v47, val_main_v46, val_main_v45,
    val_main_v44, val_main_v43, val_main_v42, val_main_v41, val_main_v40, val_main_v39, val_main_v38, val_main_v37,
    val_main_v36, val_main_v35, val_main_v34, val_main_v33, val_main_v32, val_main_v31, val_main_v30, val_main_v29,
    val_main_call0_v0, val_main_c, val_main_v28, val_main_v27, val_main_v26, cv]
  simp only [ref_up]
  have hz : FloatOps.sitofp (F := Ideal) FTy.f32 (0#32) = (0 : EReal) := by
    show (((0#32 : BitVec 32).toInt : ℝ) : EReal) = 0
    simp
  have hs := s.isLt
  have hb := b.isLt
  refine congrArg₂ (· + ·) (congrArg₂ (· + ·) (congrArg₂ (· + ·) (congrArg (· * _) ?_) rfl) (congrArg (· * _) ?_)) rfl
  · by_cases h : s.val = 0
    · rw [dif_neg (by omega), if_pos (by omega), hz]
    · rw [dif_pos ⟨by omega, by omega⟩, if_neg (by omega)]
      refine congrArg (fun i => up A i n) (Fin.ext ?_)
      show b.val * 256 + (s.val - 1) = (b.val * 256 + s.val + 8191) % 8192
      omega
  · by_cases h : s.val = 255
    · rw [dif_neg (by omega), if_pos (by omega), hz]
    · rw [dif_pos ⟨by omega, by omega⟩, if_neg (by omega)]
      refine congrArg (fun i => up A i n) (Fin.ext ?_)
      show b.val * 256 + (2 + s.val - 1) = (b.val * 256 + s.val + 1) % 8192
      omega

/-- The reference's hidden activation. -/
theorem ref_act (b : Fin 32) (s : Fin 256) (n : Fin 2816) :
    val_main_v56 (F := Ideal) A.x A.md A.g A.wu A.wc A.bc (ix3 b s n) = act A (row b s) n := by
  pointwise [val_main_v56, val_main_v55, val_main_call1_v5, val_main_call1_v4, val_main_call1_cst_0, val_main_call1_v3,
    val_main_call1_v2, val_main_call1_cst, val_main_call1_v1, val_main_call1_v0, val_main_v54, val_main_v53, act]
  simp only [ref_cv, silu_eq]

/-- The reference's gated residual sum. -/
theorem ref_x2 (b : Fin 32) (s : Fin 256) (l : Fin 1024) :
    val_main_v61 (F := Ideal) A.x A.md A.g A.wu A.wc A.bc A.wd (ix3 b s l) = x2 A (row b s) l := by
  pointwise [val_main_v61, val_main_v60, val_main_v59, val_main_v58, val_main_v57, val_main_v3, val_main_v0, x2]
  simp only [ref_act]

/-- The reference's result. -/
theorem ref_out (r : Fin 8192) (l : Fin 1024) :
    val_main_v75 (F := Ideal) A.x A.md A.g A.wu A.wc A.bc A.wd A.gf (ix2 r l) = out A r l := by
  pointwise [val_main_v75, val_main_v74, val_main_v73, val_main_v72, val_main_v71, val_main_v70, val_main_v69, val_main_v68,
    val_main_v67, val_main_cst_5, val_main_v66, val_main_v65, val_main_cst_4, val_main_v64, val_main_v63, val_main_cst_3,
    val_main_v62, out, rms]
  have hr : row ⟨r.val / 256, by omega⟩ ⟨r.val % 256, by omega⟩ = r := Fin.ext (by
    show r.val / 256 * 256 + r.val % 256 = r.val
    omega)
  simp only [ref_x2, hr]

end Cert.Proof.Ffn
-- ==== Proof.FfnBlocks.lean ====
module

public import proofs.«01_k».proof.Proof.FfnMath
public import proofs.«01_k».proof.Proof.Gen.Kernel2Ideal.Frame
public import Idealize.ShloMosaic.Lib.Pipeline.ValueKit
public import Idealize.ShloMosaic.Lib.Pipeline.ValueKit.Point

@[expose] public section

set_option maxRecDepth 16384

/-! # The blocks the feed-forward call reads, as parts of the arguments -/

open Idealize.ShloMosaic Idealize.ShloMosaic.TcCoe

namespace Cert.Proof.Ffn

open Cert.Kernel2Ideal Cert.Kernel2Ideal.Gen

variable (m : (ℓ : Loc nD τ sig) → Buf (Elt Ideal) ℓ) (c : Dev nD)

/-- The arguments of the call, read from the memory. -/
abbrev args : Args where
  x := m ((c : Thread nD τ).loc main_arg0)
  md := m ((c : Thread nD τ).loc main_arg1)
  g := m ((c : Thread nD τ).loc main_arg2)
  wu := m ((c : Thread nD τ).loc main_arg3)
  wc := m ((c : Thread nD τ).loc main_arg4)
  bc := m ((c : Thread nD τ).loc main_arg5)
  wd := m ((c : Thread nD τ).loc main_arg6)
  gf := m ((c : Thread nD τ).loc main_arg7)

/-- The index of each input's block at a grid point. -/
theorem idx : ∀ t : Fin cfg0.N,
    win0_0.index t = ![t.val / 11, 0] ∧ win0_1.index t = ![0, 0, 0] ∧ win0_2.index t = ![0, 0] ∧
    win0_3.index t = ![t.val % 11, 0, 0] ∧ win0_4.index t = ![t.val % 11, 0, 0] ∧ win0_5.index t = ![t.val % 11, 0, 0] ∧
    win0_6.index t = ![t.val % 11, 0, 0] ∧ win0_7.index t = ![0, 0] := by decide +kernel

/-- The grid has 88 points. -/
theorem lt88 (t : Fin cfg0.N) : t.val < 88 := lt_of_lt_of_eq t.isLt N_0

/-- Row `r` of the slab of tokens that point `t` works on. -/
abbrev srow (t : Fin cfg0.N) (r : Fin 1024) : Fin 8192 := ⟨t.val / 11 * 1024 + r.val, by have := lt88 t; omega⟩

/-- Column `l` of the hidden block that point `t` works on: its gate half, then its value half. -/
abbrev scol (t : Fin cfg0.N) (l : Fin 512) : Fin 5632 :=
  ⟨l.val / 256 * 2816 + t.val % 11 * 256 + l.val % 256, by omega⟩

/-- The tokens' block. -/
theorem blk_x (t : Fin cfg0.N) (r l : Fin 1024) :
    iblk m c 0 t (ix2 r l) = (args m c).x (ix2 (srow t r) l) := by
  blk_ext! [iblk, V, idx t]

/-- The modulation vectors' block. -/
theorem blk_md (t : Fin cfg0.N) (i : Fin 6) (l : Fin 1024) :
    iblk m c 1 t (ix3 0 i l) = (args m c).md (ix3 0 i l) := by
  blk_ext! [iblk, V, idx t]

/-- The norm's weights. -/
theorem blk_g (t : Fin cfg0.N) (l : Fin 1024) :
    iblk m c 2 t (ix2 0 l) = (args m c).g (ix2 0 l) := by
  blk_ext! [iblk, V, idx t]

/-- The up-projection's block. -/
theorem blk_wu (t : Fin cfg0.N) (k : Fin 1024) (l : Fin 512) :
    iblk m c 3 t (ix3 0 k l) = (args m c).wu (ix3 0 k (scol t l)) := by
  blk_ext! [iblk, V, idx t]

/-- The convolution's taps: the middle row of the three by three table. -/
theorem blk_wc (t : Fin cfg0.N) (i : Fin 3) (l : Fin 512) :
    iblk m c 4 t (ix3 0 ⟨3 + i.val, by omega⟩ l) = (args m c).wc (ix4 0 1 i (scol t l)) := by
  blk_ext! [iblk, V, idx t]

/-- The convolution's bias. -/
theorem blk_bc (t : Fin cfg0.N) (l : Fin 512) :
    iblk m c 5 t (ix3 0 0 l) = (args m c).bc (ix2 0 (scol t l)) := by
  blk_ext! [iblk, V, idx t]

/-- The down-projection's block. -/
theorem blk_wd (t : Fin cfg0.N) (k : Fin 256) (l : Fin 1024) :
    iblk m c 6 t (ix3 0 k l) = (args m c).wd (ix3 0 ⟨t.val % 11 * 256 + k.val, by omega⟩ l) := by
  blk_ext! [iblk, V, idx t]

/-- The final norm's weights. -/
theorem blk_gf (t : Fin cfg0.N) (l : Fin 1024) :
    iblk m c 7 t (ix2 0 l) = (args m c).gf (ix1 l) := by
  blk_ext! [iblk, V, idx t]

end Cert.Proof.Ffn
-- ==== Proof.FfnKernel.lean ====
module

public import proofs.«01_k».proof.Proof.FfnBlocks
public import proofs.«01_k».proof.Proof.Gen.Kernel2Ideal.Value
public import Idealize.ShloMosaic.Lib.Pipeline.ValueKit.Held
public import Idealize.ShloMosaic.Lib.Pipeline.ReadBack

@[expose] public section

set_option maxRecDepth 16384

/-! # The feed-forward call computes `Ffn.out` -/

open Idealize.ShloMosaic Idealize.ShloMosaic.TcCoe

namespace Cert.Proof.Ffn

open Cert.Kernel2Ideal Cert.Kernel2Ideal.Gen

noncomputable section

variable (m : (ℓ : Loc nD τ sig) → Buf (Elt Ideal) ℓ) (c : Dev nD)

/-- What the first point of a slab stores as the normalized and modulated tokens. -/
theorem pay_h2 (t : Fin cfg0.N) (r l : Fin 1024) :
    k0_pay3 (F := Ideal) (View.ld (iblk m c 1 t) (Rect.unit ![0, 3, 0] ![1, 1, 1024] inb_S1x6x1024_S1x1x1024_0_3_0))
      (View.ld (iblk m c 1 t) (Rect.unit ![0, 4, 0] ![1, 1, 1024] inb_S1x6x1024_S1x1x1024_0_4_0)) (iblk m c 0 t)
      (iblk m c 2 t) (ix2 r l) = h2 (args m c) (srow t r) l := by
  pointwise [k0_pay3, h2, rms]
  simp only [blk_x m c t, blk_g m c t]
  rw [blk_md m c t 4 l, blk_md m c t 3 l]

/-- At every point the first scratch holds the normalized and modulated tokens of the point's slab. -/
theorem held_h2 (t : Fin cfg0.N) (r l : Fin 1024) :
    (outsAt0 m c t.val t.isLt).2.1 (ix2 r l) = h2 (args m c) (srow t r) l := by
  refine (Pipeline.eq_of_write_hold_apply (fun n h => (outsAt0 m c n h).2.1) 11
    (fun t i => h2 (args m c) (srow t ⟨(i 0).val, (i 0).isLt⟩) ⟨(i 1).val, (i 1).isLt⟩) (fun t h i => ?_) (fun t h i => ?_)
    t (ix2 r l)).trans ?_
  · obtain ⟨r, l, rfl⟩ : ∃ (r l : Fin 1024), i = ix2 r l := ⟨i 0, i 1, eq_ix2 i⟩
    rw [outsAt0_A m c t h (by omega)]
    frame_out
    exact pay_h2 m c t r l
  · by_cases h1 : t.val % 11 = 10
    · rw [outsAt0_C m c t h h1]; rfl
    · rw [outsAt0_B m c t h h1]; rfl
  · refine congrArg₂ (h2 (args m c)) (Fin.ext ?_) rfl
    show 11 * (t.val / 11) / 11 * 1024 + r.val = t.val / 11 * 1024 + r.val
    omega

/-- The rows that begin a sequence. -/
theorem first_iff (r : Fin 1024) :
    IntOp.cmpi .eq (IntOp.andi (BitVec.ofNat 32 r.val) 255#32) 0#32 = BitVec.ofBool (decide (r.val % 256 = 0)) := by
  revert r; decide +kernel

/-- The rows that end a sequence. -/
theorem last_iff (r : Fin 1024) :
    IntOp.cmpi .eq (IntOp.andi (BitVec.ofNat 32 r.val) 255#32) 255#32 = BitVec.ofBool (decide (r.val % 256 = 255)) := by
  revert r; decide +kernel

/-- A selection by a decided bit. -/
theorem select_ofBool (p : Prop) [Decidable p] (a b : EReal) :
    Scalar.select (BitVec.ofBool (decide p)) a b = if p then a else b := by
  by_cases h : p <;> simp [h, Scalar.select]

section Tile

variable (t : Fin cfg0.N) (h : Vec Ideal S1024x1024 .bf16)
  (hh : ∀ r k, h (ix2 r k) = h2 (args m c) (srow t r) k)
include hh

/-- The up-projected row, at a column of the point's block. -/
theorem tile_up (r : Fin 1024) (l : Fin 512) :
    ∑ x, h (ix2 r x) * iblk m c 3 t (ix3 0 x l) = up (args m c) (srow t r) (scol t l) := by
  unfold up
  exact Finset.sum_congr rfl fun x _ => congrArg₂ (· * ·) (hh r x) (blk_wu m c t x l)

/-- The convolution of the point's block of columns. -/
theorem tile_cv (r : Fin 1024) (l : Fin 512) :
    k0_pay8 (F := Ideal) h (iblk m c 3 t)
        (View.ld (iblk m c 4 t) (Rect.unit ![0, 3, 0] ![1, 1, 512] inb_S1x9x512_S1x1x512_0_3_0))
        (View.ld (iblk m c 4 t) (Rect.unit ![0, 4, 0] ![1, 1, 512] inb_S1x9x512_S1x1x512_0_4_0)) (ix2 r l)
      + k0_pay7 (F := Ideal) h (iblk m c 3 t) (ix2 r l) * iblk m c 4 t (ix3 0 5 l) + iblk m c 5 t (ix3 0 0 l)
    = cv (args m c) (srow t r) (scol t l) := by
  pointwise [k0_pay7, k0_pay8, k0_pay6, k0_pay5]
  simp only [tile_up m c t h hh, first_iff, last_iff, select_ofBool]
  have ht := lt88 t
  have hr := r.isLt
  refine congrArg₂ (· + ·) (congrArg₂ (· + ·) (congrArg₂ (· + ·) ?_ ?_) ?_) ?_
  · rw [ite_mul, zero_mul]
    by_cases h0 : r.val % 256 = 0
    · rw [if_pos h0, if_pos (show (t.val / 11 * 1024 + r.val) % 256 = 0 by omega)]
    · rw [if_neg h0, if_neg (show ¬(t.val / 11 * 1024 + r.val) % 256 = 0 by omega), ← blk_wc m c t 0 l]
      refine congrArg (fun i => up (args m c) i _ * _) (Fin.ext ?_)
      show t.val / 11 * 1024 + (r.val + 1024 - 1) % 1024 = (t.val / 11 * 1024 + r.val + 8191) % 8192
      omega
  · exact congrArg (up (args m c) (srow t r) (scol t l) * ·) (blk_wc m c t 1 l)
  · rw [ite_mul, zero_mul]
    by_cases h0 : r.val % 256 = 255
    · rw [if_pos h0, if_pos (show (t.val / 11 * 1024 + r.val) % 256 = 255 by omega)]
    · rw [if_neg h0, if_neg (show ¬(t.val / 11 * 1024 + r.val) % 256 = 255 by omega), ← blk_wc m c t 2 l]
      refine congrArg (fun i => up (args m c) i _ * _) (Fin.ext ?_)
      show t.val / 11 * 1024 + (r.val + 1024 - 1023) % 1024 = (t.val / 11 * 1024 + r.val + 1) % 8192
      omega
  · exact blk_bc m c t l

end Tile

/-- What a point adds to the accumulator. -/
def term (t : Fin cfg0.N) (r l : Fin 1024) : EReal :=
  ∑ k : Fin 256, act (args m c) (srow t r) ⟨t.val % 11 * 256 + k.val, by omega⟩
    * (args m c).wd (ix3 0 ⟨t.val % 11 * 256 + k.val, by omega⟩ l)

/-- A point adds its block of the hidden layer, down-projected, to what the accumulator held. -/
theorem tile (t : Fin cfg0.N) (h : Vec Ideal S1024x1024 .bf16) (hh : ∀ r k, h (ix2 r k) = h2 (args m c) (srow t r) k)
    (acc : Vec Ideal S1024x1024 .f32) (r l : Fin 1024) :
    k0_pay1 (F := Ideal) (k0_pay7 h (iblk m c 3 t))
      (k0_pay8 h (iblk m c 3 t) (View.ld (iblk m c 4 t) (Rect.unit ![0, 3, 0] ![1, 1, 512] inb_S1x9x512_S1x1x512_0_3_0))
        (View.ld (iblk m c 4 t) (Rect.unit ![0, 4, 0] ![1, 1, 512] inb_S1x9x512_S1x1x512_0_4_0)))
      (View.ld (iblk m c 4 t) (Rect.unit ![0, 5, 0] ![1, 1, 512] inb_S1x9x512_S1x1x512_0_5_0)) (iblk m c 5 t) acc
      (iblk m c 6 t) (ix2 r l)
    = acc (ix2 r l) + term m c t r l := by
  pointwise [k0_pay1]
  simp only [tile_cv m c t h hh, blk_wd m c t]
  refine congrArg (acc (ix2 r l) + ·) (Finset.sum_congr rfl fun k _ => ?_)
  refine congrArg (· * _) ?_
  have hg : scol t ⟨k.val, by omega⟩ = (⟨t.val % 11 * 256 + k.val, by omega⟩ : Fin 5632) := Fin.ext (by
    show k.val / 256 * 2816 + t.val % 11 * 256 + k.val % 256 = t.val % 11 * 256 + k.val
    have := k.isLt
    omega)
  have hv : scol t ⟨256 + k.val, by omega⟩ = (⟨2816 + (t.val % 11 * 256 + k.val), by omega⟩ : Fin 5632) := Fin.ext (by
    show (256 + k.val) / 256 * 2816 + t.val % 11 * 256 + (256 + k.val) % 256 = 2816 + (t.val % 11 * 256 + k.val)
    have := k.isLt
    omega)
  rw [hg, hv]
  rfl

/-- What a point adds to the accumulator, at any number in place of the point. -/
def termN (n : ℕ) (i : S1024x1024.Idx) : EReal :=
  if hn : n < cfg0.N then term m c ⟨n, hn⟩ ⟨(i 0).val, (i 0).isLt⟩ ⟨(i 1).val, (i 1).isLt⟩ else 0

/-- At a point of the grid it is what the point adds. -/
theorem termN_val (t : Fin cfg0.N) (r l : Fin 1024) : termN m c t.val (ix2 r l) = term m c t r l := dif_pos t.isLt

/-- What the accumulator holds after a point: the sum of what the slab's points up to it added. -/
theorem held_acc (t : Fin cfg0.N) (r l : Fin 1024) :
    (outsAt0 m c t.val t.isLt).2.2 (ix2 r l)
      = 0 + ∑ k ∈ Finset.range (t.val % 11 + 1), termN m c (11 * (t.val / 11) + k) (ix2 r l) := by
  refine Pipeline.eq_sum_of_reset_step_apply (M := EReal) (fun n h => (outsAt0 m c n h).2.2) 11 (fun _ => 0) (termN m c)
    (fun t h i => ?_) (fun t h i => ?_) t (ix2 r l)
  · obtain ⟨r, l, rfl⟩ : ∃ (r l : Fin 1024), i = ix2 r l := ⟨i 0, i 1, eq_ix2 i⟩
    rw [outsAt0_A m c t h (by omega)]
    frame_out
    refine (tile m c t _ (pay_h2 m c t) _ r l).trans (congrArg₂ (· + ·) ?_ (termN_val m c t r l).symm)
    pointwise [k0_pay4]
  · obtain ⟨r, l, rfl⟩ : ∃ (r l : Fin 1024), i = ix2 r l := ⟨i 0, i 1, eq_ix2 i⟩
    have hp : ∀ r k, (outsAt0 m c (t.val - 1) (Nat.lt_of_le_of_lt (Nat.sub_le _ _) t.isLt)).2.1 (ix2 r k)
        = h2 (args m c) (srow t r) k := fun r k => by
      refine (held_h2 m c ⟨t.val - 1, Nat.lt_of_le_of_lt (Nat.sub_le _ _) t.isLt⟩ r k).trans ?_
      refine congrArg₂ (h2 (args m c)) (Fin.ext ?_) rfl
      show (t.val - 1) / 11 * 1024 + r.val = t.val / 11 * 1024 + r.val
      omega
    by_cases h1 : t.val % 11 = 10
    · rw [outsAt0_C m c t h h1]
      frame_out
      simp only [read_unread_whole]
      exact (tile m c t _ hp _ r l).trans (congrArg (_ + ·) (termN_val m c t r l).symm)
    · rw [outsAt0_B m c t h h1]
      frame_out
      simp only [read_unread_whole]
      exact (tile m c t _ hp _ r l).trans (congrArg (_ + ·) (termN_val m c t r l).symm)

/-- The last point of a slab stores the final normalization of the residual sum over its accumulator. -/
theorem out_C (t : Fin cfg0.N) (h : ¬t.val % 11 = 0) (h1 : t.val % 11 = 10) :
    (outsAt0 m c t.val t.isLt).1
      = k0_pay2 (F := Ideal) (View.ld (iblk m c 1 t) (Rect.unit ![0, 5, 0] ![1, 1, 1024] inb_S1x6x1024_S1x1x1024_0_5_0))
          (iblk m c 0 t) (outsAt0 m c t.val t.isLt).2.2 (iblk m c 7 t) := by
  rw [outsAt0_C m c t h h1]
  frame_out
  rfl

/-- The accumulator at the slab's last point is the whole down-projection. -/
theorem acc_last (t : Fin cfg0.N) (h1 : t.val % 11 = 10) (r l : Fin 1024) :
    (outsAt0 m c t.val t.isLt).2.2 (ix2 r l)
      = ∑ n : Fin 2816, act (args m c) (srow t r) n * (args m c).wd (ix3 0 n l) := by
  have ht := lt88 t
  rw [held_acc, h1, zero_add, ← Fin.sum_univ_eq_sum_range (fun k => termN m c (11 * (t.val / 11) + k) (ix2 r l)) 11]
  refine Eq.trans ?_ (Fin.sum_univ_univ_mul_add 11 256 fun n =>
    if hn : n < 2816 then act (args m c) (srow t r) ⟨n, hn⟩ * (args m c).wd (ix3 0 ⟨n, hn⟩ l) else 0)|>.trans ?_
  · refine Finset.sum_congr rfl fun s _ => ?_
    have hs := s.isLt
    have hN : 11 * (t.val / 11) + s.val < cfg0.N := lt_of_lt_of_eq (by omega : _ < 88) N_0.symm
    rw [termN_val m c ⟨11 * (t.val / 11) + s.val, hN⟩ r l]
    unfold term
    refine Finset.sum_congr rfl fun k _ => ?_
    have hk := k.isLt
    rw [dif_pos (show s.val * 256 + k.val < 2816 by omega)]
    have e1 : srow ⟨11 * (t.val / 11) + s.val, hN⟩ r = srow t r := Fin.ext (by
      show (11 * (t.val / 11) + s.val) / 11 * 1024 + r.val = t.val / 11 * 1024 + r.val
      omega)
    have e2 : (⟨(11 * (t.val / 11) + s.val) % 11 * 256 + k.val, by omega⟩ : Fin 2816)
        = ⟨s.val * 256 + k.val, by omega⟩ := Fin.ext (by
      show (11 * (t.val / 11) + s.val) % 11 * 256 + k.val = s.val * 256 + k.val
      omega)
    rw [e1]
    exact congrArg (fun n => act (args m c) (srow t r) n * (args m c).wd (ix3 0 n l)) e2
  · exact Finset.sum_congr rfl fun n _ => dif_pos n.isLt

/-- The last point of a slab stores the slab's rows of the result. -/
theorem out_last (t : Fin cfg0.N) (h1 : t.val % 11 = 10) (r l : Fin 1024) :
    (outsAt0 m c t.val t.isLt).1 (ix2 r l) = out (args m c) (srow t r) l := by
  rw [out_C m c t (by omega) h1]
  pointwise [k0_pay2, out, rms, x2]
  simp only [blk_x m c t, blk_gf m c t, acc_last m c t h1]
  have e : ∀ l, iblk m c 1 t (ix3 0 5 l) = (args m c).md (ix3 0 5 l) := fun l => blk_md m c t 5 l
  simp only [e]

/-- The array the call leaves is the result. -/
theorem result (r : Fin 8192) (l : Fin 1024) : Value.G8 m c (ix2 r l) = out (args m c) r l := by
  have hr := r.isLt
  have hl := l.isLt
  have hp : Value.pt8Of (ix2 r l) = 11 * (r.val / 1024) + 10 := by
    show 11 * (1 * (r.val / 1024 - 0) + 1 * (l.val / 1024 - 0)) + 10 = _
    omega
  have hN : 11 * (r.val / 1024) + 10 < cfg0.N := lt_of_lt_of_eq (by omega : _ < 88) N_0.symm
  unfold Value.G8
  rw [dif_pos (by rw [hp]; exact hN)]
  rw [← Value.outsAt0_sweep m c _ (by rw [hp]; exact hN)]
  have key : ∀ (n : ℕ) (hn : n < cfg0.N) (i : S1024x1024.Idx), n = 11 * (r.val / 1024) + 10 →
      i = ix2 ⟨r.val % 1024, by omega⟩ l → (outsAt0 m c n hn).1 i = out (args m c) r l := by
    rintro n hn i rfl rfl
    refine (out_last m c ⟨_, hN⟩ (by show (11 * (r.val / 1024) + 10) % 11 = 10; omega) _ l).trans ?_
    refine congrArg (fun r => out (args m c) r l) (Fin.ext ?_)
    show (11 * (r.val / 1024) + 10) / 11 * 1024 + r.val % 1024 = r.val
    omega
  refine key _ _ _ hp ?_
  funext a
  match a with
  | ⟨0, _⟩ => rfl
  | ⟨1, _⟩ => exact Fin.ext (Nat.mod_eq_of_lt hl)

end

end Cert.Proof.Ffn
-- ==== Proof.GridMath.lean ====
module

public import proofs.«01_k».proof.Kernel3Ideal
public import proofs.«01_k».proof.Proof.FfnMath

@[expose] public section

set_option maxRecDepth 16384

/-! # The samples' feed-forward half as mathematics over the extended reals

As for the prompt, with one set of modulation vectors per sample and a convolution over the sample's grid of 16 rows of 64
tokens. Row `r` of the token array is token `r % 64` of grid row `r % 1024 / 64` of sample `r / 1024`. -/

open Idealize.ShloMosaic

namespace Cert.Proof.Grid

open Cert.Kernel3Ideal

noncomputable section

/-- The arguments of the samples' feed-forward half: tokens, modulation vectors, the norm's weights, the up-projection,
    the convolution's taps and bias, the down-projection, and the final norm's weights. -/
structure Args where
  x : FVec Ideal S8192x1024 .f32
  md : FVec Ideal S8x6x1024 .f32
  g : FVec Ideal S1x1024 .f32
  wu : FVec Ideal S1x1024x5632 .f32
  wc : FVec Ideal S1x3x3x5632 .f32
  bc : FVec Ideal S1x5632 .f32
  wd : FVec Ideal S1x2816x1024 .f32
  gf : FVec Ideal S1024 .f32

variable (A : Args)

/-- The sample of row `r`. -/
abbrev smp (r : Fin 8192) : Fin 8 := ⟨r.val / 1024, by omega⟩

/-- The normalized and modulated row `r`, at channel `l`. -/
def h2 (r : Fin 8192) (l : Fin 1024) : EReal :=
  Ffn.rms (fun k => A.x (ix2 r k)) (fun k => A.g (ix2 0 k)) l * (1 + A.md (ix3 (smp r) 4 l)) + A.md (ix3 (smp r) 3 l)

/-- The up-projection of row `r`, at column `n`. -/
def up (r : Fin 8192) (n : Fin 5632) : EReal := ∑ k, h2 A r k * A.wu (ix3 0 k n)

/-- The up-projection of the token `i - 1` grid rows below and `j - 1` tokens right of row `r`, zero outside the grid. -/
def tap (i j : ℕ) (r : Fin 8192) (n : Fin 5632) : EReal :=
  if 1 ≤ r.val % 1024 / 64 + i ∧ r.val % 1024 / 64 + i ≤ 16 ∧ 1 ≤ r.val % 64 + j ∧ r.val % 64 + j ≤ 64 then
    up A ⟨(r.val + 64 * i + j + 8127) % 8192, Nat.mod_lt _ (by decide)⟩ n
  else 0

/-- The depthwise three by three convolution over the sample's grid, zero outside it, with its bias. -/
def cv (r : Fin 8192) (n : Fin 5632) : EReal :=
  A.bc (ix2 0 n) + tap A 0 0 r n * A.wc (ix4 0 0 0 n) + tap A 0 1 r n * A.wc (ix4 0 0 1 n)
    + tap A 0 2 r n * A.wc (ix4 0 0 2 n) + tap A 1 0 r n * A.wc (ix4 0 1 0 n) + tap A 1 1 r n * A.wc (ix4 0 1 1 n)
    + tap A 1 2 r n * A.wc (ix4 0 1 2 n) + tap A 2 0 r n * A.wc (ix4 0 2 0 n) + tap A 2 1 r n * A.wc (ix4 0 2 1 n)
    + tap A 2 2 r n * A.wc (ix4 0 2 2 n)

/-- `silu(gate) * value` at row `r` and column `n` of the hidden layer. -/
def act (r : Fin 8192) (n : Fin 2816) : EReal :=
  Ideal.div (cv A r ⟨n.val, by omega⟩) (1 + Ideal.exp (0 - cv A r ⟨n.val, by omega⟩))
    * cv A r ⟨2816 + n.val, by omega⟩

/-- The gated residual sum of row `r`, at channel `l`. -/
def x2 (r : Fin 8192) (l : Fin 1024) : EReal :=
  A.x (ix2 r l) + A.md (ix3 (smp r) 5 l) * ∑ n, act A r n * A.wd (ix3 0 n l)

/-- The result: the final normalization of the gated residual sum. -/
def out (r : Fin 8192) (l : Fin 1024) : EReal := Ffn.rms (x2 A r) (fun k => A.gf (ix1 k)) l

end

end Cert.Proof.Grid
-- ==== Proof.GridRef.lean ====
module

public import proofs.«01_k».proof.Proof.GridMath
public import proofs.«01_k».proof.Proof.Gen.Reference3Ideal.Read

@[expose] public section

set_option maxRecDepth 16384

/-! # The reference of the samples' feed-forward half computes `Grid.out` -/

open Idealize.ShloMosaic

namespace Cert.Proof.Grid

open Cert.Reference3Ideal.Read

variable (A : Args)

/-- Row `1024 * b + s` of the tokens, as sample `b`'s row `s`. -/
abbrev row (b : Fin 8) (s : Fin 1024) : Fin 8192 := ⟨b.val * 1024 + s.val, by omega⟩

/-- That row belongs to sample `b`. -/
theorem smp_row (b : Fin 8) (s : Fin 1024) : smp (row b s) = b := Fin.ext (by
  show (b.val * 1024 + s.val) / 1024 = b.val
  omega)

/-- Token `j` of grid row `i`, as a row of its sample. -/
abbrev cell (i : Fin 16) (j : Fin 64) : Fin 1024 := ⟨i.val * 64 + j.val, by omega⟩

/-- The reference's normalized and modulated tokens. -/
theorem ref_h2 (b : Fin 8) (s : Fin 1024) (l : Fin 1024) :
    val_main_v23 (F := Ideal) A.x A.md A.g (ix3 b s l) = h2 A (row b s) l := by
  unfold h2
  rw [smp_row]
  pointwise [val_main_v23, val_main_v22, val_main_v21, val_main_v20, val_main_v19, val_main_v18, val_main_cst_2,
    val_main_v17, val_main_v16, val_main_v15, val_main_v14, val_main_v13, val_main_v12, val_main_v11, val_main_v10,
    val_main_cst_1, val_main_v9, val_main_v8, val_main_cst_0, val_main_v7, val_main_v6, val_main_cst, val_main_v5,
    val_main_v4, val_main_v2, val_main_v1, val_main_v0, Ffn.rms]

/-- The reference's up-projection. -/
theorem ref_up (b : Fin 8) (s : Fin 1024) (n : Fin 5632) :
    val_main_v25 (F := Ideal) A.x A.md A.g A.wu (ix3 b s n) = up A (row b s) n := by
  pointwise [val_main_v25, val_main_v24, up]
  simp only [ref_h2]

/-- The reference's padded grid, read at a tap's position. -/
theorem ref_tap (b : Fin 8) (i : Fin 16) (j : Fin 64) (n : Fin 5632) (p q : ℕ) (hp : p < 3) (hq : q < 3)
    (i' : Fin 18) (j' : Fin 66) (hi : i'.val = i.val + p) (hj : j'.val = j.val + q) :
    val_main_v29 (F := Ideal) A.x A.md A.g A.wu (ix4 b i' j' n) = tap A p q (row b (cell i j)) n := by
  pointwise [val_main_v29, val_main_call0_v0, val_main_c, val_main_v28, tap]
  simp only [ref_up]
  have hz : FloatOps.sitofp (F := Ideal) FTy.f32 (0#32) = (0 : EReal) := by
    show (((0#32 : BitVec 32).toInt : ℝ) : EReal) = 0
    simp
  have hi16 := i.isLt
  have hj64 := j.isLt
  have hb := b.isLt
  by_cases h : 1 ≤ i.val + p ∧ i.val + p ≤ 16 ∧ 1 ≤ j.val + q ∧ j.val + q ≤ 64
  · rw [dif_pos (by omega), if_pos (by omega)]
    refine congrArg (fun r => up A r n) (Fin.ext ?_)
    show b.val * 1024 + ((i'.val - 1) * 64 + (j'.val - 1)) = (b.val * 1024 + (i.val * 64 + j.val) + 64 * p + q + 8127) % 8192
    omega
  · rw [dif_neg (by omega), if_neg (by omega), hz]

/-- The reference's convolution, over the grid. -/
theorem ref_grid (b : Fin 8) (i : Fin 16) (j : Fin 64) (n : Fin 5632) :
    val_main_v94 (F := Ideal) A.x A.md A.g A.wu A.wc A.bc (ix4 b i j n) = cv A (row b (cell i j)) n := by
  pointwise [val_main_v94, val_main_v93, val_main_v92, val_main_v91, val_main_v90, val_main_v89, val_main_v88,
    val_main_v87, val_main_v86, val_main_v85, val_main_v84, val_main_v83, val_main_v82, val_main_v81, val_main_v80,
    val_main_v79, val_main_v78, val_main_v77, val_main_v76, val_main_v75, val_main_v74, val_main_v73, val_main_v72,
    val_main_v71, val_main_v70, val_main_v69, val_main_v68, val_main_v67, val_main_v66, val_main_v65, val_main_v64,
    val_main_v63, val_main_v62, val_main_v61, val_main_v60, val_main_v59, val_main_v58, val_main_v57, val_main_v56,
    val_main_v55, val_main_v54, val_main_v53, val_main_v52, val_main_v51, val_main_v50, val_main_v49, val_main_v48,
    val_main_v47, val_main_v46, val_main_v45, val_main_v44, val_main_v43, val_main_v42, val_main_v41, val_main_v40,
    val_main_v39, val_main_v38, val_main_v37, val_main_v36, val_main_v35, val_main_v34, val_main_v33, val_main_v32,
    val_main_v31, val_main_v30, val_main_v27, val_main_v26, cv]
  have e := fun p q hp hq i' j' hi hj => ref_tap A b i j n p q hp hq i' j' hi hj
  have hi := i.isLt
  have hj := j.isLt
  rw [e 0 0 (by omega) (by omega) ⟨i.val, by omega⟩ ⟨j.val, by omega⟩ rfl rfl,
    e 0 1 (by omega) (by omega) ⟨i.val, by omega⟩ ⟨1 + j.val, by omega⟩ rfl (Nat.add_comm _ _),
    e 0 2 (by omega) (by omega) ⟨i.val, by omega⟩ ⟨2 + j.val, by omega⟩ rfl (Nat.add_comm _ _),
    e 1 0 (by omega) (by omega) ⟨1 + i.val, by omega⟩ ⟨j.val, by omega⟩ (Nat.add_comm _ _) rfl,
    e 1 1 (by omega) (by omega) ⟨1 + i.val, by omega⟩ ⟨1 + j.val, by omega⟩ (Nat.add_comm _ _) (Nat.add_comm _ _),
    e 1 2 (by omega) (by omega) ⟨1 + i.val, by omega⟩ ⟨2 + j.val, by omega⟩ (Nat.add_comm _ _) (Nat.add_comm _ _),
    e 2 0 (by omega) (by omega) ⟨2 + i.val, by omega⟩ ⟨j.val, by omega⟩ (Nat.add_comm _ _) rfl,
    e 2 1 (by omega) (by omega) ⟨2 + i.val, by omega⟩ ⟨1 + j.val, by omega⟩ (Nat.add_comm _ _) (Nat.add_comm _ _),
    e 2 2 (by omega) (by omega) ⟨2 + i.val, by omega⟩ ⟨2 + j.val, by omega⟩ (Nat.add_comm _ _) (Nat.add_comm _ _)]

/-- The reference's convolution. -/
theorem ref_cv (b : Fin 8) (s : Fin 1024) (n : Fin 5632) :
    val_main_v95 (F := Ideal) A.x A.md A.g A.wu A.wc A.bc (ix3 b s n) = cv A (row b s) n := by
  pointwise [val_main_v95]
  simp only [ref_grid]
  refine congrArg (fun s => cv A (row b s) n) (Fin.ext ?_)
  show s.val / 64 * 64 + s.val % 64 = s.val
  omega

/-- The reference's hidden activation. -/
theorem ref_act (b : Fin 8) (s : Fin 1024) (n : Fin 2816) :
    val_main_v99 (F := Ideal) A.x A.md A.g A.wu A.wc A.bc (ix3 b s n) = act A (row b s) n := by
  pointwise [val_main_v99, val_main_v98, val_main_call1_v5, val_main_call1_v4, val_main_call1_cst_0, val_main_call1_v3,
    val_main_call1_v2, val_main_call1_cst, val_main_call1_v1, val_main_call1_v0, val_main_v97, val_main_v96, act]
  simp only [ref_cv, Ffn.silu_eq]

/-- The reference's gated residual sum. -/
theorem ref_x2 (b : Fin 8) (s : Fin 1024) (l : Fin 1024) :
    val_main_v104 (F := Ideal) A.x A.md A.g A.wu A.wc A.bc A.wd (ix3 b s l) = x2 A (row b s) l := by
  unfold x2
  rw [smp_row]
  pointwise [val_main_v104, val_main_v103, val_main_v102, val_main_v101, val_main_v100, val_main_v3, val_main_v0]
  simp only [ref_act]

/-- The reference's result. -/
theorem ref_out (r : Fin 8192) (l : Fin 1024) :
    val_main_v118 (F := Ideal) A.x A.md A.g A.wu A.wc A.bc A.wd A.gf (ix2 r l) = out A r l := by
  pointwise [val_main_v118, val_main_v117, val_main_v116, val_main_v115, val_main_v114, val_main_v113, val_main_v112,
    val_main_v111, val_main_v110, val_main_cst_5, val_main_v109, val_main_v108, val_main_cst_4, val_main_v107,
    val_main_v106, val_main_cst_3, val_main_v105, out, Ffn.rms]
  have hr : row ⟨r.val / 1024, by omega⟩ ⟨r.val % 1024, by omega⟩ = r := Fin.ext (by
    show r.val / 1024 * 1024 + r.val % 1024 = r.val
    omega)
  simp only [ref_x2, hr]

end Cert.Proof.Grid
-- ==== Proof.GridBlocks.lean ====
module

public import proofs.«01_k».proof.Proof.GridMath
public import proofs.«01_k».proof.Proof.Gen.Kernel3Ideal.Frame
public import Idealize.ShloMosaic.Lib.Pipeline.ValueKit
public import Idealize.ShloMosaic.Lib.Pipeline.ValueKit.Point

@[expose] public section

set_option maxRecDepth 16384

/-! # The blocks the samples' feed-forward call reads, as parts of the arguments -/

open Idealize.ShloMosaic Idealize.ShloMosaic.TcCoe

namespace Cert.Proof.Grid

open Cert.Kernel3Ideal Cert.Kernel3Ideal.Gen

variable (m : (ℓ : Loc nD τ sig) → Buf (Elt Ideal) ℓ) (c : Dev nD)

/-- The arguments of the call, read from the memory. -/
abbrev args : Args where
  x := m ((c : Thread nD τ).loc main_arg0)
  md := m ((c : Thread nD τ).loc main_arg1)
  g := m ((c : Thread nD τ).loc main_arg2)
  wu := m ((c : Thread nD τ).loc main_arg3)
  wc := m ((c : Thread nD τ).loc main_arg4)
  bc := m ((c : Thread nD τ).loc main_arg5)
  wd := m ((c : Thread nD τ).loc main_arg6)
  gf := m ((c : Thread nD τ).loc main_arg7)

/-- The index of each input's block at a grid point. -/
theorem idx : ∀ t : Fin cfg0.N,
    win0_0.index t = ![t.val / 11, 0] ∧ win0_1.index t = ![t.val / 11, 0, 0] ∧ win0_2.index t = ![0, 0] ∧
    win0_3.index t = ![t.val % 11, 0, 0] ∧ win0_4.index t = ![t.val % 11, 0, 0] ∧ win0_5.index t = ![t.val % 11, 0, 0] ∧
    win0_6.index t = ![t.val % 11, 0, 0] ∧ win0_7.index t = ![0, 0] := by decide +kernel

/-- The grid has 88 points. -/
theorem lt88 (t : Fin cfg0.N) : t.val < 88 := lt_of_lt_of_eq t.isLt N_0

/-- Row `r` of the slab of tokens that point `t` works on. -/
abbrev srow (t : Fin cfg0.N) (r : Fin 1024) : Fin 8192 := ⟨t.val / 11 * 1024 + r.val, by have := lt88 t; omega⟩

/-- Column `l` of the hidden block that point `t` works on: its gate half, then its value half. -/
abbrev scol (t : Fin cfg0.N) (l : Fin 512) : Fin 5632 :=
  ⟨l.val / 256 * 2816 + t.val % 11 * 256 + l.val % 256, by omega⟩

/-- The tokens' block. -/
theorem blk_x (t : Fin cfg0.N) (r l : Fin 1024) :
    iblk m c 0 t (ix2 r l) = (args m c).x (ix2 (srow t r) l) := by
  blk_ext! [iblk, V, idx t]

/-- The modulation vectors' block. -/
theorem blk_md (t : Fin cfg0.N) (i : Fin 6) (l : Fin 1024) :
    iblk m c 1 t (ix3 0 i l) = (args m c).md (ix3 ⟨t.val / 11, by have := lt88 t; omega⟩ i l) := by
  blk_ext! [iblk, V, idx t]

/-- The norm's weights. -/
theorem blk_g (t : Fin cfg0.N) (l : Fin 1024) :
    iblk m c 2 t (ix2 0 l) = (args m c).g (ix2 0 l) := by
  blk_ext! [iblk, V, idx t]

/-- The up-projection's block. -/
theorem blk_wu (t : Fin cfg0.N) (k : Fin 1024) (l : Fin 512) :
    iblk m c 3 t (ix3 0 k l) = (args m c).wu (ix3 0 k (scol t l)) := by
  blk_ext! [iblk, V, idx t]

/-- The convolution's taps: tap `j` of row `i` of the three by three table is row `3 * i + j` of the block. -/
theorem blk_wc (t : Fin cfg0.N) (k : Fin 9) (l : Fin 512) :
    iblk m c 4 t (ix3 0 k l)
      = (args m c).wc (ix4 0 ⟨k.val / 3, by omega⟩ ⟨k.val % 3, by omega⟩ (scol t l)) := by
  blk_ext! [iblk, V, idx t]

/-- The convolution's bias. -/
theorem blk_bc (t : Fin cfg0.N) (l : Fin 512) :
    iblk m c 5 t (ix3 0 0 l) = (args m c).bc (ix2 0 (scol t l)) := by
  blk_ext! [iblk, V, idx t]

/-- The down-projection's block. -/
theorem blk_wd (t : Fin cfg0.N) (k : Fin 256) (l : Fin 1024) :
    iblk m c 6 t (ix3 0 k l) = (args m c).wd (ix3 0 ⟨t.val % 11 * 256 + k.val, by omega⟩ l) := by
  blk_ext! [iblk, V, idx t]

/-- The final norm's weights. -/
theorem blk_gf (t : Fin cfg0.N) (l : Fin 1024) :
    iblk m c 7 t (ix2 0 l) = (args m c).gf (ix1 l) := by
  blk_ext! [iblk, V, idx t]

end Cert.Proof.Grid
-- ==== Proof.GridKernel.lean ====
module

public import proofs.«01_k».proof.Proof.GridBlocks
public import proofs.«01_k».proof.Proof.Gen.Kernel3Ideal.Value
public import Idealize.ShloMosaic.Lib.Pipeline.ValueKit.Held
public import Idealize.ShloMosaic.Lib.Pipeline.ReadBack

@[expose] public section

set_option maxRecDepth 16384

/-! # The samples' feed-forward call computes `Grid.out` -/

open Idealize.ShloMosaic Idealize.ShloMosaic.TcCoe

namespace Cert.Proof.Grid

open Cert.Kernel3Ideal Cert.Kernel3Ideal.Gen

noncomputable section

variable (m : (ℓ : Loc nD τ sig) → Buf (Elt Ideal) ℓ) (c : Dev nD)

/-- A slab is a sample. -/
theorem smp_srow (t : Fin cfg0.N) (r : Fin 1024) : smp (srow t r) = ⟨t.val / 11, by have := lt88 t; omega⟩ := Fin.ext (by
  show (t.val / 11 * 1024 + r.val) / 1024 = t.val / 11
  omega)

/-- What the first point of a slab stores as the normalized and modulated tokens. -/
theorem pay_h2 (t : Fin cfg0.N) (r l : Fin 1024) :
    k0_pay3 (F := Ideal) (View.ld (iblk m c 1 t) (Rect.unit ![0, 3, 0] ![1, 1, 1024] inb_S1x6x1024_S1x1x1024_0_3_0))
      (View.ld (iblk m c 1 t) (Rect.unit ![0, 4, 0] ![1, 1, 1024] inb_S1x6x1024_S1x1x1024_0_4_0)) (iblk m c 0 t)
      (iblk m c 2 t) (ix2 r l) = h2 (args m c) (srow t r) l := by
  unfold h2
  rw [smp_srow t r]
  pointwise [k0_pay3, Ffn.rms]
  simp only [blk_x m c t, blk_g m c t]
  rw [blk_md m c t 4 l, blk_md m c t 3 l]

/-- At every point the first scratch holds the normalized and modulated tokens of the point's slab. -/
theorem held_h2 (t : Fin cfg0.N) (r l : Fin 1024) :
    (outsAt0 m c t.val t.isLt).2.1 (ix2 r l) = h2 (args m c) (srow t r) l := by
  refine (Pipeline.eq_of_write_hold_apply (fun n h => (outsAt0 m c n h).2.1) 11
    (fun t i => h2 (args m c) (srow t ⟨(i 0).val, (i 0).isLt⟩) ⟨(i 1).val, (i 1).isLt⟩) (fun t h i => ?_) (fun t h i => ?_)
    t (ix2 r l)).trans ?_
  · obtain ⟨r, l, rfl⟩ : ∃ (r l : Fin 1024), i = ix2 r l := ⟨i 0, i 1, eq_ix2 i⟩
    rw [outsAt0_A m c t h (by omega)]
    frame_out
    exact pay_h2 m c t r l
  · by_cases h1 : t.val % 11 = 10
    · rw [outsAt0_C m c t h h1]; rfl
    · rw [outsAt0_B m c t h h1]; rfl
  · refine congrArg₂ (h2 (args m c)) (Fin.ext ?_) rfl
    show 11 * (t.val / 11) / 11 * 1024 + r.val = t.val / 11 * 1024 + r.val
    omega

/-- The rows that begin a grid row. -/
theorem first_iff (r : Fin 1024) :
    IntOp.cmpi .eq (IntOp.andi (BitVec.ofNat 32 r.val) 63#32) 0#32 = BitVec.ofBool (decide (r.val % 64 = 0)) := by
  revert r; decide +kernel

/-- The rows that end a grid row. -/
theorem last_iff (r : Fin 1024) :
    IntOp.cmpi .eq (IntOp.andi (BitVec.ofNat 32 r.val) 63#32) 63#32 = BitVec.ofBool (decide (r.val % 64 = 63)) := by
  revert r; decide +kernel

/-- A selection by a decided bit. -/
theorem select_dec (p : Prop) [Decidable p] (a b : EReal) :
    Scalar.select (BitVec.ofBool (decide p)) a b = if p then a else b := by
  by_cases h : p <;> simp [h, Scalar.select]

/-- A tap of a grid row outside the grid. -/
theorem tap_out (A : Args) (i j : ℕ) (r : Fin 8192) (n : Fin 5632)
    (h : r.val % 1024 / 64 + i = 0 ∨ 16 < r.val % 1024 / 64 + i) : tap A i j r n = 0 :=
  if_neg (by omega)

/-- A tap of another grid row is a middle tap of the token 64 rows before or after. -/
theorem tap_shift (A : Args) (i j : ℕ) (r r' : Fin 8192) (n : Fin 5632) (hj : j < 3)
    (h : r'.val + 64 = r.val + 64 * i) (hs : r'.val / 1024 = r.val / 1024) : tap A 1 j r' n = tap A i j r n := by
  unfold tap
  have hr := r.isLt
  have hr' := r'.isLt
  by_cases h0 : 1 ≤ r.val % 64 + j ∧ r.val % 64 + j ≤ 64
  · rw [if_pos (by omega), if_pos (by omega)]
    refine congrArg (fun q => up A q n) (Fin.ext ?_)
    show (r'.val + 64 * 1 + j + 8127) % 8192 = (r.val + 64 * i + j + 8127) % 8192
    omega
  · rw [if_neg (by omega), if_neg (by omega)]

section Tile

variable (t : Fin cfg0.N) (h : Vec Ideal S1024x1024 .bf16)
  (hh : ∀ r k, h (ix2 r k) = h2 (args m c) (srow t r) k)
include hh

/-- The up-projected row, at a column of the point's block. -/
theorem tile_up (r : Fin 1024) (l : Fin 512) :
    ∑ x, h (ix2 r x) * iblk m c 3 t (ix3 0 x l) = up (args m c) (srow t r) (scol t l) := by
  unfold up
  exact Finset.sum_congr rfl fun x _ => congrArg₂ (· * ·) (hh r x) (blk_wu m c t x l)

/-- The middle taps of the point's block of columns. -/
theorem tile_mid (r : Fin 1024) (l : Fin 512) :
    k0_pay7 (F := Ideal) h (iblk m c 3 t) (ix2 r l) = tap (args m c) 1 0 (srow t r) (scol t l)
    ∧ k0_pay5 (F := Ideal) h (iblk m c 3 t) (ix2 r l) = tap (args m c) 1 1 (srow t r) (scol t l)
    ∧ k0_pay8 (F := Ideal) h (iblk m c 3 t) (ix2 r l) = tap (args m c) 1 2 (srow t r) (scol t l) := by
  have ht := lt88 t
  have hr := r.isLt
  refine ⟨?_, ?_, ?_⟩
  · pointwise [k0_pay7, k0_pay6, k0_pay5, tap]
    simp only [tile_up m c t h hh, first_iff, select_dec]
    by_cases h0 : r.val % 64 = 0
    · rw [if_pos h0, if_neg (by omega)]
    · rw [if_neg h0, if_pos (by omega)]
      refine congrArg (fun i => up (args m c) i _) (Fin.ext ?_)
      show t.val / 11 * 1024 + (r.val + 1024 - 1) % 1024 = (t.val / 11 * 1024 + r.val + 64 + 8127) % 8192
      omega
  · pointwise [k0_pay5, tap]
    simp only [tile_up m c t h hh]
    rw [if_pos (by omega)]
    refine congrArg (fun i => up (args m c) i _) (Fin.ext ?_)
    show t.val / 11 * 1024 + r.val = (t.val / 11 * 1024 + r.val + 64 + 1 + 8127) % 8192
    omega
  · pointwise [k0_pay8, k0_pay6, k0_pay5, tap]
    simp only [tile_up m c t h hh, last_iff, select_dec]
    by_cases h0 : r.val % 64 = 63
    · rw [if_pos h0, if_neg (by omega)]
    · rw [if_neg h0, if_pos (by omega)]
      refine congrArg (fun i => up (args m c) i _) (Fin.ext ?_)
      show t.val / 11 * 1024 + (r.val + 1024 - 1023) % 1024 = (t.val / 11 * 1024 + r.val + 64 + 2 + 8127) % 8192
      omega

end Tile

section Conv

variable (t : Fin cfg0.N)

/-- The convolution's taps of the block, as the argument's. -/
theorem blk_tap (i j : ℕ) (hi : i < 3) (hj : j < 3) (k : Fin 9) (hk : k.val = 3 * i + j) (l : Fin 512) :
    iblk m c 4 t (ix3 0 k l) = (args m c).wc (ix4 0 ⟨i, hi⟩ ⟨j, hj⟩ (scol t l)) := by
  have e1 : (⟨k.val / 3, by omega⟩ : Fin 3) = ⟨i, hi⟩ := Fin.ext (by show k.val / 3 = i; omega)
  have e2 : (⟨k.val % 3, by omega⟩ : Fin 3) = ⟨j, hj⟩ := Fin.ext (by show k.val % 3 = j; omega)
  exact (blk_wc m c t k l).trans (congrArg₂ (fun i j => (args m c).wc (ix4 0 i j (scol t l))) e1 e2)

/-- The grid row before: nothing on the slab's first 64 rows, the middle taps 64 rows earlier on the others. -/
theorem tile_before (r : Fin 1024) (l : Fin 512) :
    (if h : r.val < 64 then (0 : EReal) else
      tap (args m c) 1 0 (srow t ⟨r.val - 64, by omega⟩) (scol t l) * iblk m c 4 t (ix3 0 0 l)
        + tap (args m c) 1 1 (srow t ⟨r.val - 64, by omega⟩) (scol t l) * iblk m c 4 t (ix3 0 1 l)
        + tap (args m c) 1 2 (srow t ⟨r.val - 64, by omega⟩) (scol t l) * iblk m c 4 t (ix3 0 2 l))
    = tap (args m c) 0 0 (srow t r) (scol t l) * (args m c).wc (ix4 0 0 0 (scol t l))
      + tap (args m c) 0 1 (srow t r) (scol t l) * (args m c).wc (ix4 0 0 1 (scol t l))
      + tap (args m c) 0 2 (srow t r) (scol t l) * (args m c).wc (ix4 0 0 2 (scol t l)) := by
  have ht := lt88 t
  have hr := r.isLt
  by_cases h0 : r.val < 64
  · have e : ∀ j, tap (args m c) 0 j (srow t r) (scol t l) = 0 := fun j => tap_out _ _ _ _ _ (.inl (by
      show (t.val / 11 * 1024 + r.val) % 1024 / 64 + 0 = 0
      omega))
    rw [dif_pos h0, e, e, e]
    simp only [zero_mul, add_zero]
  · have e : ∀ j, j < 3 → tap (args m c) 1 j (srow t ⟨r.val - 64, by omega⟩) (scol t l)
        = tap (args m c) 0 j (srow t r) (scol t l) := fun j hj => tap_shift _ _ _ _ _ _ hj
      (by show t.val / 11 * 1024 + (r.val - 64) + 64 = t.val / 11 * 1024 + r.val + 64 * 0; omega)
      (by show (t.val / 11 * 1024 + (r.val - 64)) / 1024 = (t.val / 11 * 1024 + r.val) / 1024; omega)
    rw [dif_neg h0, e 0 (by omega), e 1 (by omega), e 2 (by omega),
      blk_tap m c t 0 0 (by omega) (by omega) 0 rfl, blk_tap m c t 0 1 (by omega) (by omega) 1 rfl,
      blk_tap m c t 0 2 (by omega) (by omega) 2 rfl]
    rfl

/-- The grid row after: nothing on the slab's last 64 rows, the middle taps 64 rows later on the others. -/
theorem tile_after (r : Fin 1024) (l : Fin 512) :
    (if h : r.val < 960 then
      tap (args m c) 1 0 (srow t ⟨64 + r.val, by omega⟩) (scol t l) * iblk m c 4 t (ix3 0 6 l)
        + tap (args m c) 1 1 (srow t ⟨64 + r.val, by omega⟩) (scol t l) * iblk m c 4 t (ix3 0 7 l)
        + tap (args m c) 1 2 (srow t ⟨64 + r.val, by omega⟩) (scol t l) * iblk m c 4 t (ix3 0 8 l)
      else (0 : EReal))
    = tap (args m c) 2 0 (srow t r) (scol t l) * (args m c).wc (ix4 0 2 0 (scol t l))
      + tap (args m c) 2 1 (srow t r) (scol t l) * (args m c).wc (ix4 0 2 1 (scol t l))
      + tap (args m c) 2 2 (srow t r) (scol t l) * (args m c).wc (ix4 0 2 2 (scol t l)) := by
  have ht := lt88 t
  have hr := r.isLt
  by_cases h0 : r.val < 960
  · have e : ∀ j, j < 3 → tap (args m c) 1 j (srow t ⟨64 + r.val, by omega⟩) (scol t l)
        = tap (args m c) 2 j (srow t r) (scol t l) := fun j hj => tap_shift _ _ _ _ _ _ hj
      (by show t.val / 11 * 1024 + (64 + r.val) + 64 = t.val / 11 * 1024 + r.val + 64 * 2; omega)
      (by show (t.val / 11 * 1024 + (64 + r.val)) / 1024 = (t.val / 11 * 1024 + r.val) / 1024; omega)
    rw [dif_pos h0, e 0 (by omega), e 1 (by omega), e 2 (by omega),
      blk_tap m c t 2 0 (by omega) (by omega) 6 rfl, blk_tap m c t 2 1 (by omega) (by omega) 7 rfl,
      blk_tap m c t 2 2 (by omega) (by omega) 8 rfl]
    rfl
  · have e : ∀ j, tap (args m c) 2 j (srow t r) (scol t l) = 0 := fun j => tap_out _ _ _ _ _ (.inr (by
      show 16 < (t.val / 11 * 1024 + r.val) % 1024 / 64 + 2
      omega))
    rw [dif_neg h0, e, e, e]
    simp only [zero_mul, add_zero]

/-- The convolution of the point's block of columns: the middle taps and the bias, then the rows before and after. -/
theorem tile_cv (r : Fin 1024) (l : Fin 512) :
    tap (args m c) 1 0 (srow t r) (scol t l) * iblk m c 4 t (ix3 0 3 l)
      + tap (args m c) 1 1 (srow t r) (scol t l) * iblk m c 4 t (ix3 0 4 l)
      + tap (args m c) 1 2 (srow t r) (scol t l) * iblk m c 4 t (ix3 0 5 l)
      + iblk m c 5 t (ix3 0 0 l)
      + (if h : r.val < 64 then (0 : EReal) else
        tap (args m c) 1 0 (srow t ⟨r.val - 64, by omega⟩) (scol t l) * iblk m c 4 t (ix3 0 0 l)
          + tap (args m c) 1 1 (srow t ⟨r.val - 64, by omega⟩) (scol t l) * iblk m c 4 t (ix3 0 1 l)
          + tap (args m c) 1 2 (srow t ⟨r.val - 64, by omega⟩) (scol t l) * iblk m c 4 t (ix3 0 2 l))
      + (if h : r.val < 960 then
        tap (args m c) 1 0 (srow t ⟨64 + r.val, by omega⟩) (scol t l) * iblk m c 4 t (ix3 0 6 l)
          + tap (args m c) 1 1 (srow t ⟨64 + r.val, by omega⟩) (scol t l) * iblk m c 4 t (ix3 0 7 l)
          + tap (args m c) 1 2 (srow t ⟨64 + r.val, by omega⟩) (scol t l) * iblk m c 4 t (ix3 0 8 l)
        else (0 : EReal))
    = cv (args m c) (srow t r) (scol t l) := by
  rw [tile_before, tile_after, blk_tap m c t 1 0 (by omega) (by omega) 3 rfl,
    blk_tap m c t 1 1 (by omega) (by omega) 4 rfl, blk_tap m c t 1 2 (by omega) (by omega) 5 rfl, blk_bc m c t l]
  unfold cv
  show tap (args m c) 1 0 (srow t r) (scol t l) * (args m c).wc (ix4 0 1 0 (scol t l))
      + tap (args m c) 1 1 (srow t r) (scol t l) * (args m c).wc (ix4 0 1 1 (scol t l))
      + tap (args m c) 1 2 (srow t r) (scol t l) * (args m c).wc (ix4 0 1 2 (scol t l))
      + (args m c).bc (ix2 0 (scol t l)) + _ + _ = _
  ac_rfl

end Conv

/-- What a point adds to the accumulator. -/
def term (t : Fin cfg0.N) (r l : Fin 1024) : EReal :=
  ∑ k : Fin 256, act (args m c) (srow t r) ⟨t.val % 11 * 256 + k.val, by omega⟩
    * (args m c).wd (ix3 0 ⟨t.val % 11 * 256 + k.val, by omega⟩ l)

/-- A point adds its block of the hidden layer, down-projected, to what the accumulator held. -/
theorem tile (t : Fin cfg0.N) (h : Vec Ideal S1024x1024 .bf16) (hh : ∀ r k, h (ix2 r k) = h2 (args m c) (srow t r) k)
    (acc : Vec Ideal S1024x1024 .f32) (r l : Fin 1024) :
    k0_pay1 (F := Ideal) (k0_pay8 h (iblk m c 3 t)) k0_pay10
      (k0_pay11 (k0_pay5 h (iblk m c 3 t)) (k0_pay7 h (iblk m c 3 t)) (k0_pay8 h (iblk m c 3 t))
        (k0_pay9 h (iblk m c 3 t) (View.ld (iblk m c 4 t) (Rect.unit ![0, 3, 0] ![1, 1, 512] inb_S1x9x512_S1x1x512_0_3_0))
          (View.ld (iblk m c 4 t) (Rect.unit ![0, 4, 0] ![1, 1, 512] inb_S1x9x512_S1x1x512_0_4_0)))
        (View.ld (iblk m c 4 t) (Rect.unit ![0, 5, 0] ![1, 1, 512] inb_S1x9x512_S1x1x512_0_5_0))
        (iblk m c 5 t)
        (View.ld (iblk m c 4 t) (Rect.unit ![0, 0, 0] ![1, 1, 512] inb_S1x9x512_S1x1x512_0_0_0))
        (View.ld (iblk m c 4 t) (Rect.unit ![0, 1, 0] ![1, 1, 512] inb_S1x9x512_S1x1x512_0_1_0))
        (View.ld (iblk m c 4 t) (Rect.unit ![0, 2, 0] ![1, 1, 512] inb_S1x9x512_S1x1x512_0_2_0)))
      (k0_pay12 (k0_pay5 h (iblk m c 3 t)) (k0_pay7 h (iblk m c 3 t))
        (View.ld (iblk m c 4 t) (Rect.unit ![0, 6, 0] ![1, 1, 512] inb_S1x9x512_S1x1x512_0_6_0))
        (View.ld (iblk m c 4 t) (Rect.unit ![0, 7, 0] ![1, 1, 512] inb_S1x9x512_S1x1x512_0_7_0)))
      (k0_pay13 (View.ld (iblk m c 4 t) (Rect.unit ![0, 8, 0] ![1, 1, 512] inb_S1x9x512_S1x1x512_0_8_0)))
      acc (iblk m c 6 t) (ix2 r l)
    = acc (ix2 r l) + term m c t r l := by
  pointwise [k0_pay1, k0_pay9, k0_pay10, k0_pay11, k0_pay12, k0_pay13]
  simp only [(tile_mid m c t h hh _ _).1, (tile_mid m c t h hh _ _).2.1, (tile_mid m c t h hh _ _).2.2, blk_wd m c t]
  simp only [tile_cv m c t]
  refine congrArg (acc (ix2 r l) + ·) (Finset.sum_congr rfl fun k _ => ?_)
  refine congrArg (· * _) ?_
  have hg : scol t ⟨k.val, by omega⟩ = (⟨t.val % 11 * 256 + k.val, by omega⟩ : Fin 5632) := Fin.ext (by
    show k.val / 256 * 2816 + t.val % 11 * 256 + k.val % 256 = t.val % 11 * 256 + k.val
    have := k.isLt
    omega)
  have hv : scol t ⟨256 + k.val, by omega⟩ = (⟨2816 + (t.val % 11 * 256 + k.val), by omega⟩ : Fin 5632) := Fin.ext (by
    show (256 + k.val) / 256 * 2816 + t.val % 11 * 256 + (256 + k.val) % 256 = 2816 + (t.val % 11 * 256 + k.val)
    have := k.isLt
    omega)
  rw [hg, hv]
  rfl

/-- What a point adds to the accumulator, at any number in place of the point. -/
def termN (n : ℕ) (i : S1024x1024.Idx) : EReal :=
  if hn : n < cfg0.N then term m c ⟨n, hn⟩ ⟨(i 0).val, (i 0).isLt⟩ ⟨(i 1).val, (i 1).isLt⟩ else 0

/-- At a point of the grid it is what the point adds. -/
theorem termN_val (t : Fin cfg0.N) (r l : Fin 1024) : termN m c t.val (ix2 r l) = term m c t r l := dif_pos t.isLt

/-- What the accumulator holds after a point: the sum of what the slab's points up to it added. -/
theorem held_acc (t : Fin cfg0.N) (r l : Fin 1024) :
    (outsAt0 m c t.val t.isLt).2.2 (ix2 r l)
      = 0 + ∑ k ∈ Finset.range (t.val % 11 + 1), termN m c (11 * (t.val / 11) + k) (ix2 r l) := by
  refine Pipeline.eq_sum_of_reset_step_apply (M := EReal) (fun n h => (outsAt0 m c n h).2.2) 11 (fun _ => 0) (termN m c)
    (fun t h i => ?_) (fun t h i => ?_) t (ix2 r l)
  · obtain ⟨r, l, rfl⟩ : ∃ (r l : Fin 1024), i = ix2 r l := ⟨i 0, i 1, eq_ix2 i⟩
    rw [outsAt0_A m c t h (by omega)]
    frame_out
    refine (tile m c t _ (pay_h2 m c t) _ r l).trans (congrArg₂ (· + ·) ?_ (termN_val m c t r l).symm)
    pointwise [k0_pay4]
  · obtain ⟨r, l, rfl⟩ : ∃ (r l : Fin 1024), i = ix2 r l := ⟨i 0, i 1, eq_ix2 i⟩
    have hp : ∀ r k, (outsAt0 m c (t.val - 1) (Nat.lt_of_le_of_lt (Nat.sub_le _ _) t.isLt)).2.1 (ix2 r k)
        = h2 (args m c) (srow t r) k := fun r k => by
      refine (held_h2 m c ⟨t.val - 1, Nat.lt_of_le_of_lt (Nat.sub_le _ _) t.isLt⟩ r k).trans ?_
      refine congrArg₂ (h2 (args m c)) (Fin.ext ?_) rfl
      show (t.val - 1) / 11 * 1024 + r.val = t.val / 11 * 1024 + r.val
      omega
    by_cases h1 : t.val % 11 = 10
    · rw [outsAt0_C m c t h h1]
      frame_out
      simp only [read_unread_whole]
      exact (tile m c t _ hp _ r l).trans (congrArg (_ + ·) (termN_val m c t r l).symm)
    · rw [outsAt0_B m c t h h1]
      frame_out
      simp only [read_unread_whole]
      exact (tile m c t _ hp _ r l).trans (congrArg (_ + ·) (termN_val m c t r l).symm)

/-- The last point of a slab stores the final normalization of the residual sum over its accumulator. -/
theorem out_C (t : Fin cfg0.N) (h : ¬t.val % 11 = 0) (h1 : t.val % 11 = 10) :
    (outsAt0 m c t.val t.isLt).1
      = k0_pay2 (F := Ideal) (View.ld (iblk m c 1 t) (Rect.unit ![0, 5, 0] ![1, 1, 1024] inb_S1x6x1024_S1x1x1024_0_5_0))
          (iblk m c 0 t) (outsAt0 m c t.val t.isLt).2.2 (iblk m c 7 t) := by
  rw [outsAt0_C m c t h h1]
  frame_out
  rfl

/-- The accumulator at the slab's last point is the whole down-projection. -/
theorem acc_last (t : Fin cfg0.N) (h1 : t.val % 11 = 10) (r l : Fin 1024) :
    (outsAt0 m c t.val t.isLt).2.2 (ix2 r l)
      = ∑ n : Fin 2816, act (args m c) (srow t r) n * (args m c).wd (ix3 0 n l) := by
  have ht := lt88 t
  rw [held_acc, h1, zero_add, ← Fin.sum_univ_eq_sum_range (fun k => termN m c (11 * (t.val / 11) + k) (ix2 r l)) 11]
  refine Eq.trans ?_ (Fin.sum_univ_univ_mul_add 11 256 fun n =>
    if hn : n < 2816 then act (args m c) (srow t r) ⟨n, hn⟩ * (args m c).wd (ix3 0 ⟨n, hn⟩ l) else 0)|>.trans ?_
  · refine Finset.sum_congr rfl fun s _ => ?_
    have hs := s.isLt
    have hN : 11 * (t.val / 11) + s.val < cfg0.N := lt_of_lt_of_eq (by omega : _ < 88) N_0.symm
    rw [termN_val m c ⟨11 * (t.val / 11) + s.val, hN⟩ r l]
    unfold term
    refine Finset.sum_congr rfl fun k _ => ?_
    have hk := k.isLt
    rw [dif_pos (show s.val * 256 + k.val < 2816 by omega)]
    have e1 : srow ⟨11 * (t.val / 11) + s.val, hN⟩ r = srow t r := Fin.ext (by
      show (11 * (t.val / 11) + s.val) / 11 * 1024 + r.val = t.val / 11 * 1024 + r.val
      omega)
    have e2 : (⟨(11 * (t.val / 11) + s.val) % 11 * 256 + k.val, by omega⟩ : Fin 2816)
        = ⟨s.val * 256 + k.val, by omega⟩ := Fin.ext (by
      show (11 * (t.val / 11) + s.val) % 11 * 256 + k.val = s.val * 256 + k.val
      omega)
    rw [e1]
    exact congrArg (fun n => act (args m c) (srow t r) n * (args m c).wd (ix3 0 n l)) e2
  · exact Finset.sum_congr rfl fun n _ => dif_pos n.isLt

/-- The last point of a slab stores the slab's rows of the result. -/
theorem out_last (t : Fin cfg0.N) (h1 : t.val % 11 = 10) (r l : Fin 1024) :
    (outsAt0 m c t.val t.isLt).1 (ix2 r l) = out (args m c) (srow t r) l := by
  rw [out_C m c t (by omega) h1]
  unfold out x2
  rw [smp_srow t r]
  pointwise [k0_pay2, Ffn.rms]
  simp only [blk_x m c t, blk_gf m c t, acc_last m c t h1]
  have e : ∀ l, iblk m c 1 t (ix3 0 5 l) = (args m c).md (ix3 ⟨t.val / 11, by have := lt88 t; omega⟩ 5 l) :=
    fun l => blk_md m c t 5 l
  simp only [e]

/-- The array the call leaves is the result. -/
theorem result (r : Fin 8192) (l : Fin 1024) : Value.G8 m c (ix2 r l) = out (args m c) r l := by
  have hr := r.isLt
  have hl := l.isLt
  have hp : Value.pt8Of (ix2 r l) = 11 * (r.val / 1024) + 10 := by
    show 11 * (1 * (r.val / 1024 - 0) + 1 * (l.val / 1024 - 0)) + 10 = _
    omega
  have hN : 11 * (r.val / 1024) + 10 < cfg0.N := lt_of_lt_of_eq (by omega : _ < 88) N_0.symm
  unfold Value.G8
  rw [dif_pos (by rw [hp]; exact hN)]
  rw [← Value.outsAt0_sweep m c _ (by rw [hp]; exact hN)]
  have key : ∀ (n : ℕ) (hn : n < cfg0.N) (i : S1024x1024.Idx), n = 11 * (r.val / 1024) + 10 →
      i = ix2 ⟨r.val % 1024, by omega⟩ l → (outsAt0 m c n hn).1 i = out (args m c) r l := by
    rintro n hn i rfl rfl
    refine (out_last m c ⟨_, hN⟩ (by show (11 * (r.val / 1024) + 10) % 11 = 10; omega) _ l).trans ?_
    refine congrArg (fun r => out (args m c) r l) (Fin.ext ?_)
    show (11 * (r.val / 1024) + 10) / 11 * 1024 + r.val % 1024 = r.val
    omega
  refine key _ _ _ hp ?_
  funext a
  match a with
  | ⟨0, _⟩ => rfl
  | ⟨1, _⟩ => exact Fin.ext (Nat.mod_eq_of_lt hl)

end

end Cert.Proof.Grid
-- ==== Proof.Mod.lean ====
module

public import proofs.«01_k».proof.Proof.FfnMath
public import proofs.«01_k».proof.Proof.Gen.Kernel4Ideal.Frame
public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ValueKit.Point

@[expose] public section

set_option maxRecDepth 16384

/-! # The modulation vectors: the call and the reference compute the same products -/

open Idealize.ShloMosaic Idealize.ShloMosaic.TcCoe

namespace Cert.Proof.Mod

open Cert.Kernel4Ideal Cert.Kernel4Ideal.Gen

noncomputable section

/-- The arguments: the stacked conditioning vectors, the weights and the bias. -/
structure Args where
  c : FVec Ideal S16x1024 .f32
  w : FVec Ideal S1x1024x6144 .f32
  b : FVec Ideal S1x6144 .f32

/-- Modulation value `n` of conditioning vector `r`: its `silu` times the weights, and the bias. -/
def val (A : Args) (r : Fin 16) (n : Fin 6144) : EReal :=
  (∑ k, Ideal.div (A.c (ix2 r k)) (1 + Ideal.exp (0 - A.c (ix2 r k))) * A.w (ix3 0 k n)) + A.b (ix2 0 n)

/-- All of them, as an array. -/
def arr (A : Args) : FVec Ideal S16x6144 .f32 := fun i => val A (i 0) (i 1)

/-- The reference computes them. -/
theorem ref_val (A : Args) : Reference4Ideal.Read.val_main_v6 (F := Ideal) A.c A.w A.b = arr A := by
  funext i
  obtain ⟨r, n, rfl⟩ : ∃ (r : Fin 16) (n : Fin 6144), i = ix2 r n := ⟨i 0, i 1, eq_ix2 i⟩
  show _ = val A r n
  pointwise [Reference4Ideal.Read.val_main_v6, Reference4Ideal.Read.val_main_v5, Reference4Ideal.Read.val_main_v4,
    Reference4Ideal.Read.val_main_v3, Reference4Ideal.Read.val_main_v2, Reference4Ideal.Read.val_main_v1,
    Reference4Ideal.Read.val_main_v0, Reference4Ideal.Read.val_main_call0_v5, Reference4Ideal.Read.val_main_call0_v4,
    Reference4Ideal.Read.val_main_call0_cst_0, Reference4Ideal.Read.val_main_call0_v3,
    Reference4Ideal.Read.val_main_call0_v2, Reference4Ideal.Read.val_main_call0_cst,
    Reference4Ideal.Read.val_main_call0_v1, Reference4Ideal.Read.val_main_call0_v0, val]
  simp only [Ffn.silu_eq]

variable (m : (ℓ : Loc nD τ sig) → Buf (Elt Ideal) ℓ) (c : Dev nD)

/-- The arguments of the call, read from the memory. -/
abbrev args : Args where
  c := m ((c : Thread nD τ).loc main_arg0)
  w := m ((c : Thread nD τ).loc main_arg1)
  b := m ((c : Thread nD τ).loc main_arg2)

/-- The index of each window's block at a grid point. -/
theorem idx : ∀ t : Fin cfg0.N, win0_0.index t = ![0, 0] ∧ win0_1.index t = ![0, t.val] ∧ win0_2.index t = ![0, t.val] ∧
    win0_3.index t = ![0, t.val] := by decide +kernel

/-- The grid has six points. -/
theorem lt6 (t : Fin cfg0.N) : t.val < 6 := lt_of_lt_of_eq t.isLt N_0

/-- Column `l` of the block of point `t`. -/
abbrev col (t : Fin cfg0.N) (l : Fin 1024) : Fin 6144 := ⟨t.val * 1024 + l.val, by have := lt6 t; omega⟩

/-- The conditioning vectors' block. -/
theorem blk_c (t : Fin cfg0.N) (r : Fin 16) (k : Fin 1024) : iblk m c 0 t (ix2 r k) = (args m c).c (ix2 r k) := by
  blk_ext! [iblk, V, idx t]

/-- The weights' block. -/
theorem blk_w (t : Fin cfg0.N) (k l : Fin 1024) : iblk m c 1 t (ix2 k l) = (args m c).w (ix3 0 k (col t l)) := by
  blk_ext! [iblk, V, idx t]

/-- The bias's block. -/
theorem blk_b (t : Fin cfg0.N) (l : Fin 1024) : iblk m c 2 t (ix2 0 l) = (args m c).b (ix2 0 (col t l)) := by
  blk_ext! [iblk, V, idx t]

/-- What a point stores. -/
theorem pay (t : Fin cfg0.N) (r : Fin 16) (l : Fin 1024) :
    out0_3 (F := Ideal) (iblk m c 0 t) (iblk m c 1 t) (iblk m c 2 t) (ix2 r l) = val (args m c) r (col t l) := by
  have h : out0_3 (F := Ideal) (iblk m c 0 t) (iblk m c 1 t) (iblk m c 2 t)
      = k0_pay1 (F := Ideal) (iblk m c 0 t) (iblk m c 1 t) (iblk m c 2 t) := by
    frame_out
  rw [h]
  pointwise [k0_pay1, val]
  simp only [blk_c m c t, blk_w m c t, blk_b m c t]

/-- What a point writes back. -/
theorem flushed (t : Fin cfg0.N) : (dats m 0 c).flushed 3 t = ((cfg0.win 3).blk t).view.read (Elt Ideal) (arr (args m c)) := by
  rw [Value.flushed3]
  funext y
  have h0 : (y 0).val < 16 := (y 0).isLt
  have h1 : (y 1).val < 1024 := (y 1).isLt
  have ht := lt6 t
  have ex : (cfg0.win 3).xinj (grid0.coords t) y = ix2 (⟨(y 0).val, h0⟩ : Fin 16) (⟨(y 1).val, h1⟩ : Fin 1024) := by
    funext a; apply Fin.ext
    match a with
    | ⟨0, _⟩ => rfl
    | ⟨1, _⟩ => rfl
  have ee : ((cfg0.win 3).blk t).view.emb y = ix2 (⟨(y 0).val, h0⟩ : Fin 16) (col t ⟨(y 1).val, h1⟩) := by
    funext a; apply Fin.ext
    match a with
    | ⟨0, _⟩ =>
      show win0_3.index t 0 * 16 + 1 * (y 0).val = (y 0).val
      rw [(idx t).2.2.2]
      show 0 * 16 + 1 * (y 0).val = (y 0).val
      omega
    | ⟨1, _⟩ =>
      show win0_3.index t 1 * 1024 + 1 * (y 1).val = t.val * 1024 + (y 1).val
      rw [(idx t).2.2.2]
      show t.val * 1024 + 1 * (y 1).val = t.val * 1024 + (y 1).val
      omega
  show out0_3 (F := Ideal) (iblk m c 0 t) (iblk m c 1 t) (iblk m c 2 t) ((cfg0.win 3).xinj (grid0.coords t) y)
    = arr (args m c) (((cfg0.win 3).blk t).view.emb y)
  rw [ex, ee]
  exact pay m c t _ _

/-- The array the call leaves. -/
theorem final : (dats m 0 c).arrAt 3 cfg0.N = arr (args m c) :=
  (dats m 0 c).arrAt_eq_of_cover 3 _ (fun t _ => flushed m c t) (fun (i : S16x6144.Idx) => by
    have h0 : (i 0).val < 16 := (i 0).isLt
    have h1 : (i 1).val < 6144 := (i 1).isLt
    have hN : (i 1).val / 1024 < cfg0.N := lt_of_lt_of_eq (by omega : _ < 6) N_0.symm
    refine ⟨⟨(i 1).val / 1024, hN⟩, flush0_3 _, ?_⟩
    show i ∈ ((View.whole main_v3).slice (win0_3.rect ⟨(i 1).val / 1024, hN⟩)).set
    rw [View.set_slice_whole, Rect.mem_set_unit]
    have hi := (idx ⟨(i 1).val / 1024, hN⟩).2.2.2
    intro a
    match a with
    | ⟨0, _⟩ =>
      show win0_3.index _ 0 * 16 ≤ (i 0).val ∧ (i 0).val < win0_3.index _ 0 * 16 + 16
      rw [hi]
      show 0 * 16 ≤ (i 0).val ∧ (i 0).val < 0 * 16 + 16
      omega
    | ⟨1, _⟩ =>
      show win0_3.index _ 1 * 1024 ≤ (i 1).val ∧ (i 1).val < win0_3.index _ 1 * 1024 + 1024
      rw [hi]
      show (i 1).val / 1024 * 1024 ≤ (i 1).val ∧ (i 1).val < (i 1).val / 1024 * 1024 + 1024
      omega)

end

end Cert.Proof.Mod
-- ==== Proof.MixMath.lean ====
module

public import proofs.«01_k».proof.KernelIdeal
public import proofs.«01_k».proof.Proof.FfnMath
public import Idealize.ShloMosaic.Lib.Pointwise
public import Idealize.ShloMosaic.Lib.IdealHost

@[expose] public section

set_option maxRecDepth 16384

/-! # The mixer as mathematics over the extended reals

Every quantity is a function of the sequence, of the position in it, of the channel, and of the arguments. The kernel and
the reference are each shown to compute these functions. -/

open Idealize.ShloMosaic

namespace Cert.Proof.Mix

open Cert.KernelIdeal

noncomputable section

/-- Position `l` of chunk `c` in a sequence. -/
abbrev pos (c : Fin 2) (l : Fin 128) : Fin 256 := ⟨c.val * 128 + l.val, by omega⟩

/-- The group of projections a head uses. -/
abbrev grp (h : Fin 8) : Fin 2 := ⟨h.val / 4, by omega⟩

/-! ## The chunked scan of one sequence in one direction -/

/-- A scan's inputs: values, step sizes, decay rates, and the two projections. -/
structure Scan where
  x : Fin 256 → Fin 8 → Fin 64 → EReal
  dt : Fin 256 → Fin 8 → EReal
  a : Fin 8 → EReal
  bm : Fin 256 → Fin 2 → Fin 128 → EReal
  cm : Fin 256 → Fin 2 → Fin 128 → EReal

namespace Scan

variable (S : Scan)

/-- The running sum of log decays within chunk `c`. -/
def cs (h : Fin 8) (c : Fin 2) (l : Fin 128) : EReal := ∑ u : Fin 128, if u ≤ l then S.dt (pos c u) h * S.a h else 0

/-- The attention-like weight of position `s` for position `l` of chunk `c`. -/
def score (h : Fin 8) (c : Fin 2) (l s : Fin 128) : EReal :=
  (∑ n : Fin 128, S.cm (pos c l) (grp h) n * S.bm (pos c s) (grp h) n) * (if s ≤ l then Ideal.exp (S.cs h c l - S.cs h c s) else 0)

/-- What a chunk's own positions contribute. -/
def ydiag (c : Fin 2) (l : Fin 128) (h : Fin 8) (p : Fin 64) : EReal :=
  ∑ s : Fin 128, (S.x (pos c s) h p * S.dt (pos c s) h) * S.score h c l s

/-- The state chunk `c` adds. -/
def cst (c : Fin 2) (h : Fin 8) (p : Fin 64) (n : Fin 128) : EReal :=
  ∑ s : Fin 128, (S.x (pos c s) h p * S.dt (pos c s) h) * Ideal.exp (S.cs h c 127 - S.cs h c s) * S.bm (pos c s) (grp h) n

/-- The state a chunk starts from: zero, then what the first chunk added. -/
def start (c : Fin 2) (h : Fin 8) (p : Fin 64) (n : Fin 128) : EReal := if c = 0 then 0 else S.cst 0 h p n

/-- The state at the end of the sequence. -/
def fin (h : Fin 8) (p : Fin 64) (n : Fin 128) : EReal := Ideal.exp (S.cs h 1 127) * S.cst 0 h p n + S.cst 1 h p n

/-- What the state a chunk starts from contributes. -/
def yoff (c : Fin 2) (l : Fin 128) (h : Fin 8) (p : Fin 64) : EReal :=
  (∑ n : Fin 128, S.start c h p n * S.cm (pos c l) (grp h) n) * Ideal.exp (S.cs h c l)

/-- The scan's output. -/
def y (c : Fin 2) (l : Fin 128) (h : Fin 8) (p : Fin 64) : EReal := S.ydiag c l h p + S.yoff c l h p

end Scan

/-! ## The layer -/

/-- The arguments: tokens, modulation vectors, the norm's weights, the input projection, both convolutions' taps and the
    second one's bias, the step sizes' biases, the log decay rates, the skip weights, the second norm's weights, and the
    output projection. -/
structure Args where
  x0 : FVec Ideal S32x256x1024 .f32
  x1 : FVec Ideal S1x6x1024 .f32
  x2 : FVec Ideal S1x1024 .f32
  x3 : FVec Ideal S1x1024x3088 .f32
  x4 : FVec Ideal S1x3x512 .f32
  x5 : FVec Ideal S1x3x1024 .f32
  x6 : FVec Ideal S1x1024 .f32
  x7 : FVec Ideal S1x2x8 .f32
  x8 : FVec Ideal S1x2x8 .f32
  x9 : FVec Ideal S1x8 .f32
  x10 : FVec Ideal S1x512 .f32
  x11 : FVec Ideal S1x1024x1024 .f32

variable (A : Args)

/-- The root-mean-square normalization of the row `v` with the weights `g`, `w` the row's length as a float. -/
def rms {n : Nat} (w : BitVec 32) (v g : Fin n → EReal) (l : Fin n) : EReal :=
  v l * Ideal.rsqrt (Ideal.div (∑ k, v k * v k) (Ideal.ofBits .f32 w) + Ideal.ofBits .f32 897988541#32) * g l

/-- The logistic-weighted value. -/
def silu (v : EReal) : EReal := Ideal.div v (1 + Ideal.exp (0 - v))

/-- The smooth positive part. -/
def sp (v : EReal) : EReal := max v 0 + Ideal.log1p (Ideal.exp (0 - max v (-v)))

/-- A convolution of width 3 along a sequence, zero outside it. -/
def conv3 (v : Fin 256 → EReal) (w0 w1 w2 : EReal) (p : Fin 256) : EReal :=
  (if p.val = 0 then 0 else v ⟨p.val - 1, by omega⟩) * w0 + v p * w1
    + (if h : p.val = 255 then 0 else v ⟨p.val + 1, by omega⟩) * w2

/-- The normalized and modulated token `p` of sequence `b`, at channel `l`. -/
def h1 (b : Fin 32) (p : Fin 256) (l : Fin 1024) : EReal :=
  rms 1149239296#32 (fun k => A.x0 (ix3 b p k)) (fun k => A.x2 (ix2 0 k)) l * (1 + A.x1 (ix3 0 1 l)) + A.x1 (ix3 0 0 l)

/-- The input projection. -/
def proj (b : Fin 32) (p : Fin 256) (j : Fin 3088) : EReal := ∑ k, h1 A b p k * A.x3 (ix3 0 k j)

/-- The gated short convolution, the first half of the mixed channels. -/
def outa (b : Fin 32) (p : Fin 256) (j : Fin 512) : EReal :=
  proj A b p ⟨512 + j.val, by omega⟩
    * conv3 (fun q => proj A b q ⟨1024 + j.val, by omega⟩ * proj A b q ⟨j.val, by omega⟩)
      (A.x4 (ix3 0 0 j)) (A.x4 (ix3 0 1 j)) (A.x4 (ix3 0 2 j)) p

/-- The scan's inputs after their convolution. -/
def xc (b : Fin 32) (p : Fin 256) (j : Fin 1024) : EReal :=
  silu (conv3 (fun q => proj A b q ⟨2048 + j.val, by omega⟩)
    (A.x5 (ix3 0 0 j)) (A.x5 (ix3 0 1 j)) (A.x5 (ix3 0 2 j)) p + A.x6 (ix2 0 j))

/-- The step size of direction `d`, head `h`. -/
def dt (b : Fin 32) (d : Fin 2) (p : Fin 256) (h : Fin 8) : EReal :=
  sp (proj A b p ⟨3072 + d.val * 8 + h.val, by omega⟩ + A.x7 (ix3 0 d h))

/-- The decay rate of direction `d`, head `h`. -/
def rate (d : Fin 2) (h : Fin 8) : EReal := 0 - Ideal.exp (A.x8 (ix3 0 d h))

/-- The values of head `h`. -/
def xv (b : Fin 32) (p : Fin 256) (h : Fin 8) (q : Fin 64) : EReal := xc A b p ⟨h.val * 64 + q.val, by omega⟩
/-- The first projection of group `g`. -/
def bv (b : Fin 32) (p : Fin 256) (g : Fin 2) (n : Fin 128) : EReal := xc A b p ⟨512 + (g.val * 128 + n.val), by omega⟩
/-- The second projection of group `g`. -/
def cv (b : Fin 32) (p : Fin 256) (g : Fin 2) (n : Fin 128) : EReal := xc A b p ⟨768 + (g.val * 128 + n.val), by omega⟩

/-- The forward scan of sequence `b`. -/
def fwd (b : Fin 32) : Scan := ⟨xv A b, dt A b 0, rate A 0, bv A b, cv A b⟩

/-- Position `p` counted from the sequence's end. -/
abbrev flip (p : Fin 256) : Fin 256 := ⟨255 - p.val, by omega⟩

/-- The backward scan of sequence `b`: the scan of its positions reversed. -/
def bwd (b : Fin 32) : Scan :=
  ⟨fun p => xv A b (flip p), fun p => dt A b 1 (flip p), rate A 1, fun p => bv A b (flip p), fun p => cv A b (flip p)⟩

/-- A scan's output at position `p` of the sequence. -/
def yat (S : Scan) (p : Fin 256) (h : Fin 8) (q : Fin 64) : EReal :=
  S.y ⟨p.val / 128, by omega⟩ ⟨p.val % 128, by omega⟩ h q

/-- Both scans and the skip. -/
def yfull (b : Fin 32) (p : Fin 256) (h : Fin 8) (q : Fin 64) : EReal :=
  yat (fwd A b) p h q + yat (bwd A b) (flip p) h q + xv A b p h q * A.x9 (ix2 0 h)

/-- The scans' output, gated. -/
def yz (b : Fin 32) (p : Fin 256) (j : Fin 512) : EReal :=
  yfull A b p ⟨j.val / 64, by omega⟩ ⟨j.val % 64, by omega⟩ * silu (proj A b p ⟨1536 + j.val, by omega⟩)

/-- The mixed channels. -/
def mix (b : Fin 32) (p : Fin 256) (j : Fin 1024) : EReal :=
  if h : j.val < 512 then outa A b p ⟨j.val, h⟩
  else rms 1140850688#32 (yz A b p) (fun k => A.x10 (ix2 0 k)) ⟨j.val - 512, by omega⟩

/-- The layer's output for token `p` of sequence `b`, at channel `l`. -/
def out (b : Fin 32) (p : Fin 256) (l : Fin 1024) : EReal :=
  A.x0 (ix3 b p l) + A.x1 (ix3 0 2 l) * ∑ j, mix A b p j * A.x11 (ix3 0 j l)

end

end Cert.Proof.Mix
-- ==== Proof.MixCum.lean ====
module

public import Idealize.ShloMosaic.Lib.Pointwise
public import Idealize.ShloMosaic.Lib.IdealHost

@[expose] public section

/-! # A running sum along the last axis, as a sum of the elements up to a position -/

open Idealize.ShloMosaic

namespace Cert.Proof.Mix

/-- Adding the values of a list one after another is adding their sum. -/
theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- The positions of a window that spans the last of four axes. -/
def winEquiv : Fin 128 ≃ (⟨4, ![1, 1, 1, 128]⟩ : Shape).Idx where
  toFun k := ix4 (0 : Fin 1) (0 : Fin 1) (0 : Fin 1) k
  invFun w := w 3
  left_inv _ := rfl
  right_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- A window that ends at each position, over an axis of 128, sums the elements up to it. -/
theorem cumsum4 {A B C : Nat} {u : Shape} (x : FVec Ideal ⟨4, ![A, B, C, 128]⟩ .f32)
    (init : FVec Ideal u .f32) (h : (⟨4, ![A, B, C, 128]⟩ : Shape).ReduceWindows ![1, 1, 1, 128] ![1, 1, 1, 1] ![0, 0, 0, 127] ![0, 0, 0, 0] ⟨4, ![A, B, C, 128]⟩)
    (hu : 0 < u.numel) (hi : init (Shape.Idx.first hu) = (0 : EReal)) (a : Fin A) (b : Fin B) (c : Fin C) (j : Fin 128) :
    Host.reduceWindowAdd ![1, 1, 1, 128] ![1, 1, 1, 1] ![0, 0, 0, 127] ![0, 0, 0, 0] x init h hu (ix4 a b c j)
      = ∑ k : Fin 128, if k ≤ j then x (ix4 a b c k) else 0 := by
  show Host.reduceWindow (α := EReal) (u := ⟨0, ![]⟩) (· + ·) ![1, 1, 1, 128] ![1, 1, 1, 1] ![0, 0, 0, 127] ![0, 0, 0, 0] x
    (fun _ => init (Shape.Idx.first hu)) h (by decide) (ix4 a b c j) = _
  rw [hi]
  unfold Host.reduceWindow
  dsimp only
  rw [foldl_add, zero_add, ← Fin.sum_univ_def]
  let lo : Fin 4 → Nat := ![0, 0, 0, 127]
  let p : (⟨4, ![1, 1, 1, 128]⟩ : Shape).Idx → Fin 4 → Nat := fun w d =>
    (ix4 a b c j (d.cast h.1.symm)).val * (![1, 1, 1, 1] : Fin 4 → Nat) d + (w d).val
  let G : (⟨4, ![1, 1, 1, 128]⟩ : Shape).Idx → EReal := fun w =>
    if hin : ∀ d : Fin 4, lo d ≤ p w d ∧ p w d - lo d < (![A, B, C, 128] : Fin 4 → Nat) d then x (fun d => ⟨p w d - lo d, (hin d).2⟩) else 0
  refine Eq.trans (b := ∑ i, G ((Shape.rowMajor ⟨4, ![1, 1, 1, 128]⟩).symm i)) (Finset.sum_congr rfl fun i _ => ?_) ?_
  · by_cases hin : ∀ d : Fin 4, lo d ≤ p ((Shape.rowMajor ⟨4, ![1, 1, 1, 128]⟩).symm i) d
        ∧ p ((Shape.rowMajor ⟨4, ![1, 1, 1, 128]⟩).symm i) d - lo d < (![A, B, C, 128] : Fin 4 → Nat) d
    · refine (dif_pos hin).trans ?_
      simp only [G]
      rw [dif_pos hin]
    · refine (dif_neg hin).trans ?_
      simp only [G]
      rw [dif_neg hin]
  rw [Equiv.sum_comp (Shape.rowMajor ⟨4, ![1, 1, 1, 128]⟩).symm G]
  rw [← Equiv.sum_comp winEquiv, ← Equiv.sum_comp (Equiv.addRight (j + 1)) (fun k : Fin 128 => if k ≤ j then x (ix4 a b c k) else 0)]
  refine Finset.sum_congr rfl fun k _ => ?_
  have hk := k.isLt
  have hj := j.isLt
  have hs : ((Equiv.addRight (j + 1)) k).val = (k.val + (j.val + 1) % 128) % 128 := by
    show (k + (j + 1)).val = _
    rw [Fin.val_add, Fin.val_add]
    rfl
  show (if hin : ∀ d : Fin 4, lo d ≤ p (winEquiv k) d ∧ p (winEquiv k) d - lo d < (![A, B, C, 128] : Fin 4 → Nat) d
    then x (fun d => ⟨p (winEquiv k) d - lo d, (hin d).2⟩) else 0) = _
  by_cases hq : 127 ≤ j.val + k.val
  · have hle : (Equiv.addRight (j + 1)) k ≤ j := by
      show ((Equiv.addRight (j + 1)) k).val ≤ j.val
      rw [hs]; omega
    rw [if_pos hle, dif_pos (by
      intro d
      match d with
      | ⟨0, _⟩ => exact ⟨Nat.zero_le _, (by have := a.isLt; show a.val * 1 + 0 - 0 < A; omega)⟩
      | ⟨1, _⟩ => exact ⟨Nat.zero_le _, (by have := b.isLt; show b.val * 1 + 0 - 0 < B; omega)⟩
      | ⟨2, _⟩ => exact ⟨Nat.zero_le _, (by have := c.isLt; show c.val * 1 + 0 - 0 < C; omega)⟩
      | ⟨3, _⟩ => exact (by show 127 ≤ j.val * 1 + k.val ∧ j.val * 1 + k.val - 127 < 128; omega))]
    refine congrArg x (funext fun d => Fin.ext ?_)
    match d with
    | ⟨0, _⟩ => show a.val * 1 + 0 - 0 = a.val; omega
    | ⟨1, _⟩ => show b.val * 1 + 0 - 0 = b.val; omega
    | ⟨2, _⟩ => show c.val * 1 + 0 - 0 = c.val; omega
    | ⟨3, _⟩ =>
      show j.val * 1 + k.val - 127 = ((Equiv.addRight (j + 1)) k).val
      rw [hs]; omega
  · have hle : ¬ (Equiv.addRight (j + 1)) k ≤ j := by
      show ¬ ((Equiv.addRight (j + 1)) k).val ≤ j.val
      rw [hs]; omega
    rw [if_neg hle, dif_neg]
    intro hin
    have := (hin 3).1
    change 127 ≤ j.val * 1 + k.val at this
    omega

end Cert.Proof.Mix
-- ==== Proof.MixScan.lean ====
module

public import proofs.«01_k».proof.Proof.MixMath
public import proofs.«01_k».proof.Proof.MixCum
public import proofs.«01_k».proof.Proof.Gen.ReferenceIdeal.Read

@[expose] public section

set_option maxRecDepth 16384
set_option maxHeartbeats 2000000

/-! # The reference's scan, as a function of its five inputs, computes `Scan.y` and `Scan.fin` -/

open Idealize.ShloMosaic

namespace Cert.Proof.Mix.Ref

open Cert.ReferenceIdeal Cert.ReferenceIdeal.Gen

attribute [local instance] Cert.ReferenceIdeal.Gen.facts

noncomputable section

variable {F : FTy → Type} [FloatOps F]

/-! ## The scan's stages -/

/-- The values times their step sizes, in chunks. -/
def xd (x : FVec F S32x256x8x64 .f32) (dt : FVec F S32x256x8 .f32) : FVec F S32x2x128x8x64 .f32 :=
  shapeCast _ (mulf x (broadcastInDim S32x256x8x64 ![0, 1, 2, 3] bcast_S32x256x8x1_S32x256x8x64_0_1_2_3
    (broadcastInDim S32x256x8x1 ![0, 1, 2] bcast_S32x256x8_S32x256x8x1_0_1_2 dt))) shapeCasts_S32x256x8x64_S32x2x128x8x64

/-- A projection, for every head, in chunks. -/
def heads (v : FVec F S32x256x2x128 .f32) : FVec F S32x2x128x8x128 .f32 :=
  shapeCast _ (shapeCast S32x256x8x128 (broadcastInDim S32x256x2x4x128 ![0, 1, 2, 4] bcast_S32x256x2x128_S32x256x2x4x128_0_1_2_4 v)
    shapeCasts_S32x256x2x4x128_S32x256x8x128) shapeCasts_S32x256x8x128_S32x2x128x8x128

/-- The log decays. -/
def da (dt : FVec F S32x256x8 .f32) (a : FVec F S8 .f32) : FVec F S32x8x2x128 .f32 :=
  transpose S32x8x2x128 [0, 3, 1, 2] (shapeCast S32x2x128x8 (mulf dt (broadcastInDim S32x256x8 ![0, 1, 2] bcast_S1x1x8_S32x256x8_0_1_2
    (broadcastInDim S1x1x8 ![2] bcast_S8_S1x1x8_2 a))) shapeCasts_S32x256x8_S32x2x128x8) transposes_S32x2x128x8_S32x8x2x128_0_3_1_2

/-- Their running sums. -/
def cum (v : FVec F S32x8x2x128 .f32) : FVec F S32x8x2x128 .f32 :=
  Host.reduceWindowAdd ![1, 1, 1, 128] ![1, 1, 1, 1] ![0, 0, 0, 127] ![0, 0, 0, 0] v
    (broadcastInDim S_ ![] bcast_S_S_ (constant S_ .f32 0x00000000#32))
    reduceWindows_S32x8x2x128_S32x8x2x128_w1s1p0_0_w1s1p0_0_w1s1p0_0_w128s1p127_0 h_S_

/-- The lower triangle. -/
def tril : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

/-- The decay from each position to each later one. -/
def decay (c : FVec F S32x8x2x128 .f32) : FVec F S32x8x2x128x128 .f32 :=
  Host.exp (select (broadcastInDim S32x8x2x128x128 ![3, 4] bcast_S128x128_S32x8x2x128x128_3_4 tril)
    (subf
      (broadcastInDim S32x8x2x128x128 ![0, 1, 2, 3, 4] bcast_S32x8x2x128x1_S32x8x2x128x128_0_1_2_3_4
        (broadcastInDim S32x8x2x128x1 ![0, 1, 2, 3] bcast_S32x8x2x128_S32x8x2x128x1_0_1_2_3 c))
      (broadcastInDim S32x8x2x128x128 ![0, 1, 2, 3, 4] bcast_S32x8x2x1x128_S32x8x2x128x128_0_1_2_3_4
        (broadcastInDim S32x8x2x1x128 ![0, 1, 2, 4] bcast_S32x8x2x128_S32x8x2x1x128_0_1_2_4 c)))
    (broadcastInDim S32x8x2x128x128 ![] bcast_S_S32x8x2x128x128 (id (constant S_ .f32 0xFF800000#32))))

/-- What each chunk's own positions contribute. -/
def diag (x : FVec F S32x2x128x8x64 .f32) (b c : FVec F S32x2x128x8x128 .f32) (l : FVec F S32x8x2x128x128 .f32) : FVec F S32x2x128x8x64 .f32 :=
  transpose S32x2x128x8x64 [0, 1, 4, 2, 3]
    (Host.dotGeneral dot_S32x2x128x8x64_S32x8x2x128x128_S32x2x8x64x128_2_4_4_3_013_021 none x
      (mulf (Host.dotGeneral dot_S32x2x128x8x128_S32x2x128x8x128_S32x8x2x128x128_4_4_2_2_031_031 none c b) l))
    transposes_S32x2x8x64x128_S32x2x128x8x64_0_1_4_2_3

/-- The state each chunk adds. -/
def chunk (x : FVec F S32x2x128x8x64 .f32) (b : FVec F S32x2x128x8x128 .f32) (c : FVec F S32x8x2x128 .f32) : FVec F S32x2x8x64x128 .f32 :=
  Host.dotGeneral dot_S32x2x128x8x64_S32x2x128x8x128_S32x2x8x64x128_2_2_4_4_013_013 none
    (mulf x (broadcastInDim S32x2x128x8x64 ![0, 1, 2, 3, 4] bcast_S32x2x128x8x1_S32x2x128x8x64_0_1_2_3_4
      (broadcastInDim S32x2x128x8x1 ![0, 1, 2, 3] bcast_S32x2x128x8_S32x2x128x8x1_0_1_2_3
        (transpose S32x2x128x8 [0, 2, 3, 1]
          (Host.exp (subf (broadcastInDim S32x8x2x128 ![0, 1, 2, 3] bcast_S32x8x2x1_S32x8x2x128_0_1_2_3
            (extractStridedSlice S32x8x2x1 ![0, 0, 0, 127] c slices_S32x8x2x128_S32x8x2x1_0_0_0_127)) c))
          transposes_S32x8x2x128_S32x2x128x8_0_2_3_1)))) b

/-- Each chunk's whole decay. -/
def whole (c : FVec F S32x8x2x128 .f32) : FVec F S32x8x2 .f32 :=
  Host.exp (shapeCast S32x8x2 (extractStridedSlice S32x8x2x1 ![0, 0, 0, 127] c slices_S32x8x2x128_S32x8x2x1_0_0_0_127) shapeCasts_S32x8x2x1_S32x8x2)

/-- No state. -/
def none0 : FVec F S32x8x64x128 .f32 := broadcastInDim S32x8x64x128 ![] bcast_S_S32x8x64x128 (constant S_ .f32 0x00000000#32)

/-- The state after the first chunk. -/
def first (w : FVec F S32x8x2 .f32) (k : FVec F S32x2x8x64x128 .f32) : FVec F S32x8x64x128 .f32 :=
  addf
    (mulf (broadcastInDim S32x8x64x128 ![0, 1, 2, 3] bcast_S32x8x1x1_S32x8x64x128_0_1_2_3 (broadcastInDim S32x8x1x1 ![0, 1] bcast_S32x8_S32x8x1x1_0_1
      (shapeCast S32x8 (extractStridedSlice S32x8x1 ![0, 0, 0] w slices_S32x8x2_S32x8x1_0_0_0) shapeCasts_S32x8x1_S32x8))) none0)
    (shapeCast S32x8x64x128 (extractStridedSlice S32x1x8x64x128 ![0, 0, 0, 0, 0] k slices_S32x2x8x64x128_S32x1x8x64x128_0_0_0_0_0) shapeCasts_S32x1x8x64x128_S32x8x64x128)

/-- The state after the second chunk. -/
def last (w : FVec F S32x8x2 .f32) (k : FVec F S32x2x8x64x128 .f32) (s : FVec F S32x8x64x128 .f32) : FVec F S32x8x64x128 .f32 :=
  addf
    (mulf (broadcastInDim S32x8x64x128 ![0, 1, 2, 3] bcast_S32x8x1x1_S32x8x64x128_0_1_2_3 (broadcastInDim S32x8x1x1 ![0, 1] bcast_S32x8_S32x8x1x1_0_1
      (shapeCast S32x8 (extractStridedSlice S32x8x1 ![0, 0, 1] w slices_S32x8x2_S32x8x1_0_0_1) shapeCasts_S32x8x1_S32x8))) s)
    (shapeCast S32x8x64x128 (extractStridedSlice S32x1x8x64x128 ![0, 1, 0, 0, 0] k slices_S32x2x8x64x128_S32x1x8x64x128_0_1_0_0_0) shapeCasts_S32x1x8x64x128_S32x8x64x128)

/-- What the state each chunk starts from contributes. -/
def off (s : FVec F S32x8x64x128 .f32) (m : FVec F S32x2x128x8x128 .f32) (c : FVec F S32x8x2x128 .f32) : FVec F S32x2x128x8x64 .f32 :=
  mulf
    (transpose S32x2x128x8x64 [0, 1, 4, 2, 3]
      (Host.dotGeneral dot_S32x2x8x64x128_S32x2x128x8x128_S32x2x8x64x128_4_4_3_2_012_013 none
        (concatenate S32x2x8x64x128 1
          [⟨S32x1x8x64x128, broadcastInDim S32x1x8x64x128 ![0, 2, 3, 4] bcast_S32x8x64x128_S32x1x8x64x128_0_2_3_4 none0⟩,
            ⟨S32x1x8x64x128, broadcastInDim S32x1x8x64x128 ![0, 2, 3, 4] bcast_S32x8x64x128_S32x1x8x64x128_0_2_3_4 s⟩]
          concatenates_S32x1x8x64x128_S32x1x8x64x128_S32x2x8x64x128_d1) m)
      transposes_S32x2x8x64x128_S32x2x128x8x64_0_1_4_2_3)
    (broadcastInDim S32x2x128x8x64 ![0, 1, 2, 3, 4] bcast_S32x2x128x8x1_S32x2x128x8x64_0_1_2_3_4
      (broadcastInDim S32x2x128x8x1 ![0, 1, 2, 3] bcast_S32x2x128x8_S32x2x128x8x1_0_1_2_3
        (transpose S32x2x128x8 [0, 2, 3, 1] (Host.exp c) transposes_S32x8x2x128_S32x2x128x8_0_2_3_1)))

/-- The scan's output. -/
def scanY (x : FVec F S32x256x8x64 .f32) (dt : FVec F S32x256x8 .f32) (a : FVec F S8 .f32) (b c : FVec F S32x256x2x128 .f32) : FVec F S32x256x8x64 .f32 :=
  shapeCast S32x256x8x64
    (addf (diag (xd x dt) (heads b) (heads c) (decay (cum (da dt a))))
      (off (first (whole (cum (da dt a))) (chunk (xd x dt) (heads b) (cum (da dt a)))) (heads c) (cum (da dt a))))
    shapeCasts_S32x2x128x8x64_S32x256x8x64

/-- The scan's last state. -/
def scanS (x : FVec F S32x256x8x64 .f32) (dt : FVec F S32x256x8 .f32) (a : FVec F S8 .f32) (b : FVec F S32x256x2x128 .f32) : FVec F S32x8x64x128 .f32 :=
  last (whole (cum (da dt a))) (chunk (xd x dt) (heads b) (cum (da dt a)))
    (first (whole (cum (da dt a))) (chunk (xd x dt) (heads b) (cum (da dt a))))

/-! ## The stages at an index -/

section
variable (x : FVec Ideal S32x256x8x64 .f32) (dt : FVec Ideal S32x256x8 .f32) (a : FVec Ideal S8 .f32) (bm cm : FVec Ideal S32x256x2x128 .f32)

/-- Sequence `b`'s scan inputs. -/
def scanOf (b : Fin 32) : Scan :=
  ⟨fun p h q => x (ix4 b p h q), fun p h => dt (ix3 b p h), fun h => a (ix1 h), fun p g n => bm (ix4 b p g n), fun p g n => cm (ix4 b p g n)⟩

theorem xd_apply (b : Fin 32) (c : Fin 2) (l : Fin 128) (h : Fin 8) (q : Fin 64) :
    xd x dt (ix5 b c l h q) = x (ix4 b (pos c l) h q) * dt (ix3 b (pos c l) h) := by
  pointwise [xd]

theorem heads_apply (v : FVec Ideal S32x256x2x128 .f32) (b : Fin 32) (c : Fin 2) (l : Fin 128) (h : Fin 8) (n : Fin 128) :
    heads v (ix5 b c l h n) = v (ix4 b (pos c l) (grp h) n) := by
  pointwise [heads]

theorem da_apply (b : Fin 32) (h : Fin 8) (c : Fin 2) (l : Fin 128) :
    da dt a (ix4 b h c l) = dt (ix3 b (pos c l) h) * a (ix1 h) := by
  pointwise [da]

theorem cum_apply (v : FVec Ideal S32x8x2x128 .f32) (b : Fin 32) (h : Fin 8) (c : Fin 2) (l : Fin 128) :
    cum v (ix4 b h c l) = ∑ u : Fin 128, if u ≤ l then v (ix4 b h c u) else 0 := by
  refine cumsum4 v _ _ _ ?_ b h c l
  pointwise []

theorem tril_apply (l s : Fin 128) : tril (ix2 l s) = if s ≤ l then 1#1 else 0#1 := by
  pointwise [tril]
  revert l s
  decide +kernel

theorem decay_apply (v : FVec Ideal S32x8x2x128 .f32) (b : Fin 32) (h : Fin 8) (c : Fin 2) (l s : Fin 128) :
    decay v (ix5 b h c l s) = if s ≤ l then Ideal.exp (v (ix4 b h c l) - v (ix4 b h c s)) else 0 := by
  pointwise [decay]
  simp only [tril_apply]
  by_cases hl : s ≤ l
  · rw [if_pos hl, if_pos hl]
    rfl
  · rw [if_neg hl, if_neg hl]
    refine (congrArg Ideal.exp (a₂ := ⊥) ?_).trans rfl
    show Ideal.ofBits .f32 4286578688#32 = ⊥
    simp [Ideal.ofBits, Ideal.ieee]

theorem diag_apply (u : FVec Ideal S32x2x128x8x64 .f32) (v w : FVec Ideal S32x2x128x8x128 .f32) (r : FVec Ideal S32x8x2x128x128 .f32)
    (b : Fin 32) (c : Fin 2) (l : Fin 128) (h : Fin 8) (q : Fin 64) :
    diag u v w r (ix5 b c l h q)
      = ∑ s : Fin 128, u (ix5 b c s h q) * ((∑ n : Fin 128, w (ix5 b c l h n) * v (ix5 b c s h n)) * r (ix5 b h c l s)) := by
  pointwise [diag]

theorem chunk_apply (u : FVec Ideal S32x2x128x8x64 .f32) (v : FVec Ideal S32x2x128x8x128 .f32) (r : FVec Ideal S32x8x2x128 .f32)
    (b : Fin 32) (c : Fin 2) (h : Fin 8) (q : Fin 64) (n : Fin 128) :
    chunk u v r (ix5 b c h q n)
      = ∑ s : Fin 128, u (ix5 b c s h q) * Ideal.exp (r (ix4 b h c 127) - r (ix4 b h c s)) * v (ix5 b c s h n) := by
  pointwise [chunk]

theorem whole_apply (r : FVec Ideal S32x8x2x128 .f32) (b : Fin 32) (h : Fin 8) (c : Fin 2) :
    whole r (ix3 b h c) = Ideal.exp (r (ix4 b h c 127)) := by
  pointwise [whole]

theorem first_apply (w : FVec Ideal S32x8x2 .f32) (k : FVec Ideal S32x2x8x64x128 .f32) (b : Fin 32) (h : Fin 8) (q : Fin 64) (n : Fin 128) :
    first w k (ix4 b h q n) = k (ix5 b 0 h q n) := by
  pointwise [first, none0]
  rw [mul_zero, zero_add]

theorem last_apply (w : FVec Ideal S32x8x2 .f32) (k : FVec Ideal S32x2x8x64x128 .f32) (s : FVec Ideal S32x8x64x128 .f32) (b : Fin 32) (h : Fin 8) (q : Fin 64) (n : Fin 128) :
    last w k s (ix4 b h q n) = w (ix3 b h 1) * s (ix4 b h q n) + k (ix5 b 1 h q n) := by
  pointwise [last]

theorem off_apply (s : FVec Ideal S32x8x64x128 .f32) (m : FVec Ideal S32x2x128x8x128 .f32) (r : FVec Ideal S32x8x2x128 .f32)
    (b : Fin 32) (c : Fin 2) (l : Fin 128) (h : Fin 8) (q : Fin 64) :
    off s m r (ix5 b c l h q)
      = (∑ n : Fin 128, (if c = 0 then 0 else s (ix4 b h q n)) * m (ix5 b c l h n)) * Ideal.exp (r (ix4 b h c l)) := by
  pointwise [off, none0]
  have hc : (c.val < 1) = (c = 0) := propext ⟨fun h => Fin.ext (Nat.lt_one_iff.1 h), fun h => h ▸ Nat.one_pos⟩
  simp only [hc, dite_eq_ite]

theorem scanY_apply (b : Fin 32) (p : Fin 256) (h : Fin 8) (q : Fin 64) :
    scanY x dt a bm cm (ix4 b p h q) = yat (scanOf x dt a bm cm b) p h q := by
  pointwise [scanY, yat, Scan.y]
  simp only [diag_apply, off_apply, xd_apply, heads_apply, decay_apply, cum_apply, da_apply, first_apply, chunk_apply, whole_apply,
    Scan.ydiag, Scan.score, Scan.cs, Scan.yoff, Scan.start, Scan.cst, scanOf]

theorem scanS_apply (b : Fin 32) (h : Fin 8) (q : Fin 64) (n : Fin 128) :
    scanS x dt a bm (ix4 b h q n) = (scanOf x dt a bm cm b).fin h q n := by
  unfold scanS
  simp only [last_apply, xd_apply, heads_apply, cum_apply, da_apply, first_apply, chunk_apply, whole_apply,
    Scan.fin, Scan.cs, Scan.cst, scanOf]

end

end

end Cert.Proof.Mix.Ref
-- ==== Proof.MixRef.lean ====
module

public import proofs.«01_k».proof.Proof.MixScan

@[expose] public section

set_option maxRecDepth 16384
set_option maxHeartbeats 2000000

/-! # The reference computes the mixer's functions -/

open Idealize.ShloMosaic

namespace Cert.Proof.Mix.Ref

open Cert.ReferenceIdeal Cert.ReferenceIdeal.Read

noncomputable section

variable (A : Args)

/-- Reversing the second of four axes. -/
theorem rev4 {n0 n2 n3 : Nat} (x : (⟨4, ![n0, 256, n2, n3]⟩ : Shape).Idx → EReal) (a : Fin n0) (p : Fin 256) (c : Fin n2) (d : Fin n3) :
    Host.reverse [1] x (ix4 a p c d) = x (ix4 a (flip p) c d) := by
  refine congrArg x (funext fun i => ?_)
  match i with
  | ⟨0, _⟩ => rfl
  | ⟨1, _⟩ => exact Fin.ext (show 256 - (p.val + 1) = 255 - p.val by omega)
  | ⟨2, _⟩ => rfl
  | ⟨3, _⟩ => rfl

/-- Reversing the second of three axes. -/
theorem rev3 {n0 n2 : Nat} (x : (⟨3, ![n0, 256, n2]⟩ : Shape).Idx → EReal) (a : Fin n0) (p : Fin 256) (c : Fin n2) :
    Host.reverse [1] x (ix3 a p c) = x (ix3 a (flip p) c) := by
  refine congrArg x (funext fun i => ?_)
  match i with
  | ⟨0, _⟩ => rfl
  | ⟨1, _⟩ => exact Fin.ext (show 256 - (p.val + 1) = 255 - p.val by omega)
  | ⟨2, _⟩ => rfl

/-- The reference's normalized and modulated tokens. -/
theorem ref_h1 (b : Fin 32) (p : Fin 256) (l : Fin 1024) :
    val_main_v21 (F := Ideal) A.x0 A.x1 A.x2 (ix3 b p l) = h1 A b p l := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_cst, val_main_cst_0, val_main_cst_1, val_main_cst_2, h1, rms]

/-- The reference's input projection. -/
theorem ref_proj (b : Fin 32) (p : Fin 256) (j : Fin 3088) :
    val_main_v23 (F := Ideal) A.x0 A.x1 A.x2 A.x3 (ix3 b p j) = proj A b p j := by
  pointwise [val_main_v23, val_main_v22, proj]
  simp only [ref_h1]

/-- The integer zero as a float. -/
theorem sitofp_zero : FloatOps.sitofp (F := Ideal) FTy.f32 (0#32) = (0 : EReal) := by
  show (((0#32 : BitVec 32).toInt : ℝ) : EReal) = 0
  simp

/-- A convolution written over a sequence with a zero at either end. -/
theorem conv_pad (v : Fin 256 → EReal) (w0 w1 w2 : EReal) (p : Fin 256) (a b c : EReal)
    (ha : a = if p.val = 0 then 0 else v ⟨p.val - 1, by omega⟩) (hb : b = v p)
    (hc : c = if h : p.val = 255 then 0 else v ⟨p.val + 1, by omega⟩) :
    a * w0 + b * w1 + c * w2 = conv3 v w0 w1 w2 p := by
  rw [ha, hb, hc]
  rfl

/-- The reference's gated short convolution. -/
theorem ref_outa (b : Fin 32) (p : Fin 256) (j : Fin 512) :
    val_main_v54 (F := Ideal) A.x0 A.x1 A.x2 A.x3 A.x4 (ix3 b p j) = outa A b p j := by
  pointwise [val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v24, val_main_v25, val_main_v26, val_main_c, val_main_call0_v0, outa]
  simp only [ref_proj]
  refine congrArg (_ * ·) (conv_pad _ _ _ _ _ _ _ _ ?_ ?_ ?_)
  · by_cases h : p.val = 0
    · rw [dif_neg (by omega), if_pos h, sitofp_zero]
    · rw [dif_pos ⟨by omega, by omega⟩, if_neg h]
  · rfl
  · by_cases h : p.val = 255
    · rw [dif_neg (by omega), dif_pos h, sitofp_zero]
    · rw [dif_pos ⟨by omega, by omega⟩, dif_neg h]
      exact congrArg (fun q : Fin 256 => proj A b q ⟨1024 + j.val, by omega⟩ * proj A b q ⟨j.val, by omega⟩)
        (Fin.ext (show 2 + p.val - 1 = p.val + 1 by omega))

/-- The reference's convolved and gated scan inputs. -/
theorem ref_xc (b : Fin 32) (p : Fin 256) (j : Fin 1024) :
    val_main_v81 (F := Ideal) A.x0 A.x1 A.x2 A.x3 A.x5 A.x6 (ix3 b p j) = xc A b p j := by
  pointwise [val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v28, val_main_c_3, val_main_call1_v0, val_main_call2_v0, val_main_call2_v1, val_main_call2_cst, val_main_call2_v2, val_main_call2_v3, val_main_call2_cst_0, val_main_call2_v4, val_main_call2_v5, xc]
  simp only [ref_proj, Ffn.silu_eq]
  refine congrArg silu (congrArg (· + _) (conv_pad _ _ _ _ _ _ _ _ ?_ ?_ ?_))
  · by_cases h : p.val = 0
    · rw [dif_neg (by omega), if_pos h, sitofp_zero]
    · rw [dif_pos ⟨by omega, by omega⟩, if_neg h]
  · rfl
  · by_cases h : p.val = 255
    · rw [dif_neg (by omega), dif_pos h, sitofp_zero]
    · rw [dif_pos ⟨by omega, by omega⟩, dif_neg h]
      exact congrArg (fun q : Fin 256 => proj A b q ⟨2048 + j.val, by omega⟩)
        (Fin.ext (show 2 + p.val - 1 = p.val + 1 by omega))

/-- The reference's forward step sizes. -/
theorem ref_dtf (b : Fin 32) (p : Fin 256) (h : Fin 8) :
    val_main_v93 (F := Ideal) A.x0 A.x1 A.x2 A.x3 A.x7 (ix3 b p h) = dt A b 0 p h := by
  pointwise [val_main_v88, val_main_v89, val_main_v90, val_main_v91, val_main_v92, val_main_v93, val_main_v29, val_main_call3_cst, val_main_call3_v0, val_main_call3_v1, val_main_call3_v2, val_main_call3_v3, val_main_call3_v4, val_main_call3_v5, val_main_call3_v6, val_main_call3_v7, val_main_call3_v8, val_main_call3_v9, val_main_call3_v10, val_main_call3_v11, dt]
  simp only [ref_proj]
  rw [if_neg (fun h => h rfl)]
  unfold sp
  rw [zero_sub]
  rfl

/-- The reference's backward step sizes. -/
theorem ref_dtb (b : Fin 32) (p : Fin 256) (h : Fin 8) :
    val_main_v99 (F := Ideal) A.x0 A.x1 A.x2 A.x3 A.x7 (ix3 b p h) = dt A b 1 p h := by
  pointwise [val_main_v94, val_main_v95, val_main_v96, val_main_v97, val_main_v98, val_main_v99, val_main_v30, val_main_call4_cst, val_main_call4_v0, val_main_call4_v1, val_main_call4_v2, val_main_call4_v3, val_main_call4_v4, val_main_call4_v5, val_main_call4_v6, val_main_call4_v7, val_main_call4_v8, val_main_call4_v9, val_main_call4_v10, val_main_call4_v11, dt]
  simp only [ref_proj]
  rw [if_neg (fun h => h rfl)]
  unfold sp
  rw [zero_sub]
  rfl

/-- The reference's forward rates. -/
theorem ref_ratef (h : Fin 8) : val_main_v104 (F := Ideal) A.x8 (ix1 h) = rate A 0 h := by
  pointwise [val_main_v104, val_main_v103, val_main_v102, val_main_v101, val_main_v100, rate]
  rw [zero_sub]

/-- The reference's backward rates. -/
theorem ref_rateb (h : Fin 8) : val_main_v178 (F := Ideal) A.x8 (ix1 h) = rate A 1 h := by
  pointwise [val_main_v178, val_main_v177, val_main_v102, val_main_v101, val_main_v100, rate]
  rw [zero_sub]

/-- The reference's values. -/
theorem ref_xv (b : Fin 32) (p : Fin 256) (h : Fin 8) (q : Fin 64) :
    val_main_v85 (F := Ideal) A.x0 A.x1 A.x2 A.x3 A.x5 A.x6 (ix4 b p h q) = xv A b p h q := by
  pointwise [val_main_v85, val_main_v82, xv]
  simp only [ref_xc]

/-- The reference's first projections. -/
theorem ref_bv (b : Fin 32) (p : Fin 256) (g : Fin 2) (n : Fin 128) :
    val_main_v86 (F := Ideal) A.x0 A.x1 A.x2 A.x3 A.x5 A.x6 (ix4 b p g n) = bv A b p g n := by
  pointwise [val_main_v86, val_main_v83, bv]
  simp only [ref_xc]

/-- The reference's second projections. -/
theorem ref_cv (b : Fin 32) (p : Fin 256) (g : Fin 2) (n : Fin 128) :
    val_main_v87 (F := Ideal) A.x0 A.x1 A.x2 A.x3 A.x5 A.x6 (ix4 b p g n) = cv A b p g n := by
  pointwise [val_main_v87, val_main_v84, cv]
  simp only [ref_xc]

/-- The reference's forward scan is the scan of its inputs. -/
theorem scan_fwd : val_main_v174 (F := Ideal) A.x0 A.x1 A.x2 A.x3 A.x5 A.x6 A.x7 A.x8
    = scanY (F := Ideal) (val_main_v85 (F := Ideal) A.x0 A.x1 A.x2 A.x3 A.x5 A.x6) (val_main_v93 (F := Ideal) A.x0 A.x1 A.x2 A.x3 A.x7)
      (val_main_v104 (F := Ideal) A.x8) (val_main_v86 (F := Ideal) A.x0 A.x1 A.x2 A.x3 A.x5 A.x6)
      (val_main_v87 (F := Ideal) A.x0 A.x1 A.x2 A.x3 A.x5 A.x6) := rfl

/-- The reference's backward scan is the scan of its inputs reversed. -/
theorem scan_bwd : val_main_v250 (F := Ideal) A.x0 A.x1 A.x2 A.x3 A.x5 A.x6 A.x7 A.x8
    = scanY (F := Ideal) (val_main_v175 (F := Ideal) A.x0 A.x1 A.x2 A.x3 A.x5 A.x6) (val_main_v176 (F := Ideal) A.x0 A.x1 A.x2 A.x3 A.x7)
      (val_main_v178 (F := Ideal) A.x8) (val_main_v179 (F := Ideal) A.x0 A.x1 A.x2 A.x3 A.x5 A.x6)
      (val_main_v180 (F := Ideal) A.x0 A.x1 A.x2 A.x3 A.x5 A.x6) := rfl

/-- The forward scan's last state. -/
theorem state_fwd : val_main_v162 (F := Ideal) A.x0 A.x1 A.x2 A.x3 A.x5 A.x6 A.x7 A.x8
    = scanS (F := Ideal) (val_main_v85 (F := Ideal) A.x0 A.x1 A.x2 A.x3 A.x5 A.x6) (val_main_v93 (F := Ideal) A.x0 A.x1 A.x2 A.x3 A.x7)
      (val_main_v104 (F := Ideal) A.x8) (val_main_v86 (F := Ideal) A.x0 A.x1 A.x2 A.x3 A.x5 A.x6) := rfl

/-- The backward scan's last state. -/
theorem state_bwd : val_main_v238 (F := Ideal) A.x0 A.x1 A.x2 A.x3 A.x5 A.x6 A.x7 A.x8
    = scanS (F := Ideal) (val_main_v175 (F := Ideal) A.x0 A.x1 A.x2 A.x3 A.x5 A.x6) (val_main_v176 (F := Ideal) A.x0 A.x1 A.x2 A.x3 A.x7)
      (val_main_v178 (F := Ideal) A.x8) (val_main_v179 (F := Ideal) A.x0 A.x1 A.x2 A.x3 A.x5 A.x6) := rfl

/-- The forward scan's inputs. -/
theorem scanOf_fwd (b : Fin 32) : scanOf (val_main_v85 (F := Ideal) A.x0 A.x1 A.x2 A.x3 A.x5 A.x6)
    (val_main_v93 (F := Ideal) A.x0 A.x1 A.x2 A.x3 A.x7) (val_main_v104 (F := Ideal) A.x8)
    (val_main_v86 (F := Ideal) A.x0 A.x1 A.x2 A.x3 A.x5 A.x6) (val_main_v87 (F := Ideal) A.x0 A.x1 A.x2 A.x3 A.x5 A.x6) b = fwd A b := by
  simp only [scanOf, ref_xv, ref_dtf, ref_ratef, ref_bv, ref_cv, fwd]

/-- The backward scan's inputs. -/
theorem scanOf_bwd (b : Fin 32) : scanOf (val_main_v175 (F := Ideal) A.x0 A.x1 A.x2 A.x3 A.x5 A.x6)
    (val_main_v176 (F := Ideal) A.x0 A.x1 A.x2 A.x3 A.x7) (val_main_v178 (F := Ideal) A.x8)
    (val_main_v179 (F := Ideal) A.x0 A.x1 A.x2 A.x3 A.x5 A.x6) (val_main_v180 (F := Ideal) A.x0 A.x1 A.x2 A.x3 A.x5 A.x6) b = bwd A b := by
  unfold scanOf bwd
  congr 1 <;> funext p
  · funext h q
    exact (rev4 _ _ _ _ _).trans (ref_xv A _ _ _ _)
  · funext h
    exact (rev3 _ _ _ _).trans (ref_dtb A _ _ _)
  · exact ref_rateb A p
  · funext g n
    exact (rev4 _ _ _ _ _).trans (ref_bv A _ _ _ _)
  · funext g n
    exact (rev4 _ _ _ _ _).trans (ref_cv A _ _ _ _)

/-- The reference's two scans with the skip. -/
theorem ref_yfull (b : Fin 32) (p : Fin 256) (h : Fin 8) (q : Fin 64) :
    val_main_v258 (F := Ideal) A.x0 A.x1 A.x2 A.x3 A.x5 A.x6 A.x7 A.x8 A.x9 (ix4 b p h q) = yfull A b p h q := by
  pointwise [val_main_v252, val_main_v253, val_main_v254, val_main_v255, val_main_v256, val_main_v257, val_main_v258, yfull]
  have e : val_main_v251 (F := Ideal) A.x0 A.x1 A.x2 A.x3 A.x5 A.x6 A.x7 A.x8 (ix4 b p h q)
      = val_main_v250 (F := Ideal) A.x0 A.x1 A.x2 A.x3 A.x5 A.x6 A.x7 A.x8 (ix4 b (flip p) h q) := rev4 _ _ _ _ _
  simp only [e, scan_fwd, scan_bwd, scanY_apply, scanOf_fwd, scanOf_bwd, ref_xv]

/-- The reference's gated scans. -/
theorem ref_yz (b : Fin 32) (p : Fin 256) (j : Fin 512) :
    val_main_v261 (F := Ideal) A.x0 A.x1 A.x2 A.x3 A.x5 A.x6 A.x7 A.x8 A.x9 (ix3 b p j) = yz A b p j := by
  pointwise [val_main_v259, val_main_v260, val_main_v261, val_main_v27, val_main_call11_v0, val_main_call11_v1, val_main_call11_cst, val_main_call11_v2, val_main_call11_v3, val_main_call11_cst_0, val_main_call11_v4, val_main_call11_v5, yz, silu]
  simp only [ref_yfull, ref_proj, Ffn.silu_eq]

/-- The reference's mixed channels. -/
theorem ref_mix (b : Fin 32) (p : Fin 256) (j : Fin 1024) :
    val_main_v277 (F := Ideal) A.x0 A.x1 A.x2 A.x3 A.x4 A.x5 A.x6 A.x7 A.x8 A.x9 A.x10 (ix3 b p j) = mix A b p j := by
  pointwise [val_main_v262, val_main_v263, val_main_v264, val_main_v265, val_main_v266, val_main_v267, val_main_v268, val_main_v269, val_main_v270, val_main_v271, val_main_v272, val_main_v273, val_main_v274, val_main_v275, val_main_v277, val_main_cst_10, val_main_cst_11, val_main_cst_12, mix, rms]
  simp only [ref_yz, ref_outa]

/-- The reference's output. -/
theorem ref_out (b : Fin 32) (p : Fin 256) (l : Fin 1024) :
    val_main_v282 (F := Ideal) A.x0 A.x1 A.x2 A.x3 A.x4 A.x5 A.x6 A.x7 A.x8 A.x9 A.x10 A.x11 (ix3 b p l) = out A b p l := by
  pointwise [val_main_v276, val_main_v278, val_main_v279, val_main_v280, val_main_v281, val_main_v282, out]
  simp only [ref_mix]

/-- The reference's first result. -/
theorem ref_res0 (r : Fin 8192) (l : Fin 1024) :
    val_main_v283 (F := Ideal) A.x0 A.x1 A.x2 A.x3 A.x4 A.x5 A.x6 A.x7 A.x8 A.x9 A.x10 A.x11 (ix2 r l)
      = out A ⟨r.val / 256, by omega⟩ ⟨r.val % 256, by omega⟩ l := by
  pointwise [val_main_v283]
  simp only [ref_out]

/-- The reference's second result. -/
theorem ref_res1 (b : Fin 32) (j : Fin 512) (n : Fin 128) :
    val_main_v284 (F := Ideal) A.x0 A.x1 A.x2 A.x3 A.x5 A.x6 A.x7 A.x8 (ix3 b j n)
      = (fwd A b).fin ⟨j.val / 64, by omega⟩ ⟨j.val % 64, by omega⟩ n := by
  pointwise [val_main_v284]
  rw [state_fwd]
  refine (scanS_apply _ _ _ _ (val_main_v87 (F := Ideal) A.x0 A.x1 A.x2 A.x3 A.x5 A.x6) _ _ _ _).trans ?_
  rw [scanOf_fwd]

/-- The reference's third result. -/
theorem ref_res2 (b : Fin 32) (j : Fin 512) (n : Fin 128) :
    val_main_v285 (F := Ideal) A.x0 A.x1 A.x2 A.x3 A.x5 A.x6 A.x7 A.x8 (ix3 b j n)
      = (bwd A b).fin ⟨j.val / 64, by omega⟩ ⟨j.val % 64, by omega⟩ n := by
  pointwise [val_main_v285]
  rw [state_bwd]
  refine (scanS_apply _ _ _ _ (val_main_v180 (F := Ideal) A.x0 A.x1 A.x2 A.x3 A.x5 A.x6) _ _ _ _).trans ?_
  rw [scanOf_bwd]

end

end Cert.Proof.Mix.Ref
-- ==== Proof.Pieces.lean ====
module

public import Idealize.ShloMosaic.Lib.WritesUnit
public import Idealize.ShloMosaic.Lib.Pipeline.FrameBody

@[expose] public section

/-! # Reading a buffer back after one more store -/

namespace Cert.Proof.Pieces

open Idealize.ShloMosaic

variable {sig : RefSig} {κ : Kind} {sp : Space} {s : Shape} {e : EltTy} {Val : EltTy → Type}

/-- A load of the rectangle just stored reads what was stored. -/
theorem rd_same (v : View sig κ sp s e) (f : v.ty.Contents Val) {off size : Fin s.rank → ℕ} (inb inb' : ∀ a, off a + size a ≤ s.size a)
    (w : (Rect.unit off size inb).shape.Idx → Val e) (L : List (View.Piece Val s e)) :
    v.readAt Val (Rect.unit off size inb').toLoadRect (v.writes Val f (⟨Rect.unit off size inb, w⟩ :: L)) = w := by
  funext y
  exact View.read_writes_cons_emb v f _ w L y

/-- A load of a rectangle apart from the one just stored, along some axis, does not see the store. -/
theorem rd_other (v : View sig κ sp s e) (f : v.ty.Contents Val) {off size off' size' : Fin s.rank → ℕ}
    (inb : ∀ a, off a + size a ≤ s.size a) (inb' : ∀ a, off' a + size' a ≤ s.size a)
    (w : (Rect.unit off size inb).shape.Idx → Val e) (L : List (View.Piece Val s e)) (a : Fin s.rank)
    (h : off' a + size' a ≤ off a ∨ off a + size a ≤ off' a) :
    v.readAt Val (Rect.unit off' size' inb').toLoadRect (v.writes Val f (⟨Rect.unit off size inb, w⟩ :: L))
      = v.readAt Val (Rect.unit off' size' inb').toLoadRect (v.writes Val f L) := by
  funext y
  refine View.read_writes_cons_unit_of_not_mem v f inb w L _ rfl a ?_
  have hy : (((Rect.unit off' size' inb').toLoadRect.idx y) a).val = off' a + 1 * (y a).val := rfl
  have hlt : (y a).val < size' a := (y a).isLt
  omega

/-- Storing the next block of a family of blocks apart from one another: the blocks stored so far read as they should. -/
theorem rd_next (v : View sig κ sp s e) (f : v.ty.Contents Val) {n : ℕ} (off : Fin n → Fin s.rank → ℕ) {size : Fin s.rank → ℕ}
    (inb : ∀ j a, off j a + size a ≤ s.size a) (P : (j : Fin n) → (Rect.unit (off j) size (inb j)).shape.Idx → Val e)
    (k : Fin n) (w : (Rect.unit (off k) size (inb k)).shape.Idx → Val e) (hw : w = P k) (a : Fin s.rank)
    (hd : ∀ j k : Fin n, j.val < k.val → off j a + size a ≤ off k a ∨ off k a + size a ≤ off j a)
    (hf : ∀ j : Fin n, j.val < k.val → v.readAt Val (Rect.unit (off j) size (inb j)).toLoadRect f = P j) :
    ∀ j : Fin n, j.val < k.val + 1 →
      v.readAt Val (Rect.unit (off j) size (inb j)).toLoadRect (v.writes Val f [⟨Rect.unit (off k) size (inb k), w⟩]) = P j := by
  intro j hj
  rcases Nat.lt_or_eq_of_le (Nat.le_of_lt_succ hj) with h | h
  · exact (rd_other v f _ _ _ _ a (hd j k h)).trans (hf j h)
  · obtain rfl : j = k := Fin.ext h
    exact (rd_same v f _ _ _ _).trans hw

/-- Blocks of 128 rows, one after the other, are apart. -/
theorem rows_apart {n d c : ℕ} {off : Fin n → Fin 2 → ℕ} (size : Fin 2 → ℕ) (hs : size 0 = d) (h : ∀ j, off j = ![d * j.val, c])
    (j k : Fin n) (hjk : j.val < k.val) : off j 0 + size 0 ≤ off k 0 ∨ off k 0 + size 0 ≤ off j 0 := by
  refine Or.inl ?_
  rw [h, h, hs]
  show d * j.val + d ≤ d * k.val
  exact (Nat.mul_succ d j.val).symm ▸ Nat.mul_le_mul_left d hjk

end Cert.Proof.Pieces
-- ==== Proof.MixStep.lean ====
module

public import proofs.«01_k».proof.Proof.Gen.KernelIdeal.Skeleton

@[expose] public section

/-! # What one chunk of the mixer's two scans computes, as functions of whole arrays -/

noncomputable section

namespace Cert.Proof.Mixer

open Cert.KernelIdeal Cert.KernelIdeal.Gen
open Idealize.ShloMosaic

variable {F : FTy → Type} [FloatOps F]

/-- The part of an array a rectangle of unit strides covers. -/
abbrev part {s : Shape} {e : EltTy} (A : Vec F s e) (off size : Fin s.rank → ℕ) (inb : ∀ a, off a + size a ≤ s.size a) :
    (Rect.unit off size inb).shape.Idx → Elt F e :=
  fun y => A ((Rect.unit off size inb).emb y)

/-! ## The forward scan -/

/-- What the forward scan reads and does not change. -/
structure FwdIn (F : FTy → Type) [FloatOps F] where
  v25 : FVec F S1x128 .f32
  v26 : IVec S128x128 32
  v27 : IVec S1x128 32
  a5 : Vec F S3x512 .f32
  a6 : Vec F S3x1024 .f32
  a7 : Vec F S1x1024 .f32
  a13 : Vec F S128x128 .bf16
  a14 : Vec F S128x128 .bf16
  a15 : Vec F S128x1024 .bf16
  a19 : Vec F S1040x512 .f32
  a20 : Vec F S1040x1024 .f32
  a21 : Vec F S1024x512 .f32
  a23 : Vec F S1024x128 .f32

namespace FwdIn

variable (A : FwdIn F) (k : Fin k0_t2_loop.trips)

/-- The window of projected rows a chunk's convolution reads. -/
abbrev win : Vec F S144x1024 .f32 := part A.a20 (k0_off6 k) S144x1024.size (k0_off6_inb k)
/-- The first two taps of the chunk's convolution. -/
abbrev taps01 : FVec F S128x1024 .f32 :=
  k0_pay23 0#32 1#32 k (A.win k) (part A.a6 ![0, 0] S1x1024.size inb_S3x1024_S1x1024_0_0)
    (part A.a6 ![1, 0] S1x1024.size inb_S3x1024_S1x1024_1_0)
/-- The third tap. -/
abbrev tap2 : FVec F S128x1024 .f32 :=
  k0_pay24 0#32 1#32 k (A.win k) (part A.a6 ![2, 0] S1x1024.size inb_S3x1024_S1x1024_2_0)
/-- The convolution's bias row. -/
abbrev bias : Vec F S1x1024 .f32 := part A.a7 ![0, 0] S1x1024.size inb_S1x1024_S1x1024_0_0
/-- The chunk's convolved and gated rows. -/
abbrev xc : FVec F S128x1024 .f32 := k0_pay25 (A.taps01 k) (A.tap2 k) A.bias
/-- Their first half, the scan's values. -/
abbrev xs : FVec F S128x512 .f32 := k0_pay27 (A.taps01 k) (A.tap2 k) A.bias
/-- Their second half, the scan's two projections. -/
abbrev bc : FVec F S128x512 .bf16 := k0_pay28 (A.taps01 k) (A.tap2 k) A.bias
/-- The first row of a segment, where the chunk holds it. -/
abbrev startRow : BitVec 32 := Scalar.select (Scalar.cmpi .eq (Scalar.remsi (Scf.iv 0#32 1#32 k) 2#32) 0#32) 0#32 4294967295#32
/-- The last row of a segment, where the chunk holds it. -/
abbrev endRow : BitVec 32 := Scalar.select (Scalar.cmpi .eq (Scalar.remsi (Scf.iv 0#32 1#32 k) 2#32) 1#32) 127#32 4294967295#32
/-- The window of gated rows the short convolution reads. -/
abbrev winA : Vec F S144x512 .f32 := part A.a19 (k0_off8 k) S144x512.size (k0_off8_inb k)
/-- The short convolution's output, gated. -/
abbrev ya : FVec F S128x512 .bf16 :=
  k0_pay33 (k0_pay29 (A.winA k)) (k0_pay30 (startRow k) (A.winA k)) (k0_pay31 (endRow k) (A.winA k))
    (k0_pay32 (part A.a5 ![0, 0] S1x512.size inb_S3x512_S1x512_0_0)) (part A.a5 ![1, 0] S1x512.size inb_S3x512_S1x512_1_0)
    (part A.a5 ![2, 0] S1x512.size inb_S3x512_S1x512_2_0) (part A.a21 (k0_off7 k) S128x512.size (k0_off7_inb k))
/-- The chunk's step sizes. -/
abbrev dt : Vec F S128x128 .f32 := part A.a23 (k0_off10 k) S128x128.size (k0_off10_inb k)
/-- Running sums of the log decays, from the chunk's start and from its end. -/
abbrev sums : FVec F S128x128 .f32 := k0_pay35 A.v25 (A.dt k) (part A.a13 ![0, 0] S128x128.size inb_S128x128_S128x128_0_0)
/-- The upper triangle as the program spells it. -/
abbrev upper : FVec F S128x128 .bf16 := k0_pay36 (part A.a14 ![0, 0] S128x128.size inb_S128x128_S128x128_0_0)
/-- Each direction's running sum of log decays. -/
abbrev e : FVec F S128x128 .f32 :=
  k0_pay42 (k0_pay1 A.v26) (A.sums k) A.upper (k0_pay37 A.v25 (A.dt k)) (k0_pay39 A.v25 (A.dt k)) (k0_pay40 A.v25 (A.dt k))
/-- The head expansion. -/
abbrev expand : Vec F S128x1024 .bf16 := part A.a15 ![0, 0] S128x1024.size inb_S128x1024_S128x1024_0_0
/-- The decay of a whole chunk, per value column. -/
abbrev dec : FVec F S1x1024 .f32 :=
  k0_pay44 (k0_pay1 A.v26) (k0_pay2 A.v27) (A.sums k) A.upper (k0_pay37 A.v25 (A.dt k)) (k0_pay39 A.v25 (A.dt k))
    (k0_pay40 A.v25 (A.dt k)) A.expand
/-- The values weighted for the state a chunk adds, forward. -/
abbrev wf : FVec F S128x512 .bf16 :=
  k0_pay46 (k0_pay1 A.v26) (k0_pay2 A.v27) (k0_pay26 (A.taps01 k) (A.tap2 k) A.bias) (A.dt k) (A.sums k) A.upper
    (k0_pay37 A.v25 (A.dt k)) (k0_pay39 A.v25 (A.dt k)) (k0_pay40 A.v25 (A.dt k)) A.expand
/-- The values weighted for the state a chunk adds, backward. -/
abbrev wb : FVec F S128x512 .bf16 :=
  k0_pay47 (k0_pay1 A.v26) (k0_pay2 A.v27) (k0_pay26 (A.taps01 k) (A.tap2 k) A.bias) (A.dt k) (A.sums k) A.upper
    (k0_pay37 A.v25 (A.dt k)) (k0_pay39 A.v25 (A.dt k)) (k0_pay40 A.v25 (A.dt k)) A.expand
/-- The state the chunk adds to the backward scan. -/
abbrev csb : FVec F S1x128x512 .f32 := k0_pay5 (A.xc k) (A.wb k) (k0_pay48 (A.xc k))
/-- The forward state after the chunk, from the one before it. -/
abbrev step (s : Vec F S128x512 .f32) : FVec F S128x512 .f32 := k0_pay9 (A.xc k) (A.dec k) (A.wf k) (k0_pay48 (A.xc k)) s
/-- The same, transposed as the state result. -/
abbrev fin (s : Vec F S128x512 .f32) : FVec F S1x512x128 .f32 := k0_pay10 (A.xc k) (A.dec k) (A.wf k) (k0_pay48 (A.xc k)) s
/-- The chunk before. -/
abbrev prev : Fin k0_t2_loop.trips := ⟨k.val - 1, lt_of_le_of_lt (Nat.sub_le _ _) k.isLt⟩
/-- The forward state a chunk starts from: zero at a segment's first chunk, the first chunk's at its second. -/
def sin : Vec F S128x512 .f32 := if k.val % 2 = 0 then k0_pay6 else A.step (prev k) k0_pay6

/-- A segment's first chunk starts from zero. -/
theorem sin_even (h : k.val % 2 = 0) : A.sin k = k0_pay6 := if_pos h

/-- A segment's second chunk starts from the first one's state. -/
theorem sin_odd (h : ¬ k.val % 2 = 0) : A.sin k = A.step (prev k) k0_pay6 := if_neg h

end FwdIn

/-! ## The backward scan -/

/-- What the backward scan reads of one chunk. -/
structure BwdIn (F : FTy → Type) [FloatOps F] where
  v26 : IVec S128x128 32
  v27 : IVec S1x128 32
  e : Vec F S128x128 .f32
  dt : Vec F S128x128 .f32
  xs : Vec F S128x512 .f32
  bc : Vec F S128x512 .bf16
  sf : Vec F S1x128x512 .f32
  csb : Vec F S1x128x512 .f32
  z : Vec F S128x512 .f32
  expand : Vec F S128x1024 .bf16
  skip : Vec F S1x512 .f32
  gain : Vec F S1x512 .f32

namespace BwdIn

variable (B : BwdIn F) (s : Vec F S128x512 .f32)

abbrev v38 : IVec S128x128 1 := k0_pay13 B.v26
abbrev v51 : FVec F S128x128 .f32 := k0_pay50 B.e
abbrev v61 : FVec F S128x512 .bf16 := k0_pay51 B.sf
abbrev v63 : FVec F S128x512 .bf16 := k0_pay52 s
abbrev v69 : FVec F S128x512 .f32 := k0_pay54 B.dt B.xs B.expand
abbrev v71 : FVec F S128x512 .f32 := k0_pay55 B.dt B.xs B.expand
abbrev v76 : FVec F S128x1024 .f32 := k0_pay56 B.e B.expand
abbrev v77 : FVec F S128x128 .bf16 := k0_pay57 B.bc
abbrev v78 : FVec F S128x128 .bf16 := k0_pay58 B.bc
abbrev v79 : FVec F S128x128 .f32 := k0_pay59 B.v77 B.v78
abbrev v88 : FVec F S128x256 .f32 := k0_pay60 B.v61 (v63 s) B.v76 B.v78
abbrev v121 : FVec F S128x128 .f32 := k0_pay63 k0_pay11 k0_pay12 B.v38 B.e B.v51 B.v61 (v63 s) B.v69 B.v71 B.v76 B.v77 B.v78
abbrev v152 : FVec F S128x128 .f32 :=
  k0_pay67 k0_pay11 k0_pay12 B.e B.v51 B.v79 (k0_pay62 B.v71) (B.v121 s) (k0_pay64 B.v38) (k0_pay65 B.v38 B.v69) k0_pay66
abbrev v216 : FVec F S128x128 .f32 :=
  k0_pay76 k0_pay11 k0_pay12 B.v38 B.e B.v51 B.v79 (k0_pay68 B.v69) (k0_pay69 B.v71) (k0_pay70 (B.v88 s)) (k0_pay71 B.v38 B.v69)
    (k0_pay72 B.v38 B.v71) (k0_pay73 k0_pay11 B.e B.v51 B.v79) (k0_pay74 B.e B.v51) k0_pay75
abbrev v219 : FVec F S128x128 .f32 := k0_pay78 B.bc
abbrev v223 : FVec F S128x256 .f32 := k0_pay79 B.bc (v63 s)
abbrev v225 : FVec F S128x256 .f32 := k0_pay80 B.bc B.v61 B.v76
abbrev v226 : FVec F S128x256 .f32 := k0_pay81 B.v76
abbrev v228 : FVec F S128x256 .f32 := k0_pay82 (B.v223 s) B.v225 B.v226
abbrev v261 : FVec F S128x128 .f32 :=
  k0_pay85 k0_pay11 k0_pay12 B.v38 B.e B.v51 B.v69 B.v71 B.v219 (B.v223 s) B.v225 B.v226
abbrev v292 : FVec F S128x128 .f32 :=
  k0_pay92 k0_pay11 k0_pay12 B.v219 (B.v261 s) (k0_pay87 B.v38 B.v69) (k0_pay88 B.v38 B.v71) (k0_pay89 B.e B.v51) (k0_pay90 B.e)
    (k0_pay91 B.v51)
abbrev v325 : FVec F S128x128 .f32 := k0_pay95 k0_pay11 k0_pay12 B.v38 B.e B.v51 B.v69 B.v71 B.v219 (B.v228 s)
abbrev v371 : FVec F S128x512 .f32 :=
  k0_pay97 k0_pay11 k0_pay12 B.e B.v51 B.xs (B.v152 s) (B.v216 s) B.v219 (B.v292 s) (k0_pay93 B.v69) (k0_pay94 B.v71) (B.v325 s)
    (k0_pay96 B.v38) B.skip B.z
abbrev v374 : FVec F S128x1 .f32 :=
  k0_pay98 k0_pay11 k0_pay12 B.e B.v51 B.xs (B.v152 s) (B.v216 s) B.v219 (B.v292 s) (k0_pay93 B.v69) (k0_pay94 B.v71) (B.v325 s)
    (k0_pay96 B.v38) B.skip B.z
/-- The scan mixer's rows of the chunk, normalised. -/
abbrev yb : FVec F S128x512 .bf16 := k0_pay99 (B.v371 s) (B.v374 s) B.gain
/-- The backward state after the chunk. -/
abbrev v418 : FVec F S128x512 .f32 := k0_pay100 (k0_pay2 B.v27) B.e s B.expand B.csb
abbrev step : FVec F S128x512 .f32 := k0_pay14 (B.v418 s)
/-- The same, transposed as the state result. -/
abbrev fin : FVec F S1x512x128 .f32 := k0_pay15 (B.v418 s)

end BwdIn

end Cert.Proof.Mixer

end
-- ==== Proof.MixFwd.lean ====
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit
public import proofs.«01_k».proof.Proof.Pieces
public import proofs.«01_k».proof.Proof.MixStep

@[expose] public section

/-! # The forward scan, chunk by chunk -/

set_option maxRecDepth 8192
set_option maxHeartbeats 4000000

noncomputable section

namespace Cert.Proof.Mixer

open Cert.KernelIdeal Cert.KernelIdeal.Gen Cert.Proof.Pieces
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
  (arg1 : Memref sig .tc .vmem S1024x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1024x3200 .bf16) (harg4 : arg4.IsWhole)
  (arg5 : Memref sig .tc .vmem S3x512 .f32) (harg5 : arg5.IsWhole)
  (arg6 : Memref sig .tc .vmem S3x1024 .f32) (harg6 : arg6.IsWhole)
  (arg7 : Memref sig .tc .vmem S1x1024 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S1024x1024 .bf16) (harg12 : arg12.IsWhole)
  (arg13 : Memref sig .tc .vmem S128x128 .bf16) (harg13 : arg13.IsWhole)
  (arg14 : Memref sig .tc .vmem S128x128 .bf16) (harg14 : arg14.IsWhole)
  (arg15 : Memref sig .tc .vmem S128x1024 .bf16) (harg15 : arg15.IsWhole)
  (arg16 : Memref sig .tc .vmem S1024x1024 .f32) (harg16 : arg16.IsWhole)
  (arg17 : Memref sig .tc .vmem S4x512x128 .f32) (harg17 : arg17.IsWhole)
  (arg18 : Memref sig .tc .vmem S4x512x128 .f32) (harg18 : arg18.IsWhole)
  (arg19 : Memref sig .tc .vmem S1040x512 .f32) (harg19 : arg19.IsWhole)
  (arg20 : Memref sig .tc .vmem S1040x1024 .f32) (harg20 : arg20.IsWhole)
  (arg21 : Memref sig .tc .vmem S1024x512 .f32) (harg21 : arg21.IsWhole)
  (arg22 : Memref sig .tc .vmem S1024x512 .f32) (harg22 : arg22.IsWhole)
  (arg23 : Memref sig .tc .vmem S1024x128 .f32) (harg23 : arg23.IsWhole)
  (arg24 : Memref sig .tc .vmem S1024x128 .f32) (harg24 : arg24.IsWhole)
  (arg25 : Memref sig .tc .vmem S1024x512 .f32) (harg25 : arg25.IsWhole)
  (arg26 : Memref sig .tc .vmem S1024x512 .bf16) (harg26 : arg26.IsWhole)
  (arg27 : Memref sig .tc .vmem S1024x1024 .bf16) (harg27 : arg27.IsWhole)
  (arg28 : Memref sig .tc .vmem S8x128x512 .f32) (harg28 : arg28.IsWhole)
  (arg29 : Memref sig .tc .vmem S8x128x512 .f32) (harg29 : arg29.IsWhole)
  (arg30 : Memref sig .tc .vmem S128x512 .f32) (harg30 : arg30.IsWhole)
  (arg31 : Memref sig .tc .vmem S128x512 .f32) (harg31 : arg31.IsWhole)

omit [FloatOps F] in
/-- The rectangle a load names reads the part of the array it covers. -/
theorem readAt_part {sp : Space} {s : Shape} {e : EltTy} (v : View sig .tc sp s e) (x : BufTy.Contents (Elt F) v.ty) (off size : Fin s.rank → ℕ)
    (inb : ∀ a, off a + size a ≤ s.size a) :
    v.readAt (Elt F) (Rect.unit off size inb).toLoadRect x = part (v.read (Elt F) x) off size inb := rfl

/-- What the forward scan reads, off the buffers. -/
abbrev fwdIn (v25 : FVec F S1x128 .f32) (v26 : IVec S128x128 32) (v27 : IVec S1x128 32) (x5 : BufTy.Contents (Elt F) arg5.view.ty) (x6 : BufTy.Contents (Elt F) arg6.view.ty) (x7 : BufTy.Contents (Elt F) arg7.view.ty) (x13 : BufTy.Contents (Elt F) arg13.view.ty) (x14 : BufTy.Contents (Elt F) arg14.view.ty) (x15 : BufTy.Contents (Elt F) arg15.view.ty) (x19 : BufTy.Contents (Elt F) arg19.view.ty) (x20 : BufTy.Contents (Elt F) arg20.view.ty) (x21 : BufTy.Contents (Elt F) arg21.view.ty) (x23 : BufTy.Contents (Elt F) arg23.view.ty) : FwdIn F where
  v25 := v25
  v26 := v26
  v27 := v27
  a5 := arg5.view.read (Elt F) x5
  a6 := arg6.view.read (Elt F) x6
  a7 := arg7.view.read (Elt F) x7
  a13 := arg13.view.read (Elt F) x13
  a14 := arg14.view.read (Elt F) x14
  a15 := arg15.view.read (Elt F) x15
  a19 := arg19.view.read (Elt F) x19
  a20 := arg20.view.read (Elt F) x20
  a21 := arg21.view.read (Elt F) x21
  a23 := arg23.view.read (Elt F) x23

/-- The first chunk of a segment is an even one. -/
theorem even_cond : ∀ k : Fin k0_t2_loop.trips, k.val % 2 = 0 →
    (Scalar.cmpi .ne (Scalar.extui (Scalar.cmpi .eq (Scalar.remsi (Scf.iv 0#32 1#32 k) 2#32) 0#32) : BitVec 32) 0#32) = 1#1 ∧ ¬ k0_cond2 k = 1#1 := by
  decide

/-- The last chunk of a segment is an odd one. -/
theorem odd_cond : ∀ k : Fin k0_t2_loop.trips, ¬ k.val % 2 = 0 →
    (¬ (Scalar.cmpi .ne (Scalar.extui (Scalar.cmpi .eq (Scalar.remsi (Scf.iv 0#32 1#32 k) 2#32) 0#32) : BitVec 32) 0#32) = 1#1) ∧ k0_cond2 k = 1#1 := by
  decide

/-- The kept states of different chunks are apart. -/
theorem slabs_apart (j k : Fin k0_t2_loop.trips) (h : j.val < k.val) :
    k0_off11 j 0 + S1x128x512.size 0 ≤ k0_off11 k 0 ∨ k0_off11 k 0 + S1x128x512.size 0 ≤ k0_off11 j 0 := by
  rw [k0_off11_eq, k0_off11_eq]
  exact Or.inl h

/-- A segment's last chunk stores its state result and leaves those of the segments before. -/
theorem next17 {f : BufTy.Contents (Elt F) arg17.view.ty} (P : Fin k0_t2_loop.trips → Vec F S1x512x128 .f32) (k : Fin k0_t2_loop.trips)
    (w : Vec F S1x512x128 .f32) (hw : w = P k) (hk : k0_cond2 k = 1#1)
    (hf : ∀ j : Fin k0_t2_loop.trips, j.val < k.val → ∀ h : k0_cond2 j = 1#1,
      arg17.view.readAt (Elt F) (Rect.unit (s := S4x512x128) (k0_off12 j) S1x512x128.size (k0_off12_inb j h)).toLoadRect f = P j) :
    ∀ j : Fin k0_t2_loop.trips, j.val < k.val + 1 → ∀ h : k0_cond2 j = 1#1,
      arg17.view.readAt (Elt F) (Rect.unit (s := S4x512x128) (k0_off12 j) S1x512x128.size (k0_off12_inb j h)).toLoadRect
        (arg17.view.writes (Elt F) f [⟨Rect.unit (s := S4x512x128) (k0_off12 k) S1x512x128.size (k0_off12_inb k hk), w⟩]) = P j := by
  intro j hj h
  rcases Nat.lt_or_eq_of_le (Nat.le_of_lt_succ hj) with hjk | hjk
  · refine (rd_other arg17.view f _ _ _ _ 0 ?_).trans (hf j hjk h)
    rw [k0_off12_eq, k0_off12_eq]
    have hj2 : ¬ j.val % 2 = 0 := fun he => (even_cond j he).2 h
    have hk2 : ¬ k.val % 2 = 0 := fun he => (even_cond k he).2 hk
    refine Or.inl ?_
    show j.val / 2 + 1 ≤ k.val / 2
    omega
  · obtain rfl : j = k := Fin.ext hjk
    exact (rd_same arg17.view f _ _ _ _).trans hw

/-- What the forward scan holds before chunk `k`: the chunks before it done, the running state that of the chunk before. -/
abbrev fwdInv (A : FwdIn F) (x5 : BufTy.Contents (Elt F) arg5.view.ty) (x6 : BufTy.Contents (Elt F) arg6.view.ty) (x7 : BufTy.Contents (Elt F) arg7.view.ty) (x13 : BufTy.Contents (Elt F) arg13.view.ty) (x14 : BufTy.Contents (Elt F) arg14.view.ty) (x15 : BufTy.Contents (Elt F) arg15.view.ty) (x19 : BufTy.Contents (Elt F) arg19.view.ty) (x20 : BufTy.Contents (Elt F) arg20.view.ty) (x21 : BufTy.Contents (Elt F) arg21.view.ty) (x23 : BufTy.Contents (Elt F) arg23.view.ty) (k : ℕ) : sProp 𝕄G :=
  iprop((arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7) ∗ (arg13.view.loc (c : Thread nD τ) ↦[arg13.view.set]{fullShare} x13) ∗ (arg14.view.loc (c : Thread nD τ) ↦[arg14.view.set]{fullShare} x14) ∗ (arg15.view.loc (c : Thread nD τ) ↦[arg15.view.set]{fullShare} x15) ∗ (arg19.view.loc (c : Thread nD τ) ↦[arg19.view.set]{fullShare} x19) ∗ (arg20.view.loc (c : Thread nD τ) ↦[arg20.view.set]{fullShare} x20) ∗ (arg21.view.loc (c : Thread nD τ) ↦[arg21.view.set]{fullShare} x21) ∗ (arg23.view.loc (c : Thread nD τ) ↦[arg23.view.set]{fullShare} x23)
    ∗ (∃ f, (arg17.view.loc (c : Thread nD τ) ↦[arg17.view.set]{fullShare} f) ∗ ⌜∀ j : Fin k0_t2_loop.trips, j.val < k → ∀ h : k0_cond2 j = 1#1, arg17.view.readAt (Elt F) (Rect.unit (s := S4x512x128) (k0_off12 j) S1x512x128.size (k0_off12_inb j h)).toLoadRect f = A.fin j (A.sin j)⌝)
    ∗ (∃ f, (arg24.view.loc (c : Thread nD τ) ↦[arg24.view.set]{fullShare} f) ∗ ⌜∀ j : Fin k0_t2_loop.trips, j.val < k → arg24.view.readAt (Elt F) (Rect.unit (s := S1024x128) (k0_off10 j) S128x128.size (k0_off10_inb j)).toLoadRect f = A.e j⌝)
    ∗ (∃ f, (arg25.view.loc (c : Thread nD τ) ↦[arg25.view.set]{fullShare} f) ∗ ⌜∀ j : Fin k0_t2_loop.trips, j.val < k → arg25.view.readAt (Elt F) (Rect.unit (s := S1024x512) (k0_off7 j) S128x512.size (k0_off7_inb j)).toLoadRect f = A.xs j⌝)
    ∗ (∃ f, (arg26.view.loc (c : Thread nD τ) ↦[arg26.view.set]{fullShare} f) ∗ ⌜∀ j : Fin k0_t2_loop.trips, j.val < k → arg26.view.readAt (Elt F) (Rect.unit (s := S1024x512) (k0_off7 j) S128x512.size (k0_off7_inb j)).toLoadRect f = A.bc j⌝)
    ∗ (∃ f, (arg27.view.loc (c : Thread nD τ) ↦[arg27.view.set]{fullShare} f) ∗ ⌜∀ j : Fin k0_t2_loop.trips, j.val < k → arg27.view.readAt (Elt F) (Rect.unit (s := S1024x1024) (k0_off9 j) S128x512.size (k0_off9_inb j)).toLoadRect f = A.ya j⌝)
    ∗ (∃ f, (arg28.view.loc (c : Thread nD τ) ↦[arg28.view.set]{fullShare} f) ∗ ⌜∀ j : Fin k0_t2_loop.trips, j.val < k → arg28.view.readAt (Elt F) (Rect.unit (s := S8x128x512) (k0_off11 j) S1x128x512.size (k0_off11_inb j)).toLoadRect f = k0_pay7 (A.sin j)⌝)
    ∗ (∃ f, (arg29.view.loc (c : Thread nD τ) ↦[arg29.view.set]{fullShare} f) ∗ ⌜∀ j : Fin k0_t2_loop.trips, j.val < k → arg29.view.readAt (Elt F) (Rect.unit (s := S8x128x512) (k0_off11 j) S1x128x512.size (k0_off11_inb j)).toLoadRect f = A.csb j⌝)
    ∗ (∃ f, (arg30.view.loc (c : Thread nD τ) ↦[arg30.view.set]{fullShare} f) ∗ ⌜∀ j : Fin k0_t2_loop.trips, j.val + 1 = k → j.val % 2 = 0 → arg30.view.readAt (Elt F) (Rect.unit (s := S128x512) ![0, 0] S128x512.size inb_S128x512_S128x512_0_0).toLoadRect f = A.step j k0_pay6⌝))

set_option warn.classDefReducibility false in
/-- The forward scan by its chunks. -/
@[sl_loop] def loopInv_k0_t2 (𝒱 : Variants) (bd : Option 𝒱.V) (E : Set ℕ) (v25 : FVec F S1x128 .f32) (v26 : IVec S128x128 32) (v27 : IVec S1x128 32)
    (x5 : BufTy.Contents (Elt F) arg5.view.ty) (x6 : BufTy.Contents (Elt F) arg6.view.ty) (x7 : BufTy.Contents (Elt F) arg7.view.ty) (x13 : BufTy.Contents (Elt F) arg13.view.ty) (x14 : BufTy.Contents (Elt F) arg14.view.ty) (x15 : BufTy.Contents (Elt F) arg15.view.ty) (x19 : BufTy.Contents (Elt F) arg19.view.ty) (x20 : BufTy.Contents (Elt F) arg20.view.ty) (x21 : BufTy.Contents (Elt F) arg21.view.ty) (x23 : BufTy.Contents (Elt F) arg23.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 v25 v26 v27 where
  inv k _ := fwdInv c arg5 arg6 arg7 arg13 arg14 arg15 arg17 arg19 arg20 arg21 arg23 arg24 arg25 arg26 arg27 arg28 arg29 arg30 (fwdIn arg5 arg6 arg7 arg13 arg14 arg15 arg19 arg20 arg21 arg23 v25 v26 v27 x5 x6 x7 x13 x14 x15 x19 x20 x21 x23) x5 x6 x7 x13 x14 x15 x19 x20 x21 x23 k
  step k acc := by
    have hk : k.val < 8 := Nat.lt_of_lt_of_le k.isLt k0_t2_abs.2.1
    iintro ⟨H5, H6, H7, H13, H14, H15, H19, H20, H21, H23, ⟨%f17, H17, %h17⟩, ⟨%f24, H24, %h24⟩, ⟨%f25, H25, %h25⟩, ⟨%f26, H26, %h26⟩, ⟨%f27, H27, %h27⟩, ⟨%f28, H28, %h28⟩, ⟨%f29, H29, %h29⟩, ⟨%f30, H30, %h30⟩⟩
    let A : FwdIn F := fwdIn arg5 arg6 arg7 arg13 arg14 arg15 arg19 arg20 arg21 arg23 v25 v26 v27 x5 x6 x7 x13 x14 x15 x19 x20 x21 x23
    unfold k0_t2_body
    rcases Decidable.em (k.val % 2 = 0) with he | he
    · obtain ⟨h1, h2⟩ := even_cond k he
      sl_exec (disch := first | sl_exact h1 | sl_exact h2 | omega)
      sl_step
      isplitl [H5]; · iexact H5
      isplitl [H6]; · iexact H6
      isplitl [H7]; · iexact H7
      isplitl [H13]; · iexact H13
      isplitl [H14]; · iexact H14
      isplitl [H15]; · iexact H15
      isplitl [H19]; · iexact H19
      isplitl [H20]; · iexact H20
      isplitl [H21]; · iexact H21
      isplitl [H23]; · iexact H23
      isplitl [H17]
      · iexists _
        isplitl [H17]; · iexact H17
        ipureintro
        exact fun j hj hc => (Nat.lt_or_eq_of_le (Nat.le_of_lt_succ hj)).elim (fun h => h17 j h hc) fun h => absurd (Fin.ext h ▸ hc) h2
      isplitl [H24]
      · iexists _
        isplitl [H24]; · iexact H24
        ipureintro
        exact rd_next arg24.view f24 k0_off10 k0_off10_inb A.e k _ rfl 0 (rows_apart S128x128.size rfl k0_off10_eq) h24
      isplitl [H25]
      · iexists _
        isplitl [H25]; · iexact H25
        ipureintro
        exact rd_next arg25.view f25 k0_off7 k0_off7_inb A.xs k _ rfl 0 (rows_apart S128x512.size rfl k0_off7_eq) h25
      isplitl [H26]
      · iexists _
        isplitl [H26]; · iexact H26
        ipureintro
        exact rd_next arg26.view f26 k0_off7 k0_off7_inb A.bc k _ rfl 0 (rows_apart S128x512.size rfl k0_off7_eq) h26
      isplitl [H27]
      · iexists _
        isplitl [H27]; · iexact H27
        ipureintro
        exact rd_next arg27.view f27 k0_off9 k0_off9_inb A.ya k _ rfl 0 (rows_apart S128x512.size rfl k0_off9_eq) h27
      isplitl [H28]
      · iexists _
        isplitl [H28]; · iexact H28
        ipureintro
        exact rd_next arg28.view f28 k0_off11 k0_off11_inb (fun j => k0_pay7 (A.sin j)) k _ (congrArg k0_pay7 ((rd_same arg30.view _ _ _ _ _).trans (A.sin_even k he).symm)) 0 (slabs_apart) h28
      isplitl [H29]
      · iexists _
        isplitl [H29]; · iexact H29
        ipureintro
        exact rd_next arg29.view f29 k0_off11 k0_off11_inb A.csb k _ rfl 0 (slabs_apart) h29
      iexists _
      isplitl [H30]; · iexact H30
      ipureintro
      exact fun j hj _ => (rd_same arg30.view _ _ _ _ _).trans (by obtain rfl : j = k := Fin.ext (by omega); exact congrArg (A.step j) (rd_same arg30.view _ _ _ _ _))
    · obtain ⟨h1, h2⟩ := odd_cond k he
      sl_exec (disch := first | sl_exact h1 | sl_exact h2 | omega)
      sl_step
      isplitl [H5]; · iexact H5
      isplitl [H6]; · iexact H6
      isplitl [H7]; · iexact H7
      isplitl [H13]; · iexact H13
      isplitl [H14]; · iexact H14
      isplitl [H15]; · iexact H15
      isplitl [H19]; · iexact H19
      isplitl [H20]; · iexact H20
      isplitl [H21]; · iexact H21
      isplitl [H23]; · iexact H23
      isplitl [H17]
      · iexists _
        isplitl [H17]; · iexact H17
        ipureintro
        exact next17 arg17 (fun j => A.fin j (A.sin j)) k _ (congrArg (A.fin k) ((h30 (FwdIn.prev k) (by show k.val - 1 + 1 = k.val; omega) (by show (k.val - 1) % 2 = 0; omega)).trans (A.sin_odd k he).symm)) h2 h17
      isplitl [H24]
      · iexists _
        isplitl [H24]; · iexact H24
        ipureintro
        exact rd_next arg24.view f24 k0_off10 k0_off10_inb A.e k _ rfl 0 (rows_apart S128x128.size rfl k0_off10_eq) h24
      isplitl [H25]
      · iexists _
        isplitl [H25]; · iexact H25
        ipureintro
        exact rd_next arg25.view f25 k0_off7 k0_off7_inb A.xs k _ rfl 0 (rows_apart S128x512.size rfl k0_off7_eq) h25
      isplitl [H26]
      · iexists _
        isplitl [H26]; · iexact H26
        ipureintro
        exact rd_next arg26.view f26 k0_off7 k0_off7_inb A.bc k _ rfl 0 (rows_apart S128x512.size rfl k0_off7_eq) h26
      isplitl [H27]
      · iexists _
        isplitl [H27]; · iexact H27
        ipureintro
        exact rd_next arg27.view f27 k0_off9 k0_off9_inb A.ya k _ rfl 0 (rows_apart S128x512.size rfl k0_off9_eq) h27
      isplitl [H28]
      · iexists _
        isplitl [H28]; · iexact H28
        ipureintro
        exact rd_next arg28.view f28 k0_off11 k0_off11_inb (fun j => k0_pay7 (A.sin j)) k _ (congrArg k0_pay7 ((h30 (FwdIn.prev k) (by show k.val - 1 + 1 = k.val; omega) (by show (k.val - 1) % 2 = 0; omega)).trans (A.sin_odd k he).symm)) 0 (slabs_apart) h28
      isplitl [H29]
      · iexists _
        isplitl [H29]; · iexact H29
        ipureintro
        exact rd_next arg29.view f29 k0_off11 k0_off11_inb A.csb k _ rfl 0 (slabs_apart) h29
      iexists _
      isplitl [H30]; · iexact H30
      ipureintro
      exact fun j hj h => absurd (by omega) he

end Cert.Proof.Mixer

end
-- ==== Proof.MixBwd.lean ====
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit
public import proofs.«01_k».proof.Proof.Pieces
public import proofs.«01_k».proof.Proof.MixStep

@[expose] public section

/-! # The backward scan, chunk by chunk -/

set_option maxRecDepth 8192
set_option maxHeartbeats 4000000

noncomputable section

namespace Cert.Proof.Mixer

open Cert.KernelIdeal Cert.KernelIdeal.Gen Cert.Proof.Pieces
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
  (arg1 : Memref sig .tc .vmem S1024x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1024x3200 .bf16) (harg4 : arg4.IsWhole)
  (arg5 : Memref sig .tc .vmem S3x512 .f32) (harg5 : arg5.IsWhole)
  (arg6 : Memref sig .tc .vmem S3x1024 .f32) (harg6 : arg6.IsWhole)
  (arg7 : Memref sig .tc .vmem S1x1024 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S1024x1024 .bf16) (harg12 : arg12.IsWhole)
  (arg13 : Memref sig .tc .vmem S128x128 .bf16) (harg13 : arg13.IsWhole)
  (arg14 : Memref sig .tc .vmem S128x128 .bf16) (harg14 : arg14.IsWhole)
  (arg15 : Memref sig .tc .vmem S128x1024 .bf16) (harg15 : arg15.IsWhole)
  (arg16 : Memref sig .tc .vmem S1024x1024 .f32) (harg16 : arg16.IsWhole)
  (arg17 : Memref sig .tc .vmem S4x512x128 .f32) (harg17 : arg17.IsWhole)
  (arg18 : Memref sig .tc .vmem S4x512x128 .f32) (harg18 : arg18.IsWhole)
  (arg19 : Memref sig .tc .vmem S1040x512 .f32) (harg19 : arg19.IsWhole)
  (arg20 : Memref sig .tc .vmem S1040x1024 .f32) (harg20 : arg20.IsWhole)
  (arg21 : Memref sig .tc .vmem S1024x512 .f32) (harg21 : arg21.IsWhole)
  (arg22 : Memref sig .tc .vmem S1024x512 .f32) (harg22 : arg22.IsWhole)
  (arg23 : Memref sig .tc .vmem S1024x128 .f32) (harg23 : arg23.IsWhole)
  (arg24 : Memref sig .tc .vmem S1024x128 .f32) (harg24 : arg24.IsWhole)
  (arg25 : Memref sig .tc .vmem S1024x512 .f32) (harg25 : arg25.IsWhole)
  (arg26 : Memref sig .tc .vmem S1024x512 .bf16) (harg26 : arg26.IsWhole)
  (arg27 : Memref sig .tc .vmem S1024x1024 .bf16) (harg27 : arg27.IsWhole)
  (arg28 : Memref sig .tc .vmem S8x128x512 .f32) (harg28 : arg28.IsWhole)
  (arg29 : Memref sig .tc .vmem S8x128x512 .f32) (harg29 : arg29.IsWhole)
  (arg30 : Memref sig .tc .vmem S128x512 .f32) (harg30 : arg30.IsWhole)
  (arg31 : Memref sig .tc .vmem S128x512 .f32) (harg31 : arg31.IsWhole)

/-- What the backward scan reads of the chunk at trip `k`, off the buffers. -/
abbrev bwdIn (v26 : IVec S128x128 32) (v27 : IVec S1x128 32) (x10 : BufTy.Contents (Elt F) arg10.view.ty) (x11 : BufTy.Contents (Elt F) arg11.view.ty) (x15 : BufTy.Contents (Elt F) arg15.view.ty) (x22 : BufTy.Contents (Elt F) arg22.view.ty) (x23 : BufTy.Contents (Elt F) arg23.view.ty) (x24 : BufTy.Contents (Elt F) arg24.view.ty) (x25 : BufTy.Contents (Elt F) arg25.view.ty) (x26 : BufTy.Contents (Elt F) arg26.view.ty) (x28 : BufTy.Contents (Elt F) arg28.view.ty) (x29 : BufTy.Contents (Elt F) arg29.view.ty) (k : Fin k0_t3_loop.trips) : BwdIn F where
  v26 := v26
  v27 := v27
  e := part (arg24.view.read (Elt F) x24) (k0_off13 k) S128x128.size (k0_off13_inb k)
  dt := part (arg23.view.read (Elt F) x23) (k0_off13 k) S128x128.size (k0_off13_inb k)
  xs := part (arg25.view.read (Elt F) x25) (k0_off14 k) S128x512.size (k0_off14_inb k)
  bc := part (arg26.view.read (Elt F) x26) (k0_off14 k) S128x512.size (k0_off14_inb k)
  sf := part (arg28.view.read (Elt F) x28) (k0_off15 k) S1x128x512.size (k0_off15_inb k)
  csb := part (arg29.view.read (Elt F) x29) (k0_off15 k) S1x128x512.size (k0_off15_inb k)
  z := part (arg22.view.read (Elt F) x22) (k0_off14 k) S128x512.size (k0_off14_inb k)
  expand := part (arg15.view.read (Elt F) x15) ![0, 0] S128x1024.size inb_S128x1024_S128x1024_0_0
  skip := part (arg10.view.read (Elt F) x10) ![0, 0] S1x512.size inb_S1x512_S1x512_0_0
  gain := part (arg11.view.read (Elt F) x11) ![0, 0] S1x512.size inb_S1x512_S1x512_0_0

/-- The trip before. -/
abbrev bwdPrev (k : Fin k0_t3_loop.trips) : Fin k0_t3_loop.trips := ⟨k.val - 1, lt_of_le_of_lt (Nat.sub_le _ _) k.isLt⟩

/-- The backward state a trip starts from: zero at a segment's last chunk, that chunk's at its first. -/
def bwdSin (B : Fin k0_t3_loop.trips → BwdIn F) (k : Fin k0_t3_loop.trips) : Vec F S128x512 .f32 :=
  if k.val % 2 = 0 then k0_pay49 else (B (bwdPrev k)).step k0_pay49

/-- A segment's last chunk starts from zero. -/
theorem bwdSin_even (B : Fin k0_t3_loop.trips → BwdIn F) (k : Fin k0_t3_loop.trips) (h : k.val % 2 = 0) : bwdSin B k = k0_pay49 := if_pos h

/-- A segment's first chunk starts from the last one's state. -/
theorem bwdSin_odd (B : Fin k0_t3_loop.trips → BwdIn F) (k : Fin k0_t3_loop.trips) (h : ¬ k.val % 2 = 0) :
    bwdSin B k = (B (bwdPrev k)).step k0_pay49 := if_neg h

/-- An even trip meets the last chunk of a segment. -/
theorem bwd_even_cond : ∀ k : Fin k0_t3_loop.trips, k.val % 2 = 0 → (Scalar.cmpi .ne (Scalar.extui (Scalar.cmpi .eq (Scalar.remsi (Scalar.subi 7#32 (Scf.iv 0#32 1#32 k)) 2#32) 1#32) : BitVec 32) 0#32) = 1#1 ∧ ¬ k0_cond4 k = 1#1 := by
  decide

/-- An odd trip meets the first chunk of a segment. -/
theorem bwd_odd_cond : ∀ k : Fin k0_t3_loop.trips, ¬ k.val % 2 = 0 → (¬ (Scalar.cmpi .ne (Scalar.extui (Scalar.cmpi .eq (Scalar.remsi (Scalar.subi 7#32 (Scf.iv 0#32 1#32 k)) 2#32) 1#32) : BitVec 32) 0#32) = 1#1) ∧ k0_cond4 k = 1#1 := by
  decide

/-- The blocks the backward scan stores are apart. -/
theorem back_apart (j k : Fin k0_t3_loop.trips) (h : j.val < k.val) :
    k0_off16 j 0 + S128x512.size 0 ≤ k0_off16 k 0 ∨ k0_off16 k 0 + S128x512.size 0 ≤ k0_off16 j 0 := by
  have hk : k.val < 8 := Nat.lt_of_lt_of_le k.isLt k0_t3_abs.2.1
  rw [k0_off16_eq, k0_off16_eq]
  refine Or.inr ?_
  show 896 - 128 * k.val + 128 ≤ 896 - 128 * j.val
  omega

/-- A segment's first chunk stores its state result and leaves those of the segments after. -/
theorem next18 {f : BufTy.Contents (Elt F) arg18.view.ty} (P : Fin k0_t3_loop.trips → Vec F S1x512x128 .f32) (k : Fin k0_t3_loop.trips)
    (w : Vec F S1x512x128 .f32) (hw : w = P k) (hk : k0_cond4 k = 1#1)
    (hf : ∀ j : Fin k0_t3_loop.trips, j.val < k.val → ∀ h : k0_cond4 j = 1#1,
      arg18.view.readAt (Elt F) (Rect.unit (s := S4x512x128) (k0_off17 j) S1x512x128.size (k0_off17_inb j h)).toLoadRect f = P j) :
    ∀ j : Fin k0_t3_loop.trips, j.val < k.val + 1 → ∀ h : k0_cond4 j = 1#1,
      arg18.view.readAt (Elt F) (Rect.unit (s := S4x512x128) (k0_off17 j) S1x512x128.size (k0_off17_inb j h)).toLoadRect
        (arg18.view.writes (Elt F) f [⟨Rect.unit (s := S4x512x128) (k0_off17 k) S1x512x128.size (k0_off17_inb k hk), w⟩]) = P j := by
  intro j hj h
  rcases Nat.lt_or_eq_of_le (Nat.le_of_lt_succ hj) with hjk | hjk
  · refine (rd_other arg18.view f _ _ _ _ 0 ?_).trans (hf j hjk h)
    have hk8 : k.val < 8 := Nat.lt_of_lt_of_le k.isLt k0_t3_abs.2.1
    have hj2 : ¬ j.val % 2 = 0 := fun he => (bwd_even_cond j he).2 h
    have hk2 : ¬ k.val % 2 = 0 := fun he => (bwd_even_cond k he).2 hk
    rw [k0_off17_eq, k0_off17_eq]
    refine Or.inr ?_
    show (7 - k.val) / 2 + 1 ≤ (7 - j.val) / 2
    omega
  · obtain rfl : j = k := Fin.ext hjk
    exact (rd_same arg18.view f _ _ _ _).trans hw

/-- What the backward scan holds before trip `k`: the trips before it done, the running state that of the trip before, and the
forward half's rows as they were. -/
abbrev bwdInv (B : Fin k0_t3_loop.trips → BwdIn F) (x10 : BufTy.Contents (Elt F) arg10.view.ty) (x11 : BufTy.Contents (Elt F) arg11.view.ty) (x15 : BufTy.Contents (Elt F) arg15.view.ty) (x22 : BufTy.Contents (Elt F) arg22.view.ty) (x23 : BufTy.Contents (Elt F) arg23.view.ty) (x24 : BufTy.Contents (Elt F) arg24.view.ty) (x25 : BufTy.Contents (Elt F) arg25.view.ty) (x26 : BufTy.Contents (Elt F) arg26.view.ty) (x28 : BufTy.Contents (Elt F) arg28.view.ty) (x29 : BufTy.Contents (Elt F) arg29.view.ty) (g27 : BufTy.Contents (Elt F) arg27.view.ty) (k : ℕ) : sProp 𝕄G :=
  iprop((arg10.view.loc (c : Thread nD τ) ↦[arg10.view.set]{fullShare} x10) ∗ (arg11.view.loc (c : Thread nD τ) ↦[arg11.view.set]{fullShare} x11) ∗ (arg15.view.loc (c : Thread nD τ) ↦[arg15.view.set]{fullShare} x15) ∗ (arg22.view.loc (c : Thread nD τ) ↦[arg22.view.set]{fullShare} x22) ∗ (arg23.view.loc (c : Thread nD τ) ↦[arg23.view.set]{fullShare} x23) ∗ (arg24.view.loc (c : Thread nD τ) ↦[arg24.view.set]{fullShare} x24) ∗ (arg25.view.loc (c : Thread nD τ) ↦[arg25.view.set]{fullShare} x25) ∗ (arg26.view.loc (c : Thread nD τ) ↦[arg26.view.set]{fullShare} x26) ∗ (arg28.view.loc (c : Thread nD τ) ↦[arg28.view.set]{fullShare} x28) ∗ (arg29.view.loc (c : Thread nD τ) ↦[arg29.view.set]{fullShare} x29)
    ∗ (∃ f, (arg18.view.loc (c : Thread nD τ) ↦[arg18.view.set]{fullShare} f) ∗ ⌜∀ j : Fin k0_t3_loop.trips, j.val < k → ∀ h : k0_cond4 j = 1#1, arg18.view.readAt (Elt F) (Rect.unit (s := S4x512x128) (k0_off17 j) S1x512x128.size (k0_off17_inb j h)).toLoadRect f = (B j).fin (bwdSin B j)⌝)
    ∗ (∃ f, (arg27.view.loc (c : Thread nD τ) ↦[arg27.view.set]{fullShare} f) ∗ ⌜(∀ j : Fin k0_t3_loop.trips, j.val < k → arg27.view.readAt (Elt F) (Rect.unit (s := S1024x1024) (k0_off16 j) S128x512.size (k0_off16_inb j)).toLoadRect f = (B j).yb (bwdSin B j)) ∧ (∀ j : Fin k0_t2_loop.trips, arg27.view.readAt (Elt F) (Rect.unit (s := S1024x1024) (k0_off9 j) S128x512.size (k0_off9_inb j)).toLoadRect f = arg27.view.readAt (Elt F) (Rect.unit (s := S1024x1024) (k0_off9 j) S128x512.size (k0_off9_inb j)).toLoadRect g27)⌝)
    ∗ (∃ f, (arg31.view.loc (c : Thread nD τ) ↦[arg31.view.set]{fullShare} f) ∗ ⌜∀ j : Fin k0_t3_loop.trips, j.val + 1 = k → j.val % 2 = 0 → arg31.view.readAt (Elt F) (Rect.unit (s := S128x512) ![0, 0] S128x512.size inb_S128x512_S128x512_0_0).toLoadRect f = (B j).step k0_pay49⌝))

set_option warn.classDefReducibility false in
/-- The backward scan by its trips. -/
@[sl_loop] def loopInv_k0_t3 (𝒱 : Variants) (bd : Option 𝒱.V) (E : Set ℕ) (v26 : IVec S128x128 32) (v27 : IVec S1x128 32)
    (x10 : BufTy.Contents (Elt F) arg10.view.ty) (x11 : BufTy.Contents (Elt F) arg11.view.ty) (x15 : BufTy.Contents (Elt F) arg15.view.ty) (x22 : BufTy.Contents (Elt F) arg22.view.ty) (x23 : BufTy.Contents (Elt F) arg23.view.ty) (x24 : BufTy.Contents (Elt F) arg24.view.ty) (x25 : BufTy.Contents (Elt F) arg25.view.ty) (x26 : BufTy.Contents (Elt F) arg26.view.ty) (x28 : BufTy.Contents (Elt F) arg28.view.ty) (x29 : BufTy.Contents (Elt F) arg29.view.ty) (g27 : BufTy.Contents (Elt F) arg27.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 v26 v27 where
  inv k _ := bwdInv c arg10 arg11 arg15 arg18 arg22 arg23 arg24 arg25 arg26 arg27 arg28 arg29 arg31 (bwdIn arg10 arg11 arg15 arg22 arg23 arg24 arg25 arg26 arg28 arg29 v26 v27 x10 x11 x15 x22 x23 x24 x25 x26 x28 x29) x10 x11 x15 x22 x23 x24 x25 x26 x28 x29 g27 k
  step k acc := by
    have hk : k.val < 8 := Nat.lt_of_lt_of_le k.isLt k0_t3_abs.2.1
    iintro ⟨H10, H11, H15, H22, H23, H24, H25, H26, H28, H29, ⟨%f18, H18, %h18⟩, ⟨%f27, H27, %h27, %h27b⟩, ⟨%f31, H31, %h31⟩⟩
    let B : Fin k0_t3_loop.trips → BwdIn F := bwdIn arg10 arg11 arg15 arg22 arg23 arg24 arg25 arg26 arg28 arg29 v26 v27 x10 x11 x15 x22 x23 x24 x25 x26 x28 x29
    unfold k0_t3_body
    rcases Decidable.em (k.val % 2 = 0) with he | he
    · obtain ⟨h1, h2⟩ := bwd_even_cond k he
      sl_exec (disch := first | sl_exact h1 | sl_exact h2 | omega)
      sl_step
      isplitl [H10]; · iexact H10
      isplitl [H11]; · iexact H11
      isplitl [H15]; · iexact H15
      isplitl [H22]; · iexact H22
      isplitl [H23]; · iexact H23
      isplitl [H24]; · iexact H24
      isplitl [H25]; · iexact H25
      isplitl [H26]; · iexact H26
      isplitl [H28]; · iexact H28
      isplitl [H29]; · iexact H29
      isplitl [H18]
      · iexists _
        isplitl [H18]; · iexact H18
        ipureintro
        exact fun j hj hc => (Nat.lt_or_eq_of_le (Nat.le_of_lt_succ hj)).elim (fun h => h18 j h hc) fun h => absurd (Fin.ext h ▸ hc) h2
      isplitl [H27]
      · iexists _
        isplitl [H27]; · iexact H27
        ipureintro
        refine ⟨?_, fun j => (rd_other arg27.view f27 _ _ _ _ 1 ?_).trans (h27b j)⟩
        · exact rd_next arg27.view f27 k0_off16 k0_off16_inb (fun j => (B j).yb (bwdSin B j)) k _ (congrArg (B k).yb ((rd_same arg31.view _ _ _ _ _).trans (bwdSin_even B k he).symm)) 0 back_apart h27
        · rw [k0_off9_eq, k0_off16_eq]; exact Or.inl (Nat.le_refl 512)
      iexists _
      isplitl [H31]; · iexact H31
      ipureintro
      exact fun j hj _ => (rd_same arg31.view _ _ _ _ _).trans (by obtain rfl : j = k := Fin.ext (by omega); exact congrArg (B j).step (rd_same arg31.view _ _ _ _ _))
    · obtain ⟨h1, h2⟩ := bwd_odd_cond k he
      sl_exec (disch := first | sl_exact h1 | sl_exact h2 | omega)
      sl_step
      isplitl [H10]; · iexact H10
      isplitl [H11]; · iexact H11
      isplitl [H15]; · iexact H15
      isplitl [H22]; · iexact H22
      isplitl [H23]; · iexact H23
      isplitl [H24]; · iexact H24
      isplitl [H25]; · iexact H25
      isplitl [H26]; · iexact H26
      isplitl [H28]; · iexact H28
      isplitl [H29]; · iexact H29
      isplitl [H18]
      · iexists _
        isplitl [H18]; · iexact H18
        ipureintro
        exact next18 arg18 (fun j => (B j).fin (bwdSin B j)) k _ (congrArg (B k).fin ((h31 (bwdPrev k) (by show k.val - 1 + 1 = k.val; omega) (by show (k.val - 1) % 2 = 0; omega)).trans (bwdSin_odd B k he).symm)) h2 h18
      isplitl [H27]
      · iexists _
        isplitl [H27]; · iexact H27
        ipureintro
        refine ⟨?_, fun j => (rd_other arg27.view f27 _ _ _ _ 1 ?_).trans (h27b j)⟩
        · exact rd_next arg27.view f27 k0_off16 k0_off16_inb (fun j => (B j).yb (bwdSin B j)) k _ (congrArg (B k).yb ((h31 (bwdPrev k) (by show k.val - 1 + 1 = k.val; omega) (by show (k.val - 1) % 2 = 0; omega)).trans (bwdSin_odd B k he).symm)) 0 back_apart h27
        · rw [k0_off9_eq, k0_off16_eq]; exact Or.inl (Nat.le_refl 512)
      iexists _
      isplitl [H31]; · iexact H31
      ipureintro
      exact fun j hj h => absurd (by omega) he

end Cert.Proof.Mixer

end
-- ==== Proof.MixPro.lean ====
module

public import proofs.«01_k».proof.Proof.Gen.KernelIdeal.Skeleton
public import Idealize.ShloMosaic.Lib.Exec
public import Idealize.ShloMosaic.Lib.Tactic
public import Idealize.ShloMosaic.Lib.Pipeline.Kit
public import proofs.«01_k».proof.Proof.Pieces
public import proofs.«01_k».proof.Proof.MixStep

@[expose] public section

/-! # The input projections and the output projection, row block by row block -/

set_option maxRecDepth 8192
set_option maxHeartbeats 4000000

noncomputable section

namespace Cert.Proof.Mixer

open Cert.KernelIdeal Cert.KernelIdeal.Gen Cert.Proof.Pieces
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
  (arg1 : Memref sig .tc .vmem S1024x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1024x3200 .bf16) (harg4 : arg4.IsWhole)
  (arg5 : Memref sig .tc .vmem S3x512 .f32) (harg5 : arg5.IsWhole)
  (arg6 : Memref sig .tc .vmem S3x1024 .f32) (harg6 : arg6.IsWhole)
  (arg7 : Memref sig .tc .vmem S1x1024 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S1024x1024 .bf16) (harg12 : arg12.IsWhole)
  (arg13 : Memref sig .tc .vmem S128x128 .bf16) (harg13 : arg13.IsWhole)
  (arg14 : Memref sig .tc .vmem S128x128 .bf16) (harg14 : arg14.IsWhole)
  (arg15 : Memref sig .tc .vmem S128x1024 .bf16) (harg15 : arg15.IsWhole)
  (arg16 : Memref sig .tc .vmem S1024x1024 .f32) (harg16 : arg16.IsWhole)
  (arg17 : Memref sig .tc .vmem S4x512x128 .f32) (harg17 : arg17.IsWhole)
  (arg18 : Memref sig .tc .vmem S4x512x128 .f32) (harg18 : arg18.IsWhole)
  (arg19 : Memref sig .tc .vmem S1040x512 .f32) (harg19 : arg19.IsWhole)
  (arg20 : Memref sig .tc .vmem S1040x1024 .f32) (harg20 : arg20.IsWhole)
  (arg21 : Memref sig .tc .vmem S1024x512 .f32) (harg21 : arg21.IsWhole)
  (arg22 : Memref sig .tc .vmem S1024x512 .f32) (harg22 : arg22.IsWhole)
  (arg23 : Memref sig .tc .vmem S1024x128 .f32) (harg23 : arg23.IsWhole)
  (arg24 : Memref sig .tc .vmem S1024x128 .f32) (harg24 : arg24.IsWhole)
  (arg25 : Memref sig .tc .vmem S1024x512 .f32) (harg25 : arg25.IsWhole)
  (arg26 : Memref sig .tc .vmem S1024x512 .bf16) (harg26 : arg26.IsWhole)
  (arg27 : Memref sig .tc .vmem S1024x1024 .bf16) (harg27 : arg27.IsWhole)
  (arg28 : Memref sig .tc .vmem S8x128x512 .f32) (harg28 : arg28.IsWhole)
  (arg29 : Memref sig .tc .vmem S8x128x512 .f32) (harg29 : arg29.IsWhole)
  (arg30 : Memref sig .tc .vmem S128x512 .f32) (harg30 : arg30.IsWhole)
  (arg31 : Memref sig .tc .vmem S128x512 .f32) (harg31 : arg31.IsWhole)

/-- What the projections read. -/
structure ProIn (F : FTy → Type) [FloatOps F] where
  v0 : Vec F S1x1x1024 .f32
  v2 : Vec F S1x1x1024 .f32
  a1 : Vec F S1024x1024 .f32
  a3 : Vec F S1x1024 .f32
  a4 : Vec F S1024x3200 .bf16
  a8 : Vec F S1x128 .f32

namespace ProIn

variable (I : ProIn F) (k : Fin k0_t1_loop.trips)

/-- A block's rows, normalised and modulated. -/
abbrev norm : FVec F S256x1024 .bf16 :=
  k0_pay17 (k0_pay101 I.v0) (k0_pay102 I.v2) (part I.a1 (k0_off1 k) S256x1024.size (k0_off1_inb k))
    (part I.a3 ![0, 0] S1x1024.size inb_S1x1024_S1x1024_0_0)
/-- A block's rows for the short convolution, gated. -/
abbrev b19 : FVec F S256x512 .f32 :=
  k0_pay18 (k0_pay101 I.v0) (k0_pay102 I.v2) (part I.a1 (k0_off1 k) S256x1024.size (k0_off1_inb k))
    (part I.a3 ![0, 0] S1x1024.size inb_S1x1024_S1x1024_0_0)
    (part I.a4 ![0, 0] S1024x512.size inb_S1024x3200_S1024x512_0_0)
    (part I.a4 ![0, 1024] S1024x512.size inb_S1024x3200_S1024x512_0_1024)
/-- A block's rows for the scan's convolution. -/
abbrev b20 : FVec F S256x1024 .f32 := k0_pay21 (I.norm k) (part I.a4 ![0, 2048] S1024x1024.size inb_S1024x3200_S1024x1024_0_2048)
/-- A block's gate rows of the short convolution. -/
abbrev b21 : FVec F S256x512 .f32 := k0_pay19 (I.norm k) (part I.a4 ![0, 512] S1024x512.size inb_S1024x3200_S1024x512_0_512)
/-- A block's gate rows of the scan. -/
abbrev b22 : FVec F S256x512 .f32 := k0_pay20 (I.norm k) (part I.a4 ![0, 1536] S1024x512.size inb_S1024x3200_S1024x512_0_1536)
/-- A block's step sizes. -/
abbrev b23 : FVec F S256x128 .f32 :=
  k0_pay110 (k0_pay22 (I.norm k) (part I.a4 ![0, 3072] S1024x128.size inb_S1024x3200_S1024x128_0_3072)
    (part I.a8 ![0, 0] S1x128.size inb_S1x128_S1x128_0_0))

end ProIn

/-- What the projections read, off the buffers. -/
abbrev proIn (v0 : Vec F S1x1x1024 .f32) (v2 : Vec F S1x1x1024 .f32) (x1 : BufTy.Contents (Elt F) arg1.view.ty) (x3 : BufTy.Contents (Elt F) arg3.view.ty) (x4 : BufTy.Contents (Elt F) arg4.view.ty) (x8 : BufTy.Contents (Elt F) arg8.view.ty) : ProIn F where
  v0 := v0
  v2 := v2
  a1 := arg1.view.read (Elt F) x1
  a3 := arg3.view.read (Elt F) x3
  a4 := arg4.view.read (Elt F) x4
  a8 := arg8.view.read (Elt F) x8

/-- Blocks of 256 rows below a pad of 8 are apart. -/
theorem in_apart {d : ℕ} {off : Fin k0_t1_loop.trips → Fin 2 → ℕ} (h : ∀ j, off j = ![256 * j.val + 8, 0]) (j k : Fin k0_t1_loop.trips)
    (hjk : j.val < k.val) : off j 0 + (⟨2, ![256, d]⟩ : Shape).size 0 ≤ off k 0 ∨ off k 0 + (⟨2, ![256, d]⟩ : Shape).size 0 ≤ off j 0 := by
  rw [h, h]
  refine Or.inl ?_
  show 256 * j.val + 8 + 256 ≤ 256 * k.val + 8
  omega

/-- What the input projections hold before block `k`: the blocks before it done and the pads as they were. -/
abbrev proInv (I : ProIn F) (x1 : BufTy.Contents (Elt F) arg1.view.ty) (x3 : BufTy.Contents (Elt F) arg3.view.ty) (x4 : BufTy.Contents (Elt F) arg4.view.ty) (x8 : BufTy.Contents (Elt F) arg8.view.ty) (k : ℕ) : sProp 𝕄G :=
  iprop((arg1.view.loc (c : Thread nD τ) ↦[arg1.view.set]{fullShare} x1) ∗ (arg3.view.loc (c : Thread nD τ) ↦[arg3.view.set]{fullShare} x3) ∗ (arg4.view.loc (c : Thread nD τ) ↦[arg4.view.set]{fullShare} x4) ∗ (arg8.view.loc (c : Thread nD τ) ↦[arg8.view.set]{fullShare} x8)
    ∗ (∃ f, (arg19.view.loc (c : Thread nD τ) ↦[arg19.view.set]{fullShare} f) ∗ ⌜(∀ j : Fin k0_t1_loop.trips, j.val < k → arg19.view.readAt (Elt F) (Rect.unit (s := S1040x512) (k0_off2 j) S256x512.size (k0_off2_inb j)).toLoadRect f = I.b19 j) ∧ arg19.view.readAt (Elt F) (Rect.unit (s := S1040x512) ![0, 0] S8x512.size inb_S1040x512_S8x512_0_0).toLoadRect f = k0_pay106 ∧ arg19.view.readAt (Elt F) (Rect.unit (s := S1040x512) ![1032, 0] S8x512.size inb_S1040x512_S8x512_1032_0).toLoadRect f = k0_pay107⌝)
    ∗ (∃ f, (arg20.view.loc (c : Thread nD τ) ↦[arg20.view.set]{fullShare} f) ∗ ⌜(∀ j : Fin k0_t1_loop.trips, j.val < k → arg20.view.readAt (Elt F) (Rect.unit (s := S1040x1024) (k0_off4 j) S256x1024.size (k0_off4_inb j)).toLoadRect f = I.b20 j) ∧ arg20.view.readAt (Elt F) (Rect.unit (s := S1040x1024) ![0, 0] S8x1024.size inb_S1040x1024_S8x1024_0_0).toLoadRect f = k0_pay108 ∧ arg20.view.readAt (Elt F) (Rect.unit (s := S1040x1024) ![1032, 0] S8x1024.size inb_S1040x1024_S8x1024_1032_0).toLoadRect f = k0_pay109⌝)
    ∗ (∃ f, (arg21.view.loc (c : Thread nD τ) ↦[arg21.view.set]{fullShare} f) ∗ ⌜∀ j : Fin k0_t1_loop.trips, j.val < k → arg21.view.readAt (Elt F) (Rect.unit (s := S1024x512) (k0_off3 j) S256x512.size (k0_off3_inb j)).toLoadRect f = I.b21 j⌝)
    ∗ (∃ f, (arg22.view.loc (c : Thread nD τ) ↦[arg22.view.set]{fullShare} f) ∗ ⌜∀ j : Fin k0_t1_loop.trips, j.val < k → arg22.view.readAt (Elt F) (Rect.unit (s := S1024x512) (k0_off3 j) S256x512.size (k0_off3_inb j)).toLoadRect f = I.b22 j⌝)
    ∗ (∃ f, (arg23.view.loc (c : Thread nD τ) ↦[arg23.view.set]{fullShare} f) ∗ ⌜∀ j : Fin k0_t1_loop.trips, j.val < k → arg23.view.readAt (Elt F) (Rect.unit (s := S1024x128) (k0_off5 j) S256x128.size (k0_off5_inb j)).toLoadRect f = I.b23 j⌝))

/-- One block of the input projections. -/
theorem pro_step (𝒱 : Variants) (bd : Option 𝒱.V) (E : Set ℕ) (v0 : Vec F S1x1x1024 .f32) (v2 : Vec F S1x1x1024 .f32) (x1 : BufTy.Contents (Elt F) arg1.view.ty) (x3 : BufTy.Contents (Elt F) arg3.view.ty) (x4 : BufTy.Contents (Elt F) arg4.view.ty) (x8 : BufTy.Contents (Elt F) arg8.view.ty)
    (k : Fin k0_t1_loop.trips) (acc : PUnit) :
    (proInv c arg1 arg3 arg4 arg8 arg19 arg20 arg21 arg22 arg23 (proIn arg1 arg3 arg4 arg8 v0 v2 x1 x3 x4 x8) x1 x3 x4 x8 k : sProp 𝕄G)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 v0 v2 k acc)
        (fun _ => proInv c arg1 arg3 arg4 arg8 arg19 arg20 arg21 arg22 arg23 (proIn arg1 arg3 arg4 arg8 v0 v2 x1 x3 x4 x8) x1 x3 x4 x8 (k.val + 1)) := by
  have hk : k.val < 4 := Nat.lt_of_lt_of_le k.isLt k0_t1_abs.2.1
  iintro ⟨H1, H3, H4, H8, ⟨%f19, H19, %h19, %h19a, %h19b⟩, ⟨%f20, H20, %h20, %h20a, %h20b⟩, ⟨%f21, H21, %h21⟩, ⟨%f22, H22, %h22⟩, ⟨%f23, H23, %h23⟩⟩
  let I : ProIn F := proIn arg1 arg3 arg4 arg8 v0 v2 x1 x3 x4 x8
  unfold k0_t1_body
  sl_exec
  sl_step
  isplitl [H1]; · iexact H1
  isplitl [H3]; · iexact H3
  isplitl [H4]; · iexact H4
  isplitl [H8]; · iexact H8
  isplitl [H19]
  · iexists _
    isplitl [H19]; · iexact H19
    ipureintro
    refine ⟨rd_next arg19.view f19 k0_off2 k0_off2_inb I.b19 k _ rfl 0 (in_apart k0_off2_eq) h19, (rd_other arg19.view f19 _ _ _ _ 0 ?_).trans h19a, (rd_other arg19.view f19 _ _ _ _ 0 ?_).trans h19b⟩
    · rw [k0_off2_eq]; exact Or.inl (Nat.le_add_left 8 _)
    · rw [k0_off2_eq]; exact Or.inr (by show 256 * k.val + 8 + 256 ≤ 1032; omega)
  isplitl [H20]
  · iexists _
    isplitl [H20]; · iexact H20
    ipureintro
    refine ⟨rd_next arg20.view f20 k0_off4 k0_off4_inb I.b20 k _ rfl 0 (in_apart k0_off4_eq) h20, (rd_other arg20.view f20 _ _ _ _ 0 ?_).trans h20a, (rd_other arg20.view f20 _ _ _ _ 0 ?_).trans h20b⟩
    · rw [k0_off4_eq]; exact Or.inl (Nat.le_add_left 8 _)
    · rw [k0_off4_eq]; exact Or.inr (by show 256 * k.val + 8 + 256 ≤ 1032; omega)
  isplitl [H21]
  · iexists _
    isplitl [H21]; · iexact H21
    ipureintro
    exact rd_next arg21.view f21 k0_off3 k0_off3_inb I.b21 k _ rfl 0 (rows_apart S256x512.size rfl k0_off3_eq) h21
  isplitl [H22]
  · iexists _
    isplitl [H22]; · iexact H22
    ipureintro
    exact rd_next arg22.view f22 k0_off3 k0_off3_inb I.b22 k _ rfl 0 (rows_apart S256x512.size rfl k0_off3_eq) h22
  iexists _
  isplitl [H23]; · iexact H23
  ipureintro
  exact rd_next arg23.view f23 k0_off5 k0_off5_inb I.b23 k _ rfl 0 (rows_apart S256x128.size rfl k0_off5_eq) h23

/-- The first part of the body: the pads cleared and the input projections done; it hands on the output's gate row, the scan's
decay rates and two index rows. -/
theorem pro_run (𝒱 : Variants) (bd : Option 𝒱.V) (E : Set ℕ) (x1 : BufTy.Contents (Elt F) arg1.view.ty) (x2 : BufTy.Contents (Elt F) arg2.view.ty) (x3 : BufTy.Contents (Elt F) arg3.view.ty) (x4 : BufTy.Contents (Elt F) arg4.view.ty) (x8 : BufTy.Contents (Elt F) arg8.view.ty) (x9 : BufTy.Contents (Elt F) arg9.view.ty)
    (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) :
    (iprop((arg1.view.loc (c : Thread nD τ) ↦[arg1.view.set]{fullShare} x1) ∗ (arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg8.view.loc (c : Thread nD τ) ↦[arg8.view.set]{fullShare} x8) ∗ (arg9.view.loc (c : Thread nD τ) ↦[arg9.view.set]{fullShare} x9) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23)) : sProp 𝕄G)
      ⊢ wp frame (wpE (defs₀ (F := F)) 𝒱 (c : Thread nD τ) bd) E (k0_part15 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31)
        (fun r => iprop(⌜r = ⟨k0_pay103 (arg2.view.readAt (Elt F) (Rect.unit (s := S1x6x1024) ![0, 2, 0] S1x1x1024.size inb_S1x6x1024_S1x1x1024_0_2_0).toLoadRect x2),
            k0_pay111 (arg9.view.readAt (Elt F) (Rect.unit (s := S1x128) ![0, 0] S1x128.size inb_S1x128_S1x128_0_0).toLoadRect x9),
            iota .tc S128x128 32 [1] iota_S128x128_d1_w32, iota .tc S1x128 32 [1] iota_S1x128_d1_w32⟩⌝
          ∗ (arg2.view.loc (c : Thread nD τ) ↦[arg2.view.set]{fullShare} x2) ∗ (arg9.view.loc (c : Thread nD τ) ↦[arg9.view.set]{fullShare} x9)
          ∗ proInv c arg1 arg3 arg4 arg8 arg19 arg20 arg21 arg22 arg23 (proIn arg1 arg3 arg4 arg8 (arg2.view.readAt (Elt F) (Rect.unit (s := S1x6x1024) ![0, 0, 0] S1x1x1024.size inb_S1x6x1024_S1x1x1024_0_0_0).toLoadRect x2) (arg2.view.readAt (Elt F) (Rect.unit (s := S1x6x1024) ![0, 1, 0] S1x1x1024.size inb_S1x6x1024_S1x1x1024_0_1_0).toLoadRect x2) x1 x3 x4 x8) x1 x3 x4 x8 k0_t1_loop.trips)) := by
  iintro ⟨H1, H2, H3, H4, H8, H9, H19, H20, H21, H22, H23⟩
  sl_exec
  sl_for (fun k _ => proInv c arg1 arg3 arg4 arg8 arg19 arg20 arg21 arg22 arg23 (proIn arg1 arg3 arg4 arg8 (arg2.view.readAt (Elt F) (Rect.unit (s := S1x6x1024) ![0, 0, 0] S1x1x1024.size inb_S1x6x1024_S1x1x1024_0_0_0).toLoadRect x2) (arg2.view.readAt (Elt F) (Rect.unit (s := S1x6x1024) ![0, 1, 0] S1x1x1024.size inb_S1x6x1024_S1x1x1024_0_1_0).toLoadRect x2) x1 x3 x4 x8) x1 x3 x4 x8 k) $$ [H1 H3 H4 H8 H19 H20 H21 H22 H23]
  case region =>
    exact fun k acc => pro_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 𝒱 bd E _ _ x1 x3 x4 x8 k acc
  · isplitl [H1]; · iexact H1
    isplitl [H3]; · iexact H3
    isplitl [H4]; · iexact H4
    isplitl [H8]; · iexact H8
    isplitl [H19]
    · iexists _
      isplitl [H19]; · iexact H19
      ipureintro
      refine ⟨fun j hj => absurd hj (Nat.not_lt_zero _), ?_, ?_⟩
      · exact (rd_other arg19.view f19 _ _ _ _ 0 (Or.inl (by decide))).trans (rd_same arg19.view f19 _ _ _ _)
      · exact rd_same arg19.view f19 _ _ _ _
    isplitl [H20]
    · iexists _
      isplitl [H20]; · iexact H20
      ipureintro
      refine ⟨fun j hj => absurd hj (Nat.not_lt_zero _), ?_, ?_⟩
      · exact (rd_other arg20.view f20 _ _ _ _ 0 (Or.inl (by decide))).trans (rd_same arg20.view f20 _ _ _ _)
      · exact rd_same arg20.view f20 _ _ _ _
    isplitl [H21]
    · iexists _
      isplitl [H21]; · iexact H21
      ipureintro
      exact fun j hj => absurd hj (Nat.not_lt_zero _)
    isplitl [H22]
    · iexists _
      isplitl [H22]; · iexact H22
      ipureintro
      exact fun j hj => absurd hj (Nat.not_lt_zero _)
    iexists _
    isplitl [H23]; · iexact H23
    ipureintro
    exact fun j hj => absurd hj (Nat.not_lt_zero _)
  iintro %_ HI
  icases HI with ⟨H1, H3, H4, H8, HW⟩
  sl_exec
  sl_step
  isplitr; · ipureintro; rfl
  isplitl [H2]; · iexact H2
  isplitl [H9]; · iexact H9
  isplitl [H1]; · iexact H1
  isplitl [H3]; · iexact H3
  isplitl [H4]; · iexact H4
  isplitl [H8]; · iexact H8
  iexact HW

/-- A block of output rows. -/
abbrev outBlk (v5 : FVec F S1x1024 .f32) (y : Vec F S1024x1024 .bf16) (w : Vec F S1024x1024 .bf16) (x : Vec F S1024x1024 .f32)
    (k : Fin k0_t4_loop.trips) : FVec F S256x1024 .f32 :=
  k0_pay16 v5 (part y (k0_off18 k) S256x1024.size (k0_off18_inb k)) (part w ![0, 0] S1024x1024.size inb_S1024x1024_S1024x1024_0_0)
    (part x (k0_off18 k) S256x1024.size (k0_off18_inb k))

/-- What the output projection holds before block `k`. -/
abbrev outInv (v5 : FVec F S1x1024 .f32) (x1 : BufTy.Contents (Elt F) arg1.view.ty) (x12 : BufTy.Contents (Elt F) arg12.view.ty) (x27 : BufTy.Contents (Elt F) arg27.view.ty) (k : ℕ) : sProp 𝕄G :=
  iprop((arg1.view.loc (c : Thread nD τ) ↦[arg1.view.set]{fullShare} x1) ∗ (arg12.view.loc (c : Thread nD τ) ↦[arg12.view.set]{fullShare} x12) ∗ (arg27.view.loc (c : Thread nD τ) ↦[arg27.view.set]{fullShare} x27) ∗ (∃ f, (arg16.view.loc (c : Thread nD τ) ↦[arg16.view.set]{fullShare} f) ∗ ⌜∀ j : Fin k0_t4_loop.trips, j.val < k → arg16.view.readAt (Elt F) (Rect.unit (s := S1024x1024) (k0_off18 j) S256x1024.size (k0_off18_inb j)).toLoadRect f = outBlk v5 (arg27.view.read (Elt F) x27) (arg12.view.read (Elt F) x12) (arg1.view.read (Elt F) x1) j⌝))

/-- One block of the output projection. -/
theorem out_step (𝒱 : Variants) (bd : Option 𝒱.V) (E : Set ℕ) (v5 : FVec F S1x1024 .f32) (x1 : BufTy.Contents (Elt F) arg1.view.ty) (x12 : BufTy.Contents (Elt F) arg12.view.ty) (x27 : BufTy.Contents (Elt F) arg27.view.ty) (k : Fin k0_t4_loop.trips) (acc : PUnit) :
    (outInv c arg1 arg12 arg16 arg27 v5 x1 x12 x27 k : sProp 𝕄G)
      ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 v5 k acc)
        (fun _ => outInv c arg1 arg12 arg16 arg27 v5 x1 x12 x27 (k.val + 1)) := by
  have hk : k.val < 4 := Nat.lt_of_lt_of_le k.isLt k0_t4_abs.2.1
  iintro ⟨H1, H12, H27, ⟨%f16, H16, %h16⟩⟩
  unfold k0_t4_body
  sl_exec
  sl_step
  isplitl [H1]; · iexact H1
  isplitl [H12]; · iexact H12
  isplitl [H27]; · iexact H27
  iexists _
  isplitl [H16]; · iexact H16
  ipureintro
  exact rd_next arg16.view f16 k0_off18 k0_off18_inb _ k _ rfl 0 (rows_apart S256x1024.size rfl k0_off18_eq) h16

end Cert.Proof.Mixer

end
-- ==== Proof.MixVal.lean ====
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit
public import proofs.«01_k».proof.Proof.Pieces
public import proofs.«01_k».proof.Proof.MixFwd
public import proofs.«01_k».proof.Proof.MixBwd
public import proofs.«01_k».proof.Proof.MixPro
public import Idealize.ShloMosaic.Lib.Pointwise

@[expose] public section

/-! # What the mixer's body computes, as functions of its input blocks -/

set_option maxRecDepth 8192
set_option maxHeartbeats 4000000

noncomputable section

namespace Cert.Proof.Mixer

open Cert.KernelIdeal Cert.KernelIdeal.Gen Cert.Proof.Pieces
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

omit [FloatOps F] in
/-- An element of a block read back is that block's element. -/
theorem rd_at {sp : Space} {s : Shape} {e : EltTy} (v : View sig .tc sp s e) {f : BufTy.Contents (Elt F) v.ty} {off size : Fin s.rank → ℕ}
    {inb : ∀ a, off a + size a ≤ s.size a} {P : (Rect.unit off size inb).shape.Idx → Elt F e}
    (h : v.readAt (Elt F) (Rect.unit off size inb).toLoadRect f = P) (y : s.Idx) (x : (Rect.unit off size inb).shape.Idx)
    (hx : ∀ a, (y a).val = off a + (x a).val) : v.read (Elt F) f y = P x := by
  have hy : (Rect.unit off size inb).emb x = y := funext fun a => Fin.ext (by
    show off a + 1 * (x a).val = (y a).val
    rw [hx a, Nat.one_mul])
  rw [← h, ← hy]
  rfl

/-- Equal offsets cover equal parts. -/
theorem part_congr {s : Shape} {e : EltTy} (A : Vec F s e) {off off' size : Fin s.rank → ℕ} (inb : ∀ a, off a + size a ≤ s.size a)
    (inb' : ∀ a, off' a + size a ≤ s.size a) (h : off = off') : part A off size inb = part A off' size inb' := by
  subst h; rfl

theorem t1_trips : k0_t1_loop.trips = 4 := by decide
theorem t2_trips : k0_t2_loop.trips = 8 := by decide
theorem t3_trips : k0_t3_loop.trips = 8 := by decide
theorem t4_trips : k0_t4_loop.trips = 4 := by decide

/-- Blocks of `m` rows, one below the other. -/
def stack {n m d N : ℕ} {α : Type} (hN : N = m * n) (hm : 0 < m) (P : Fin n → (⟨2, ![m, d]⟩ : Shape).Idx → α) :
    (⟨2, ![N, d]⟩ : Shape).Idx → α :=
  fun y => P ⟨(y 0).val / m, Nat.div_lt_of_lt_mul (hN ▸ (y 0).isLt)⟩ (ix2 ⟨(y 0).val % m, Nat.mod_lt _ hm⟩ (y 1))

omit [FloatOps F] in
/-- A buffer whose blocks of rows are known is their stack. -/
theorem read_stack {sp : Space} {n m d N : ℕ} {e : EltTy} (v : View sig .tc sp ⟨2, ![N, d]⟩ e) {f : BufTy.Contents (Elt F) v.ty}
    (hN : N = m * n) (hm : 0 < m) (P : Fin n → (⟨2, ![m, d]⟩ : Shape).Idx → Elt F e) {off : Fin n → Fin 2 → ℕ}
    {inb : ∀ j a, off j a + (⟨2, ![m, d]⟩ : Shape).size a ≤ (⟨2, ![N, d]⟩ : Shape).size a} (ho : ∀ j, off j = ![m * j.val, 0])
    (h : ∀ j, v.readAt (Elt F) (Rect.unit (s := ⟨2, ![N, d]⟩) (off j) (⟨2, ![m, d]⟩ : Shape).size (inb j)).toLoadRect f = P j) :
    v.read (Elt F) f = stack hN hm P := by
  funext y
  refine rd_at v (h _) y _ fun a => ?_
  refine Eq.trans ?_ (congrArg (· + _) (congrFun (ho _) a).symm)
  match a with
  | ⟨0, _⟩ => exact (Nat.div_add_mod (y 0).val m).symm
  | ⟨1, _⟩ => exact (Nat.zero_add _).symm

/-- The mixer's input blocks at a grid point. -/
structure MixIn (F : FTy → Type) [FloatOps F] where
  a1 : Vec F S1024x1024 .f32
  a2 : Vec F S1x6x1024 .f32
  a3 : Vec F S1x1024 .f32
  a4 : Vec F S1024x3200 .bf16
  a5 : Vec F S3x512 .f32
  a6 : Vec F S3x1024 .f32
  a7 : Vec F S1x1024 .f32
  a8 : Vec F S1x128 .f32
  a9 : Vec F S1x128 .f32
  a10 : Vec F S1x512 .f32
  a11 : Vec F S1x512 .f32
  a12 : Vec F S1024x1024 .bf16
  a13 : Vec F S128x128 .bf16
  a14 : Vec F S128x128 .bf16
  a15 : Vec F S128x1024 .bf16

namespace MixIn

variable (M : MixIn F)

/-- What the projections read. -/
abbrev pro : ProIn F where
  v0 := part M.a2 ![0, 0, 0] S1x1x1024.size inb_S1x6x1024_S1x1x1024_0_0_0
  v2 := part M.a2 ![0, 1, 0] S1x1x1024.size inb_S1x6x1024_S1x1x1024_0_1_0
  a1 := M.a1
  a3 := M.a3
  a4 := M.a4
  a8 := M.a8

/-- The gated rows of the short convolution, a pad above and below. -/
def g19 : Vec F S1040x512 .f32 := fun y =>
  if h : (y 0).val < 8 then (k0_pay106 : FVec F S8x512 .f32) (ix2 ⟨(y 0).val, h⟩ (y 1 : Fin _))
  else if h' : (y 0).val < 1032 then
    M.pro.b19 ⟨((y 0).val - 8) / 256, by rw [t1_trips]; omega⟩ (ix2 ⟨((y 0).val - 8) % 256, Nat.mod_lt _ (by decide)⟩ (y 1 : Fin _))
  else (k0_pay107 : FVec F S8x512 .f32) (ix2 ⟨(y 0).val - 1032, by have : (y 0).val < 1040 := (y 0).isLt; omega⟩ (y 1 : Fin _))
/-- The rows of the scan's convolution, a pad above and below. -/
def g20 : Vec F S1040x1024 .f32 := fun y =>
  if h : (y 0).val < 8 then (k0_pay108 : FVec F S8x1024 .f32) (ix2 ⟨(y 0).val, h⟩ (y 1 : Fin _))
  else if h' : (y 0).val < 1032 then
    M.pro.b20 ⟨((y 0).val - 8) / 256, by rw [t1_trips]; omega⟩ (ix2 ⟨((y 0).val - 8) % 256, Nat.mod_lt _ (by decide)⟩ (y 1 : Fin _))
  else (k0_pay109 : FVec F S8x1024 .f32) (ix2 ⟨(y 0).val - 1032, by have : (y 0).val < 1040 := (y 0).isLt; omega⟩ (y 1 : Fin _))
/-- The short convolution's gates. -/
def g21 : Vec F S1024x512 .f32 := stack (by rw [t1_trips]) (by decide) M.pro.b21
/-- The scan's gates. -/
def g22 : Vec F S1024x512 .f32 := stack (by rw [t1_trips]) (by decide) M.pro.b22
/-- The step sizes. -/
def g23 : Vec F S1024x128 .f32 := stack (by rw [t1_trips]) (by decide) M.pro.b23

/-- The lanes of a square tile. -/
abbrev lanes : IVec S128x128 32 := iota .tc S128x128 32 [1] iota_S128x128_d1_w32
/-- The lanes of a row. -/
abbrev lanes1 : IVec S1x128 32 := iota .tc S1x128 32 [1] iota_S1x128_d1_w32

/-- What the forward scan reads. -/
def fwd : FwdIn F where
  v25 := k0_pay111 (part M.a9 ![0, 0] S1x128.size inb_S1x128_S1x128_0_0)
  v26 := lanes
  v27 := lanes1
  a5 := M.a5
  a6 := M.a6
  a7 := M.a7
  a13 := M.a13
  a14 := M.a14
  a15 := M.a15
  a19 := M.g19
  a20 := M.g20
  a21 := M.g21
  a23 := M.g23

/-- The chunk a backward trip meets: the last one first. -/
abbrev rev (k : Fin k0_t3_loop.trips) : Fin k0_t2_loop.trips := ⟨7 - k.val, lt_of_lt_of_eq (by omega : 7 - k.val < 8) t2_trips.symm⟩

theorem rev_val (k : Fin k0_t3_loop.trips) : (rev k).val = 7 - k.val := rfl

/-- What the backward scan reads of the chunk it meets at a trip. -/
def bwd (k : Fin k0_t3_loop.trips) : BwdIn F where
  v26 := lanes
  v27 := lanes1
  e := M.fwd.e (rev k)
  dt := M.fwd.dt (rev k)
  xs := M.fwd.xs (rev k)
  bc := M.fwd.bc (rev k)
  sf := k0_pay7 (M.fwd.sin (rev k))
  csb := M.fwd.csb (rev k)
  z := part M.g22 (k0_off14 k) S128x512.size (k0_off14_inb k)
  expand := part M.a15 ![0, 0] S128x1024.size inb_S128x1024_S128x1024_0_0
  skip := part M.a10 ![0, 0] S1x512.size inb_S1x512_S1x512_0_0
  gain := part M.a11 ![0, 0] S1x512.size inb_S1x512_S1x512_0_0

/-- The trip that meets chunk `j`. -/
abbrev trip (j : ℕ) : Fin k0_t3_loop.trips := ⟨7 - j, by rw [t3_trips]; omega⟩

/-- The mixed rows: the short convolution's half and the scan's. -/
def g27 : Vec F S1024x1024 .bf16 := fun y =>
  if h : (y 1).val < 512 then
    M.fwd.ya ⟨(y 0).val / 128, by rw [t2_trips]; have : (y 0).val < 1024 := (y 0).isLt; omega⟩
      (ix2 ⟨(y 0).val % 128, Nat.mod_lt _ (by decide)⟩ ⟨(y 1).val, h⟩)
  else (M.bwd (trip ((y 0).val / 128))).yb (bwdSin M.bwd (trip ((y 0).val / 128)))
      (ix2 ⟨(y 0).val % 128, Nat.mod_lt _ (by decide)⟩ ⟨(y 1).val - 512, by have : (y 1).val < 1024 := (y 1).isLt; omega⟩)
/-- The output rows. -/
def g16 : Vec F S1024x1024 .f32 :=
  stack (by rw [t4_trips]) (by decide)
    (outBlk (k0_pay103 (part M.a2 ![0, 2, 0] S1x1x1024.size inb_S1x6x1024_S1x1x1024_0_2_0)) M.g27 M.a12 M.a1)
/-- The forward states, a segment's each. -/
def g17 : Vec F S4x512x128 .f32 := fun y =>
  M.fwd.fin ⟨2 * (y 0).val + 1, by rw [t2_trips]; have : (y 0).val < 4 := (y 0).isLt; omega⟩
    (M.fwd.sin ⟨2 * (y 0).val + 1, by rw [t2_trips]; have : (y 0).val < 4 := (y 0).isLt; omega⟩) (ix3 (0 : Fin 1) (y 1 : Fin _) (y 2 : Fin _))
/-- The backward states, a segment's each. -/
def g18 : Vec F S4x512x128 .f32 := fun y =>
  (M.bwd (trip (2 * (y 0).val))).fin (bwdSin M.bwd (trip (2 * (y 0).val))) (ix3 (0 : Fin 1) (y 1 : Fin _) (y 2 : Fin _))

end MixIn

/-- The padded rows of scratch 0, from its blocks and pads. -/
theorem read_g19 (M : MixIn F) (arg19 : Memref sig .tc .vmem S1040x512 .f32) {f : BufTy.Contents (Elt F) arg19.view.ty}
    (h : ∀ j : Fin k0_t1_loop.trips, arg19.view.readAt (Elt F) (Rect.unit (s := S1040x512) (k0_off2 j) S256x512.size (k0_off2_inb j)).toLoadRect f = M.pro.b19 j)
    (ha : arg19.view.readAt (Elt F) (Rect.unit (s := S1040x512) ![0, 0] S8x512.size inb_S1040x512_S8x512_0_0).toLoadRect f = k0_pay106)
    (hb : arg19.view.readAt (Elt F) (Rect.unit (s := S1040x512) ![1032, 0] S8x512.size inb_S1040x512_S8x512_1032_0).toLoadRect f = k0_pay107) :
    arg19.view.read (Elt F) f = M.g19 := by
  funext y
  unfold MixIn.g19
  split
  · exact rd_at arg19.view ha y _ fun a => match a with
      | ⟨0, _⟩ => (Nat.zero_add _).symm
      | ⟨1, _⟩ => (Nat.zero_add _).symm
  split
  · refine rd_at arg19.view (h _) y _ fun a => ?_
    refine Eq.trans ?_ (congrArg (· + _) (congrFun (k0_off2_eq _) a).symm)
    match a with
    | ⟨0, _⟩ => show (y 0).val = 256 * (((y 0).val - 8) / 256) + 8 + ((y 0).val - 8) % 256; omega
    | ⟨1, _⟩ => exact (Nat.zero_add _).symm
  · exact rd_at arg19.view hb y _ fun a => match a with
      | ⟨0, _⟩ => by show (y 0).val = 1032 + ((y 0).val - 1032); omega
      | ⟨1, _⟩ => (Nat.zero_add _).symm

/-- The padded rows of scratch 1, from its blocks and pads. -/
theorem read_g20 (M : MixIn F) (arg20 : Memref sig .tc .vmem S1040x1024 .f32) {f : BufTy.Contents (Elt F) arg20.view.ty}
    (h : ∀ j : Fin k0_t1_loop.trips, arg20.view.readAt (Elt F) (Rect.unit (s := S1040x1024) (k0_off4 j) S256x1024.size (k0_off4_inb j)).toLoadRect f = M.pro.b20 j)
    (ha : arg20.view.readAt (Elt F) (Rect.unit (s := S1040x1024) ![0, 0] S8x1024.size inb_S1040x1024_S8x1024_0_0).toLoadRect f = k0_pay108)
    (hb : arg20.view.readAt (Elt F) (Rect.unit (s := S1040x1024) ![1032, 0] S8x1024.size inb_S1040x1024_S8x1024_1032_0).toLoadRect f = k0_pay109) :
    arg20.view.read (Elt F) f = M.g20 := by
  funext y
  unfold MixIn.g20
  split
  · exact rd_at arg20.view ha y _ fun a => match a with
      | ⟨0, _⟩ => (Nat.zero_add _).symm
      | ⟨1, _⟩ => (Nat.zero_add _).symm
  split
  · refine rd_at arg20.view (h _) y _ fun a => ?_
    refine Eq.trans ?_ (congrArg (· + _) (congrFun (k0_off4_eq _) a).symm)
    match a with
    | ⟨0, _⟩ => show (y 0).val = 256 * (((y 0).val - 8) / 256) + 8 + ((y 0).val - 8) % 256; omega
    | ⟨1, _⟩ => exact (Nat.zero_add _).symm
  · exact rd_at arg20.view hb y _ fun a => match a with
      | ⟨0, _⟩ => by show (y 0).val = 1032 + ((y 0).val - 1032); omega
      | ⟨1, _⟩ => (Nat.zero_add _).symm

/-- The forward states, from the blocks the segments' last chunks stored. -/
theorem read_g17 (M : MixIn F) (arg17 : Memref sig .tc .vmem S4x512x128 .f32) {f : BufTy.Contents (Elt F) arg17.view.ty}
    (h : ∀ j : Fin k0_t2_loop.trips, j.val < k0_t2_loop.trips → ∀ h : k0_cond2 j = 1#1,
      arg17.view.readAt (Elt F) (Rect.unit (s := S4x512x128) (k0_off12 j) S1x512x128.size (k0_off12_inb j h)).toLoadRect f = M.fwd.fin j (M.fwd.sin j)) :
    arg17.view.read (Elt F) f = M.g17 := by
  funext y
  have h4 : (y 0).val < 4 := (y 0).isLt
  have hj : 2 * (y 0).val + 1 < k0_t2_loop.trips := by rw [t2_trips]; omega
  refine rd_at arg17.view (h ⟨2 * (y 0).val + 1, hj⟩ hj ((odd_cond _ (by show ¬ (2 * (y 0).val + 1) % 2 = 0; omega)).2)) y _ fun a => ?_
  refine Eq.trans ?_ (congrArg (· + _) (congrFun (k0_off12_eq _) a).symm)
  match a with
  | ⟨0, _⟩ => show (y 0).val = (2 * (y 0).val + 1) / 2 + 0; omega
  | ⟨1, _⟩ => exact (Nat.zero_add _).symm
  | ⟨2, _⟩ => exact (Nat.zero_add _).symm

/-- The backward states, from the blocks the segments' first chunks stored. -/
theorem read_g18 (M : MixIn F) (arg18 : Memref sig .tc .vmem S4x512x128 .f32) {f : BufTy.Contents (Elt F) arg18.view.ty}
    (h : ∀ j : Fin k0_t3_loop.trips, j.val < k0_t3_loop.trips → ∀ h : k0_cond4 j = 1#1,
      arg18.view.readAt (Elt F) (Rect.unit (s := S4x512x128) (k0_off17 j) S1x512x128.size (k0_off17_inb j h)).toLoadRect f = (M.bwd j).fin (bwdSin M.bwd j)) :
    arg18.view.read (Elt F) f = M.g18 := by
  funext y
  have h4 : (y 0).val < 4 := (y 0).isLt
  refine rd_at arg18.view (h (MixIn.trip (2 * (y 0).val)) (Fin.isLt _)
    ((bwd_odd_cond _ (by show ¬ (7 - 2 * (y 0).val) % 2 = 0; omega)).2)) y _ fun a => ?_
  refine Eq.trans ?_ (congrArg (· + _) (congrFun (k0_off17_eq _) a).symm)
  match a with
  | ⟨0, _⟩ => show (y 0).val = (7 - (7 - 2 * (y 0).val)) / 2 + 0; omega
  | ⟨1, _⟩ => exact (Nat.zero_add _).symm
  | ⟨2, _⟩ => exact (Nat.zero_add _).symm

/-- The mixed rows, from the blocks the two scans stored. -/
theorem read_g27 (M : MixIn F) (arg27 : Memref sig .tc .vmem S1024x1024 .bf16) {f : BufTy.Contents (Elt F) arg27.view.ty}
    (ha : ∀ j : Fin k0_t2_loop.trips, arg27.view.readAt (Elt F) (Rect.unit (s := S1024x1024) (k0_off9 j) S128x512.size (k0_off9_inb j)).toLoadRect f = M.fwd.ya j)
    (hb : ∀ j : Fin k0_t3_loop.trips, arg27.view.readAt (Elt F) (Rect.unit (s := S1024x1024) (k0_off16 j) S128x512.size (k0_off16_inb j)).toLoadRect f = (M.bwd j).yb (bwdSin M.bwd j)) :
    arg27.view.read (Elt F) f = M.g27 := by
  funext y
  have h8 : (y 0).val < 1024 := (y 0).isLt
  unfold MixIn.g27
  split
  · refine rd_at arg27.view (ha _) y _ fun a => ?_
    refine Eq.trans ?_ (congrArg (· + _) (congrFun (k0_off9_eq _) a).symm)
    match a with
    | ⟨0, _⟩ => show (y 0).val = 128 * ((y 0).val / 128) + (y 0).val % 128; omega
    | ⟨1, _⟩ => exact (Nat.zero_add _).symm
  · refine rd_at arg27.view (hb _) y _ fun a => ?_
    refine Eq.trans ?_ (congrArg (· + _) (congrFun (k0_off16_eq _) a).symm)
    match a with
    | ⟨0, _⟩ => show (y 0).val = 896 - 128 * (7 - (y 0).val / 128) + (y 0).val % 128; omega
    | ⟨1, _⟩ => show (y 1).val = 512 + ((y 1).val - 512); omega

/-- The rows a backward trip reads are those of the chunk it meets. -/
theorem off13_rev (k : Fin k0_t3_loop.trips) : k0_off13 k = k0_off10 (MixIn.rev k) := by
  rw [k0_off13_eq, k0_off10_eq, MixIn.rev_val, show 896 - 128 * k.val = 128 * (7 - k.val) by omega]
theorem off14_rev (k : Fin k0_t3_loop.trips) : k0_off14 k = k0_off7 (MixIn.rev k) := by
  rw [k0_off14_eq, k0_off7_eq, MixIn.rev_val, show 896 - 128 * k.val = 128 * (7 - k.val) by omega]
theorem off15_rev (k : Fin k0_t3_loop.trips) : k0_off15 k = k0_off11 (MixIn.rev k) := by
  rw [k0_off15_eq, k0_off11_eq, MixIn.rev_val]

end Cert.Proof.Mixer

end
-- ==== Proof.MixBody.lean ====
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit
public import proofs.«01_k».proof.Proof.Pieces
public import proofs.«01_k».proof.Proof.MixVal

@[expose] public section

/-! # The mixer's body, from whole input blocks to whole output blocks -/

set_option maxRecDepth 8192
set_option maxHeartbeats 4000000

noncomputable section

namespace Cert.Proof.Mixer

open Cert.KernelIdeal Cert.KernelIdeal.Gen Cert.Proof.Pieces
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
  (arg1 : Memref sig .tc .vmem S1024x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1024x3200 .bf16) (harg4 : arg4.IsWhole)
  (arg5 : Memref sig .tc .vmem S3x512 .f32) (harg5 : arg5.IsWhole)
  (arg6 : Memref sig .tc .vmem S3x1024 .f32) (harg6 : arg6.IsWhole)
  (arg7 : Memref sig .tc .vmem S1x1024 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S1024x1024 .bf16) (harg12 : arg12.IsWhole)
  (arg13 : Memref sig .tc .vmem S128x128 .bf16) (harg13 : arg13.IsWhole)
  (arg14 : Memref sig .tc .vmem S128x128 .bf16) (harg14 : arg14.IsWhole)
  (arg15 : Memref sig .tc .vmem S128x1024 .bf16) (harg15 : arg15.IsWhole)
  (arg16 : Memref sig .tc .vmem S1024x1024 .f32) (harg16 : arg16.IsWhole)
  (arg17 : Memref sig .tc .vmem S4x512x128 .f32) (harg17 : arg17.IsWhole)
  (arg18 : Memref sig .tc .vmem S4x512x128 .f32) (harg18 : arg18.IsWhole)
  (arg19 : Memref sig .tc .vmem S1040x512 .f32) (harg19 : arg19.IsWhole)
  (arg20 : Memref sig .tc .vmem S1040x1024 .f32) (harg20 : arg20.IsWhole)
  (arg21 : Memref sig .tc .vmem S1024x512 .f32) (harg21 : arg21.IsWhole)
  (arg22 : Memref sig .tc .vmem S1024x512 .f32) (harg22 : arg22.IsWhole)
  (arg23 : Memref sig .tc .vmem S1024x128 .f32) (harg23 : arg23.IsWhole)
  (arg24 : Memref sig .tc .vmem S1024x128 .f32) (harg24 : arg24.IsWhole)
  (arg25 : Memref sig .tc .vmem S1024x512 .f32) (harg25 : arg25.IsWhole)
  (arg26 : Memref sig .tc .vmem S1024x512 .bf16) (harg26 : arg26.IsWhole)
  (arg27 : Memref sig .tc .vmem S1024x1024 .bf16) (harg27 : arg27.IsWhole)
  (arg28 : Memref sig .tc .vmem S8x128x512 .f32) (harg28 : arg28.IsWhole)
  (arg29 : Memref sig .tc .vmem S8x128x512 .f32) (harg29 : arg29.IsWhole)
  (arg30 : Memref sig .tc .vmem S128x512 .f32) (harg30 : arg30.IsWhole)
  (arg31 : Memref sig .tc .vmem S128x512 .f32) (harg31 : arg31.IsWhole)

/-- The input blocks, off the buffers. -/
abbrev mixIn (x1 : BufTy.Contents (Elt F) arg1.view.ty) (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty) (x9 : BufTy.Contents (Elt F) arg9.view.ty) (x10 : BufTy.Contents (Elt F) arg10.view.ty) (x11 : BufTy.Contents (Elt F) arg11.view.ty) (x12 : BufTy.Contents (Elt F) arg12.view.ty) (x13 : BufTy.Contents (Elt F) arg13.view.ty) (x14 : BufTy.Contents (Elt F) arg14.view.ty) (x15 : BufTy.Contents (Elt F) arg15.view.ty) : MixIn F where
  a1 := arg1.view.read (Elt F) x1
  a2 := arg2.view.read (Elt F) x2
  a3 := arg3.view.read (Elt F) x3
  a4 := arg4.view.read (Elt F) x4
  a5 := arg5.view.read (Elt F) x5
  a6 := arg6.view.read (Elt F) x6
  a7 := arg7.view.read (Elt F) x7
  a8 := arg8.view.read (Elt F) x8
  a9 := arg9.view.read (Elt F) x9
  a10 := arg10.view.read (Elt F) x10
  a11 := arg11.view.read (Elt F) x11
  a12 := arg12.view.read (Elt F) x12
  a13 := arg13.view.read (Elt F) x13
  a14 := arg14.view.read (Elt F) x14
  a15 := arg15.view.read (Elt F) x15

/-- The forward scan reads what the projections wrote. -/
theorem fwdIn_eq (M : MixIn F) (x5 : BufTy.Contents (Elt F) arg5.view.ty) (x6 : BufTy.Contents (Elt F) arg6.view.ty) (x7 : BufTy.Contents (Elt F) arg7.view.ty) (x13 : BufTy.Contents (Elt F) arg13.view.ty) (x14 : BufTy.Contents (Elt F) arg14.view.ty) (x15 : BufTy.Contents (Elt F) arg15.view.ty) (x19 : BufTy.Contents (Elt F) arg19.view.ty) (x20 : BufTy.Contents (Elt F) arg20.view.ty) (x21 : BufTy.Contents (Elt F) arg21.view.ty) (x23 : BufTy.Contents (Elt F) arg23.view.ty)
    (h5 : arg5.view.read (Elt F) x5 = M.a5)
    (h6 : arg6.view.read (Elt F) x6 = M.a6)
    (h7 : arg7.view.read (Elt F) x7 = M.a7)
    (h13 : arg13.view.read (Elt F) x13 = M.a13)
    (h14 : arg14.view.read (Elt F) x14 = M.a14)
    (h15 : arg15.view.read (Elt F) x15 = M.a15)
    (h19 : arg19.view.read (Elt F) x19 = M.g19)
    (h20 : arg20.view.read (Elt F) x20 = M.g20)
    (h21 : arg21.view.read (Elt F) x21 = M.g21)
    (h23 : arg23.view.read (Elt F) x23 = M.g23)
    : fwdIn arg5 arg6 arg7 arg13 arg14 arg15 arg19 arg20 arg21 arg23 (k0_pay111 (part M.a9 ![0, 0] S1x128.size inb_S1x128_S1x128_0_0)) MixIn.lanes MixIn.lanes1 x5 x6 x7 x13 x14 x15 x19 x20 x21 x23 = M.fwd := by
  unfold fwdIn MixIn.fwd
  rw [h5, h6, h7, h13, h14, h15, h19, h20, h21, h23]

/-- The backward scan reads what the forward scan wrote of the chunk it meets. -/
theorem bwdIn_eq (M : MixIn F) (x10 : BufTy.Contents (Elt F) arg10.view.ty) (x11 : BufTy.Contents (Elt F) arg11.view.ty) (x15 : BufTy.Contents (Elt F) arg15.view.ty) (x22 : BufTy.Contents (Elt F) arg22.view.ty) (x23 : BufTy.Contents (Elt F) arg23.view.ty) (x24 : BufTy.Contents (Elt F) arg24.view.ty) (x25 : BufTy.Contents (Elt F) arg25.view.ty) (x26 : BufTy.Contents (Elt F) arg26.view.ty) (x28 : BufTy.Contents (Elt F) arg28.view.ty) (x29 : BufTy.Contents (Elt F) arg29.view.ty)
    (h10 : arg10.view.read (Elt F) x10 = M.a10)
    (h11 : arg11.view.read (Elt F) x11 = M.a11)
    (h15 : arg15.view.read (Elt F) x15 = M.a15)
    (h22 : arg22.view.read (Elt F) x22 = M.g22)
    (h23 : arg23.view.read (Elt F) x23 = M.g23)
    (h24 : ∀ j : Fin k0_t2_loop.trips, arg24.view.readAt (Elt F) (Rect.unit (s := S1024x128) (k0_off10 j) S128x128.size (k0_off10_inb j)).toLoadRect x24 = M.fwd.e j)
    (h25 : ∀ j : Fin k0_t2_loop.trips, arg25.view.readAt (Elt F) (Rect.unit (s := S1024x512) (k0_off7 j) S128x512.size (k0_off7_inb j)).toLoadRect x25 = M.fwd.xs j)
    (h26 : ∀ j : Fin k0_t2_loop.trips, arg26.view.readAt (Elt F) (Rect.unit (s := S1024x512) (k0_off7 j) S128x512.size (k0_off7_inb j)).toLoadRect x26 = M.fwd.bc j)
    (h28 : ∀ j : Fin k0_t2_loop.trips, arg28.view.readAt (Elt F) (Rect.unit (s := S8x128x512) (k0_off11 j) S1x128x512.size (k0_off11_inb j)).toLoadRect x28 = k0_pay7 (M.fwd.sin j))
    (h29 : ∀ j : Fin k0_t2_loop.trips, arg29.view.readAt (Elt F) (Rect.unit (s := S8x128x512) (k0_off11 j) S1x128x512.size (k0_off11_inb j)).toLoadRect x29 = M.fwd.csb j)
    (k : Fin k0_t3_loop.trips) : bwdIn arg10 arg11 arg15 arg22 arg23 arg24 arg25 arg26 arg28 arg29 MixIn.lanes MixIn.lanes1 x10 x11 x15 x22 x23 x24 x25 x26 x28 x29 k = M.bwd k := by
  have e24 := (part_congr (arg24.view.read (Elt F) x24) (k0_off13_inb k) (k0_off10_inb (MixIn.rev k)) (off13_rev k)).trans (h24 _)
  have e23 : part M.g23 (k0_off13 k) S128x128.size (k0_off13_inb k) = M.fwd.dt (MixIn.rev k) := part_congr _ _ _ (off13_rev k)
  have e25 := (part_congr (arg25.view.read (Elt F) x25) (k0_off14_inb k) (k0_off7_inb (MixIn.rev k)) (off14_rev k)).trans (h25 _)
  have e26 := (part_congr (arg26.view.read (Elt F) x26) (k0_off14_inb k) (k0_off7_inb (MixIn.rev k)) (off14_rev k)).trans (h26 _)
  have e28 := (part_congr (arg28.view.read (Elt F) x28) (k0_off15_inb k) (k0_off11_inb (MixIn.rev k)) (off15_rev k)).trans (h28 _)
  have e29 := (part_congr (arg29.view.read (Elt F) x29) (k0_off15_inb k) (k0_off11_inb (MixIn.rev k)) (off15_rev k)).trans (h29 _)
  unfold bwdIn MixIn.bwd
  rw [h10, h11, h15, h22, h23, e23, e24, e25, e26, e28, e29]

/-- What the body leaves: its inputs, the three output blocks at their values, the scratch at some contents. -/
abbrev bodyPost (x1 : BufTy.Contents (Elt F) arg1.view.ty) (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty) (x9 : BufTy.Contents (Elt F) arg9.view.ty) (x10 : BufTy.Contents (Elt F) arg10.view.ty) (x11 : BufTy.Contents (Elt F) arg11.view.ty) (x12 : BufTy.Contents (Elt F) arg12.view.ty) (x13 : BufTy.Contents (Elt F) arg13.view.ty) (x14 : BufTy.Contents (Elt F) arg14.view.ty) (x15 : BufTy.Contents (Elt F) arg15.view.ty) : sProp 𝕄G :=
  iprop((arg1.view.loc (c : Thread nD τ) ↦[arg1.view.set]{fullShare} x1) ∗ (arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7) ∗ (arg8.view.loc (c : Thread nD τ) ↦[arg8.view.set]{fullShare} x8) ∗ (arg9.view.loc (c : Thread nD τ) ↦[arg9.view.set]{fullShare} x9) ∗ (arg10.view.loc (c : Thread nD τ) ↦[arg10.view.set]{fullShare} x10) ∗ (arg11.view.loc (c : Thread nD τ) ↦[arg11.view.set]{fullShare} x11) ∗ (arg12.view.loc (c : Thread nD τ) ↦[arg12.view.set]{fullShare} x12) ∗ (arg13.view.loc (c : Thread nD τ) ↦[arg13.view.set]{fullShare} x13) ∗ (arg14.view.loc (c : Thread nD τ) ↦[arg14.view.set]{fullShare} x14) ∗ (arg15.view.loc (c : Thread nD τ) ↦[arg15.view.set]{fullShare} x15)
    ∗ owns (c : Thread nD τ) arg16 fullShare (mixIn arg1 arg2 arg3 arg4 arg5 arg6 arg7 arg8 arg9 arg10 arg11 arg12 arg13 arg14 arg15 x1 x2 x3 x4 x5 x6 x7 x8 x9 x10 x11 x12 x13 x14 x15).g16 ∗ owns (c : Thread nD τ) arg17 fullShare (mixIn arg1 arg2 arg3 arg4 arg5 arg6 arg7 arg8 arg9 arg10 arg11 arg12 arg13 arg14 arg15 x1 x2 x3 x4 x5 x6 x7 x8 x9 x10 x11 x12 x13 x14 x15).g17 ∗ owns (c : Thread nD τ) arg18 fullShare (mixIn arg1 arg2 arg3 arg4 arg5 arg6 arg7 arg8 arg9 arg10 arg11 arg12 arg13 arg14 arg15 x1 x2 x3 x4 x5 x6 x7 x8 x9 x10 x11 x12 x13 x14 x15).g18
    ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (∃ f, (arg30.view.loc (c : Thread nD τ) ↦[arg30.view.set]{fullShare} f)) ∗ (∃ f, (arg31.view.loc (c : Thread nD τ) ↦[arg31.view.set]{fullShare} f)))

/-- The body, from whole input blocks to whole output blocks. -/
theorem body_run (𝒱 : Variants) (bd : Option 𝒱.V) (E : Set ℕ) (x1 : BufTy.Contents (Elt F) arg1.view.ty) (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty) (x9 : BufTy.Contents (Elt F) arg9.view.ty) (x10 : BufTy.Contents (Elt F) arg10.view.ty) (x11 : BufTy.Contents (Elt F) arg11.view.ty) (x12 : BufTy.Contents (Elt F) arg12.view.ty) (x13 : BufTy.Contents (Elt F) arg13.view.ty) (x14 : BufTy.Contents (Elt F) arg14.view.ty) (x15 : BufTy.Contents (Elt F) arg15.view.ty)
    (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) (f23 : BufTy.Contents (Elt F) arg23.view.ty) (f24 : BufTy.Contents (Elt F) arg24.view.ty) (f25 : BufTy.Contents (Elt F) arg25.view.ty) (f26 : BufTy.Contents (Elt F) arg26.view.ty) (f27 : BufTy.Contents (Elt F) arg27.view.ty) (f28 : BufTy.Contents (Elt F) arg28.view.ty) (f29 : BufTy.Contents (Elt F) arg29.view.ty) (f30 : BufTy.Contents (Elt F) arg30.view.ty) (f31 : BufTy.Contents (Elt F) arg31.view.ty) :
    (iprop((arg1.view.loc (c : Thread nD τ) ↦[arg1.view.set]{fullShare} x1) ∗ (arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7) ∗ (arg8.view.loc (c : Thread nD τ) ↦[arg8.view.set]{fullShare} x8) ∗ (arg9.view.loc (c : Thread nD τ) ↦[arg9.view.set]{fullShare} x9) ∗ (arg10.view.loc (c : Thread nD τ) ↦[arg10.view.set]{fullShare} x10) ∗ (arg11.view.loc (c : Thread nD τ) ↦[arg11.view.set]{fullShare} x11) ∗ (arg12.view.loc (c : Thread nD τ) ↦[arg12.view.set]{fullShare} x12) ∗ (arg13.view.loc (c : Thread nD τ) ↦[arg13.view.set]{fullShare} x13) ∗ (arg14.view.loc (c : Thread nD τ) ↦[arg14.view.set]{fullShare} x14) ∗ (arg15.view.loc (c : Thread nD τ) ↦[arg15.view.set]{fullShare} x15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ (arg27.view.loc (c : Thread nD τ) ↦[arg27.view.set]{fullShare} f27) ∗ (arg28.view.loc (c : Thread nD τ) ↦[arg28.view.set]{fullShare} f28) ∗ (arg29.view.loc (c : Thread nD τ) ↦[arg29.view.set]{fullShare} f29) ∗ (arg30.view.loc (c : Thread nD τ) ↦[arg30.view.set]{fullShare} f30) ∗ (arg31.view.loc (c : Thread nD τ) ↦[arg31.view.set]{fullShare} f31)) : sProp 𝕄G)
      ⊢ wp frame (wpE (defs₀ (F := F)) 𝒱 (c : Thread nD τ) bd) E (cc0_mixer_prompt (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31)
        (fun _ => bodyPost c arg1 arg2 arg3 arg4 arg5 arg6 arg7 arg8 arg9 arg10 arg11 arg12 arg13 arg14 arg15 arg16 arg17 arg18 arg19 arg20 arg21 arg22 arg23 arg24 arg25 arg26 arg27 arg28 arg29 arg30 arg31 x1 x2 x3 x4 x5 x6 x7 x8 x9 x10 x11 x12 x13 x14 x15) := by
  iintro ⟨H1, H2, H3, H4, H5, H6, H7, H8, H9, H10, H11, H12, H13, H14, H15, H16, H17, H18, H19, H20, H21, H22, H23, H24, H25, H26, H27, H28, H29, H30, H31⟩
  rw [cc0_mixer_prompt_eq_skeleton]
  unfold cc0_mixer_prompt_skel
  rw [wp_bind]
  iapply (wp_wand_r Idealize.ShloMosaic.frame (wpE (defs₀ (F := F)) 𝒱 (c : Thread nD τ) bd) E)
  isplitl [H1 H2 H3 H4 H8 H9 H19 H20 H21 H22 H23]
  · iapply (pro_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 𝒱 bd E x1 x2 x3 x4 x8 x9 f19 f20 f21 f22 f23)
    isplitl [H1]; · iexact H1
    isplitl [H2]; · iexact H2
    isplitl [H3]; · iexact H3
    isplitl [H4]; · iexact H4
    isplitl [H8]; · iexact H8
    isplitl [H9]; · iexact H9
    isplitl [H19]; · iexact H19
    isplitl [H20]; · iexact H20
    isplitl [H21]; · iexact H21
    isplitl [H22]; · iexact H22
    iexact H23
  iintro %r ⟨%hr, H2, H9, H1, H3, H4, H8, ⟨%f19, H19, %h19, %h19a, %h19b⟩, ⟨%f20, H20, %h20, %h20a, %h20b⟩, ⟨%f21, H21, %h21⟩, ⟨%f22, H22, %h22⟩, ⟨%f23, H23, %h23⟩⟩
  subst hr
  dsimp only
  let M : MixIn F := (mixIn arg1 arg2 arg3 arg4 arg5 arg6 arg7 arg8 arg9 arg10 arg11 arg12 arg13 arg14 arg15 x1 x2 x3 x4 x5 x6 x7 x8 x9 x10 x11 x12 x13 x14 x15)
  have k19 : arg19.view.read (Elt F) f19 = M.g19 := read_g19 M arg19 (fun j => h19 j j.isLt) h19a h19b
  have k20 : arg20.view.read (Elt F) f20 = M.g20 := read_g20 M arg20 (fun j => h20 j j.isLt) h20a h20b
  have k21 : arg21.view.read (Elt F) f21 = M.g21 := read_stack arg21.view _ _ M.pro.b21 k0_off3_eq (fun j => h21 j j.isLt)
  have k22 : arg22.view.read (Elt F) f22 = M.g22 := read_stack arg22.view _ _ M.pro.b22 k0_off3_eq (fun j => h22 j j.isLt)
  have k23 : arg23.view.read (Elt F) f23 = M.g23 := read_stack arg23.view _ _ M.pro.b23 k0_off5_eq (fun j => h23 j j.isLt)
  have hA : (fwdIn arg5 arg6 arg7 arg13 arg14 arg15 arg19 arg20 arg21 arg23 (k0_pay111 (arg9.view.readAt (Elt F) (Rect.unit (s := S1x128) ![0, 0] S1x128.size inb_S1x128_S1x128_0_0).toLoadRect x9)) (iota .tc S128x128 32 [1] iota_S128x128_d1_w32) (iota .tc S1x128 32 [1] iota_S1x128_d1_w32) x5 x6 x7 x13 x14 x15 f19 f20 f21 f23) = M.fwd := fwdIn_eq arg5 arg6 arg7 arg13 arg14 arg15 arg19 arg20 arg21 arg23 M x5 x6 x7 x13 x14 x15 f19 f20 f21 f23 rfl rfl rfl rfl rfl rfl k19 k20 k21 k23
  sl_for (fun k _ => fwdInv c arg5 arg6 arg7 arg13 arg14 arg15 arg17 arg19 arg20 arg21 arg23 arg24 arg25 arg26 arg27 arg28 arg29 arg30 (fwdIn arg5 arg6 arg7 arg13 arg14 arg15 arg19 arg20 arg21 arg23 (k0_pay111 (arg9.view.readAt (Elt F) (Rect.unit (s := S1x128) ![0, 0] S1x128.size inb_S1x128_S1x128_0_0).toLoadRect x9)) (iota .tc S128x128 32 [1] iota_S128x128_d1_w32) (iota .tc S1x128 32 [1] iota_S1x128_d1_w32) x5 x6 x7 x13 x14 x15 f19 f20 f21 f23) x5 x6 x7 x13 x14 x15 f19 f20 f21 f23 k) $$ [H5 H6 H7 H13 H14 H15 H19 H20 H21 H23 H17 H24 H25 H26 H27 H28 H29 H30]
  case region =>
    exact fun k acc => (loopInv_k0_t2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 𝒱 bd E (k0_pay111 (arg9.view.readAt (Elt F) (Rect.unit (s := S1x128) ![0, 0] S1x128.size inb_S1x128_S1x128_0_0).toLoadRect x9)) (iota .tc S128x128 32 [1] iota_S128x128_d1_w32) (iota .tc S1x128 32 [1] iota_S1x128_d1_w32) x5 x6 x7 x13 x14 x15 f19 f20 f21 f23).step k acc
  · isplitl [H5]; · iexact H5
    isplitl [H6]; · iexact H6
    isplitl [H7]; · iexact H7
    isplitl [H13]; · iexact H13
    isplitl [H14]; · iexact H14
    isplitl [H15]; · iexact H15
    isplitl [H19]; · iexact H19
    isplitl [H20]; · iexact H20
    isplitl [H21]; · iexact H21
    isplitl [H23]; · iexact H23
    isplitl [H17]
    · iexists f17
      isplitl [H17]; · iexact H17
      ipureintro
      exact fun j hj => absurd hj (Nat.not_lt_zero _)
    isplitl [H24]
    · iexists f24
      isplitl [H24]; · iexact H24
      ipureintro
      exact fun j hj => absurd hj (Nat.not_lt_zero _)
    isplitl [H25]
    · iexists f25
      isplitl [H25]; · iexact H25
      ipureintro
      exact fun j hj => absurd hj (Nat.not_lt_zero _)
    isplitl [H26]
    · iexists f26
      isplitl [H26]; · iexact H26
      ipureintro
      exact fun j hj => absurd hj (Nat.not_lt_zero _)
    isplitl [H27]
    · iexists f27
      isplitl [H27]; · iexact H27
      ipureintro
      exact fun j hj => absurd hj (Nat.not_lt_zero _)
    isplitl [H28]
    · iexists f28
      isplitl [H28]; · iexact H28
      ipureintro
      exact fun j hj => absurd hj (Nat.not_lt_zero _)
    isplitl [H29]
    · iexists f29
      isplitl [H29]; · iexact H29
      ipureintro
      exact fun j hj => absurd hj (Nat.not_lt_zero _)
    iexists f30
    isplitl [H30]; · iexact H30
    ipureintro
    exact fun j hj => absurd hj (Nat.succ_ne_zero _)
  iintro %_ HI
  icases HI with ⟨H5, H6, H7, H13, H14, H15, H19, H20, H21, H23, ⟨%f17, H17, %h17⟩, ⟨%f24, H24, %h24⟩, ⟨%f25, H25, %h25⟩, ⟨%f26, H26, %h26⟩, ⟨%f27, H27, %h27⟩, ⟨%f28, H28, %h28⟩, ⟨%f29, H29, %h29⟩, ⟨%f30, H30, %h30⟩⟩
  rw [hA] at h17 h24 h25 h26 h27 h28 h29 h30
  have hB : (bwdIn arg10 arg11 arg15 arg22 arg23 arg24 arg25 arg26 arg28 arg29 (iota .tc S128x128 32 [1] iota_S128x128_d1_w32) (iota .tc S1x128 32 [1] iota_S1x128_d1_w32) x10 x11 x15 f22 f23 f24 f25 f26 f28 f29) = M.bwd := funext fun k => bwdIn_eq arg10 arg11 arg15 arg22 arg23 arg24 arg25 arg26 arg28 arg29 M x10 x11 x15 f22 f23 f24 f25 f26 f28 f29 rfl rfl rfl k22 k23 (fun j => h24 j j.isLt) (fun j => h25 j j.isLt) (fun j => h26 j j.isLt) (fun j => h28 j j.isLt) (fun j => h29 j j.isLt) k
  sl_for (fun k _ => bwdInv c arg10 arg11 arg15 arg18 arg22 arg23 arg24 arg25 arg26 arg27 arg28 arg29 arg31 (bwdIn arg10 arg11 arg15 arg22 arg23 arg24 arg25 arg26 arg28 arg29 (iota .tc S128x128 32 [1] iota_S128x128_d1_w32) (iota .tc S1x128 32 [1] iota_S1x128_d1_w32) x10 x11 x15 f22 f23 f24 f25 f26 f28 f29) x10 x11 x15 f22 f23 f24 f25 f26 f28 f29 f27 k) $$ [H10 H11 H15 H22 H23 H24 H25 H26 H28 H29 H18 H27 H31]
  case region =>
    exact fun k acc => (loopInv_k0_t3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 𝒱 bd E (iota .tc S128x128 32 [1] iota_S128x128_d1_w32) (iota .tc S1x128 32 [1] iota_S1x128_d1_w32) x10 x11 x15 f22 f23 f24 f25 f26 f28 f29 f27).step k acc
  · isplitl [H10]; · iexact H10
    isplitl [H11]; · iexact H11
    isplitl [H15]; · iexact H15
    isplitl [H22]; · iexact H22
    isplitl [H23]; · iexact H23
    isplitl [H24]; · iexact H24
    isplitl [H25]; · iexact H25
    isplitl [H26]; · iexact H26
    isplitl [H28]; · iexact H28
    isplitl [H29]; · iexact H29
    isplitl [H18]
    · iexists f18
      isplitl [H18]; · iexact H18
      ipureintro
      exact fun j hj => absurd hj (Nat.not_lt_zero _)
    isplitl [H27]
    · iexists f27
      isplitl [H27]; · iexact H27
      ipureintro
      exact ⟨fun j hj => absurd hj (Nat.not_lt_zero _), fun _ => rfl⟩
    iexists f31
    isplitl [H31]; · iexact H31
    ipureintro
    exact fun j hj => absurd hj (Nat.succ_ne_zero _)
  iintro %_ HI
  icases HI with ⟨H10, H11, H15, H22, H23, H24, H25, H26, H28, H29, ⟨%f18, H18, %h18⟩, ⟨%g27, H27, %h27a, %h27b⟩, ⟨%f31, H31, %h31⟩⟩
  rw [hB] at h18 h27a h31
  have k27 : arg27.view.read (Elt F) g27 = M.g27 :=
    read_g27 M arg27 (fun j => (h27b j).trans (h27 j j.isLt)) (fun j => h27a j j.isLt)
  sl_for (fun k _ => outInv c arg1 arg12 arg16 arg27 (k0_pay103 (arg2.view.readAt (Elt F) (Rect.unit (s := S1x6x1024) ![0, 2, 0] S1x1x1024.size inb_S1x6x1024_S1x1x1024_0_2_0).toLoadRect x2)) x1 x12 g27 k) $$ [H1 H12 H27 H16]
  case region =>
    exact fun k acc => out_step c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 𝒱 bd E (k0_pay103 (arg2.view.readAt (Elt F) (Rect.unit (s := S1x6x1024) ![0, 2, 0] S1x1x1024.size inb_S1x6x1024_S1x1x1024_0_2_0).toLoadRect x2)) x1 x12 g27 k acc
  · isplitl [H1]; · iexact H1
    isplitl [H12]; · iexact H12
    isplitl [H27]; · iexact H27
    iexists f16
    isplitl [H16]; · iexact H16
    ipureintro
    exact fun j hj => absurd hj (Nat.not_lt_zero _)
  iintro %_ HI
  icases HI with ⟨H1, H12, H27, ⟨%f16, H16, %h16⟩⟩
  rw [k27] at h16
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns
    iexists f16
    isplitr [H16]
    · ipureintro
      exact read_stack arg16.view _ _ _ k0_off18_eq (fun j => h16 j j.isLt)
    iexact H16
  isplitl [H17]
  · unfold owns
    iexists f17
    isplitr [H17]
    · ipureintro
      exact read_g17 M arg17 h17
    iexact H17
  isplitl [H18]
  · unfold owns
    iexists f18
    isplitr [H18]
    · ipureintro
      exact read_g18 M arg18 h18
    iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  iexists _
  iexact H31

end Cert.Proof.Mixer

end
-- ==== Proof.MixRun.lean ====
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit
public import proofs.«01_k».proof.Proof.Pieces
public import proofs.«01_k».proof.Proof.MixBody
public import proofs.«01_k».proof.Proof.Gen.KernelIdeal.Frame

@[expose] public section

/-! # The mixer's run: the proof data, the body obligation and the frame -/

set_option maxRecDepth 8192
set_option maxHeartbeats 4000000

noncomputable section

namespace Cert.Proof.Mixer

open Cert.KernelIdeal Cert.KernelIdeal.Gen Cert.Proof.Pieces
open Idealize.ShloMosaic Idealize.ShloMosaic.TcCoe Idealize.ShloMosaic.Tactic
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

omit [FloatOps F] in
/-- What is held at a value is at some contents that read it. -/
theorem owns_out (c : Thread nD τ) {sp : Space} {sh : Shape} {e : EltTy} (mr : Memref sig c.2.kind sp sh e) (q : PosShare TreeShare)
    (X : sh.Idx → Elt F e) :
    (owns c mr q X : sProp 𝕄G) ⊢ iprop(∃ f, ⌜mr.view.read (Elt F) f = X⌝ ∗ (mr.view.loc c ↦[mr.view.set]{q} f)) := by
  unfold owns; exact .rfl

section Body

variable (c : Dev nD) (i : grid0.Coords)
  (arg1 : Memref sig .tc .vmem S1024x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1024x3200 .bf16) (harg4 : arg4.IsWhole)
  (arg5 : Memref sig .tc .vmem S3x512 .f32) (harg5 : arg5.IsWhole)
  (arg6 : Memref sig .tc .vmem S3x1024 .f32) (harg6 : arg6.IsWhole)
  (arg7 : Memref sig .tc .vmem S1x1024 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S1024x1024 .bf16) (harg12 : arg12.IsWhole)
  (arg13 : Memref sig .tc .vmem S128x128 .bf16) (harg13 : arg13.IsWhole)
  (arg14 : Memref sig .tc .vmem S128x128 .bf16) (harg14 : arg14.IsWhole)
  (arg15 : Memref sig .tc .vmem S128x1024 .bf16) (harg15 : arg15.IsWhole)
  (arg16 : Memref sig .tc .vmem S1024x1024 .f32) (harg16 : arg16.IsWhole)
  (arg17 : Memref sig .tc .vmem S4x512x128 .f32) (harg17 : arg17.IsWhole)
  (arg18 : Memref sig .tc .vmem S4x512x128 .f32) (harg18 : arg18.IsWhole)
  (arg19 : Memref sig .tc .vmem S1040x512 .f32) (harg19 : arg19.IsWhole)
  (arg20 : Memref sig .tc .vmem S1040x1024 .f32) (harg20 : arg20.IsWhole)
  (arg21 : Memref sig .tc .vmem S1024x512 .f32) (harg21 : arg21.IsWhole)
  (arg22 : Memref sig .tc .vmem S1024x512 .f32) (harg22 : arg22.IsWhole)
  (arg23 : Memref sig .tc .vmem S1024x128 .f32) (harg23 : arg23.IsWhole)
  (arg24 : Memref sig .tc .vmem S1024x128 .f32) (harg24 : arg24.IsWhole)
  (arg25 : Memref sig .tc .vmem S1024x512 .f32) (harg25 : arg25.IsWhole)
  (arg26 : Memref sig .tc .vmem S1024x512 .bf16) (harg26 : arg26.IsWhole)
  (arg27 : Memref sig .tc .vmem S1024x1024 .bf16) (harg27 : arg27.IsWhole)
  (arg28 : Memref sig .tc .vmem S8x128x512 .f32) (harg28 : arg28.IsWhole)
  (arg29 : Memref sig .tc .vmem S8x128x512 .f32) (harg29 : arg29.IsWhole)
  (arg30 : Memref sig .tc .vmem S128x512 .f32) (harg30 : arg30.IsWhole)
  (arg31 : Memref sig .tc .vmem S128x512 .f32) (harg31 : arg31.IsWhole)

/-- The body on memrefs held at arrays, to any continuation. -/
theorem body_owns (𝒱 : Variants) (bd : Option 𝒱.V) (E : Set ℕ) (M : MixIn F) (K : PUnit → sProp 𝕄G) :
    iprop(owns (c : Thread nD τ) arg1 fullShare M.a1 ∗ owns (c : Thread nD τ) arg2 fullShare M.a2 ∗ owns (c : Thread nD τ) arg3 fullShare M.a3 ∗ owns (c : Thread nD τ) arg4 fullShare M.a4 ∗ owns (c : Thread nD τ) arg5 fullShare M.a5 ∗ owns (c : Thread nD τ) arg6 fullShare M.a6 ∗ owns (c : Thread nD τ) arg7 fullShare M.a7 ∗ owns (c : Thread nD τ) arg8 fullShare M.a8 ∗ owns (c : Thread nD τ) arg9 fullShare M.a9 ∗ owns (c : Thread nD τ) arg10 fullShare M.a10 ∗ owns (c : Thread nD τ) arg11 fullShare M.a11 ∗ owns (c : Thread nD τ) arg12 fullShare M.a12 ∗ owns (c : Thread nD τ) arg13 fullShare M.a13 ∗ owns (c : Thread nD τ) arg14 fullShare M.a14 ∗ owns (c : Thread nD τ) arg15 fullShare M.a15
        ∗ (∃ d, owns (c : Thread nD τ) arg16 fullShare d) ∗ (∃ d, owns (c : Thread nD τ) arg17 fullShare d) ∗ (∃ d, owns (c : Thread nD τ) arg18 fullShare d)
        ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (∃ f, (arg30.view.loc (c : Thread nD τ) ↦[arg30.view.set]{fullShare} f)) ∗ (∃ f, (arg31.view.loc (c : Thread nD τ) ↦[arg31.view.set]{fullShare} f))
        ∗ (iprop(owns (c : Thread nD τ) arg1 fullShare M.a1 ∗ owns (c : Thread nD τ) arg2 fullShare M.a2 ∗ owns (c : Thread nD τ) arg3 fullShare M.a3 ∗ owns (c : Thread nD τ) arg4 fullShare M.a4 ∗ owns (c : Thread nD τ) arg5 fullShare M.a5 ∗ owns (c : Thread nD τ) arg6 fullShare M.a6 ∗ owns (c : Thread nD τ) arg7 fullShare M.a7 ∗ owns (c : Thread nD τ) arg8 fullShare M.a8 ∗ owns (c : Thread nD τ) arg9 fullShare M.a9 ∗ owns (c : Thread nD τ) arg10 fullShare M.a10 ∗ owns (c : Thread nD τ) arg11 fullShare M.a11 ∗ owns (c : Thread nD τ) arg12 fullShare M.a12 ∗ owns (c : Thread nD τ) arg13 fullShare M.a13 ∗ owns (c : Thread nD τ) arg14 fullShare M.a14 ∗ owns (c : Thread nD τ) arg15 fullShare M.a15
          ∗ owns (c : Thread nD τ) arg16 fullShare M.g16 ∗ owns (c : Thread nD τ) arg17 fullShare M.g17 ∗ owns (c : Thread nD τ) arg18 fullShare M.g18
          ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (∃ f, (arg30.view.loc (c : Thread nD τ) ↦[arg30.view.set]{fullShare} f)) ∗ (∃ f, (arg31.view.loc (c : Thread nD τ) ↦[arg31.view.set]{fullShare} f))) -∗ K ⟨⟩))
      ⊢ wp frame (wpE (defs₀ (F := F)) 𝒱 (c : Thread nD τ) bd) E (cc0_mixer_prompt (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  iintro ⟨H1, H2, H3, H4, H5, H6, H7, H8, H9, H10, H11, H12, H13, H14, H15, ⟨%d16, H16⟩, ⟨%d17, H17⟩, ⟨%d18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, Hk⟩
  unfold owns
  icases H1 with ⟨%x1, %h1, H1⟩
  icases H2 with ⟨%x2, %h2, H2⟩
  icases H3 with ⟨%x3, %h3, H3⟩
  icases H4 with ⟨%x4, %h4, H4⟩
  icases H5 with ⟨%x5, %h5, H5⟩
  icases H6 with ⟨%x6, %h6, H6⟩
  icases H7 with ⟨%x7, %h7, H7⟩
  icases H8 with ⟨%x8, %h8, H8⟩
  icases H9 with ⟨%x9, %h9, H9⟩
  icases H10 with ⟨%x10, %h10, H10⟩
  icases H11 with ⟨%x11, %h11, H11⟩
  icases H12 with ⟨%x12, %h12, H12⟩
  icases H13 with ⟨%x13, %h13, H13⟩
  icases H14 with ⟨%x14, %h14, H14⟩
  icases H15 with ⟨%x15, %h15, H15⟩
  icases H16 with ⟨%f16, -, H16⟩
  icases H17 with ⟨%f17, -, H17⟩
  icases H18 with ⟨%f18, -, H18⟩
  have hM : M = mixIn arg1 arg2 arg3 arg4 arg5 arg6 arg7 arg8 arg9 arg10 arg11 arg12 arg13 arg14 arg15 x1 x2 x3 x4 x5 x6 x7 x8 x9 x10 x11 x12 x13 x14 x15 := by
    unfold mixIn
    rw [h1, h2, h3, h4, h5, h6, h7, h8, h9, h10, h11, h12, h13, h14, h15]
  rw [hM]
  iapply (wp_wand_r Idealize.ShloMosaic.frame (wpE (defs₀ (F := F)) 𝒱 (c : Thread nD τ) bd) E)
  isplitl [H1 H2 H3 H4 H5 H6 H7 H8 H9 H10 H11 H12 H13 H14 H15 H16 H17 H18 H19 H20 H21 H22 H23 H24 H25 H26 H27 H28 H29 H30 H31]
  · iapply (body_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 𝒱 bd E x1 x2 x3 x4 x5 x6 x7 x8 x9 x10 x11 x12 x13 x14 x15 f16 f17 f18 f19 f20 f21 f22 f23 f24 f25 f26 f27 f28 f29 f30 f31)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31
  iintro %_ ⟨H1, H2, H3, H4, H5, H6, H7, H8, H9, H10, H11, H12, H13, H14, H15, H16, H17, H18, H19, H20, H21, H22, H23, H24, H25, H26, H27, H28, H29, H30, H31⟩
  iapply Hk
  isplitl [H1]
  · iexists x1
    isplitr [H1]; · ipureintro; rfl
    iexact H1
  isplitl [H2]
  · iexists x2
    isplitr [H2]; · ipureintro; rfl
    iexact H2
  isplitl [H3]
  · iexists x3
    isplitr [H3]; · ipureintro; rfl
    iexact H3
  isplitl [H4]
  · iexists x4
    isplitr [H4]; · ipureintro; rfl
    iexact H4
  isplitl [H5]
  · iexists x5
    isplitr [H5]; · ipureintro; rfl
    iexact H5
  isplitl [H6]
  · iexists x6
    isplitr [H6]; · ipureintro; rfl
    iexact H6
  isplitl [H7]
  · iexists x7
    isplitr [H7]; · ipureintro; rfl
    iexact H7
  isplitl [H8]
  · iexists x8
    isplitr [H8]; · ipureintro; rfl
    iexact H8
  isplitl [H9]
  · iexists x9
    isplitr [H9]; · ipureintro; rfl
    iexact H9
  isplitl [H10]
  · iexists x10
    isplitr [H10]; · ipureintro; rfl
    iexact H10
  isplitl [H11]
  · iexists x11
    isplitr [H11]; · ipureintro; rfl
    iexact H11
  isplitl [H12]
  · iexists x12
    isplitr [H12]; · ipureintro; rfl
    iexact H12
  isplitl [H13]
  · iexists x13
    isplitr [H13]; · ipureintro; rfl
    iexact H13
  isplitl [H14]
  · iexists x14
    isplitr [H14]; · ipureintro; rfl
    iexact H14
  isplitl [H15]
  · iexists x15
    isplitr [H15]; · ipureintro; rfl
    iexact H15
  isplitl [H16]; · iapply (owns_out _ _ _ _); iexact H16
  isplitl [H17]; · iapply (owns_out _ _ _ _); iexact H17
  isplitl [H18]; · iapply (owns_out _ _ _ _); iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

end Body

omit [FloatOps F] in
/-- A whole buffer is held as its memref is. -/
theorem whole_pts (c : Dev nD) (b : Ref sig .tc) (f : Buf (Elt F) ((c : Thread nD τ).loc b)) :
    (((Memref.whole b).view.loc (c : Thread nD τ) ↦[(Memref.whole b).view.set]{fullShare} f) : sProp 𝕄G)
      = (((c : Thread nD τ).loc b) ↦{fullShare} f) := by
  exact congrArg (fun S => (((c : Thread nD τ).loc b ↦[S]{fullShare} f) : sProp 𝕄G)) (View.set_whole b)

abbrev 𝒱₀ : Variants := Variants.none

variable (m : (ℓ : Loc nD τ sig) → Buf (Elt F) ℓ) (ρ : Dev nD → PrngReg)

/-- The input blocks of a grid point. -/
abbrev inAt (c : Dev nD) (t : Fin cfg0.N) : MixIn F where
  a1 := iblk m c 0 t
  a2 := iblk m c 1 t
  a3 := iblk m c 2 t
  a4 := iblk m c 3 t
  a5 := iblk m c 4 t
  a6 := iblk m c 5 t
  a7 := iblk m c 6 t
  a8 := iblk m c 7 t
  a9 := iblk m c 8 t
  a10 := iblk m c 9 t
  a11 := iblk m c 10 t
  a12 := iblk m c 11 t
  a13 := iblk m c 12 t
  a14 := iblk m c 13 t
  a15 := iblk m c 14 t

/-- After the body each input is at its block and each output at the value of the point's input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (inAt m c t).g16
    | ⟨16, _⟩ => (inAt m c t).g17
    | ⟨17, _⟩ => (inAt m c t).g18
    | ⟨_ + 18, h⟩ => absurd (show _ + 18 < 18 from h) (by omega)
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (inAt m c t).g16 := by dsimp only [dats]
theorem after0_16 (c : Dev nD) (t : Fin cfg0.N) : (dats m 0 c).after 16 t = (inAt m c t).g17 := by dsimp only [dats]
theorem after0_17 (c : Dev nD) (t : Fin cfg0.N) : (dats m 0 c).after 17 t = (inAt m c t).g18 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-- The library's obligation on the body. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7, before0_8, before0_9, before0_10, before0_11, before0_12, before0_13, before0_14]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6, after0_7, after0_8, after0_9, after0_10, after0_11, after0_12, after0_13, after0_14, after0_15, after0_16, after0_17]
  unfold Pipeline.ΦA
  rw [scopedRest0_eq]
  simp only [← whole_pts]
  iintro ⟨⟨⟨S19, S20, S21, S22, S23, S24, S25, S26, S27, S28, S29, S30, S31⟩, HP⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (body_owns c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ 𝒱₀ none Set.univ (inAt m c t))
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  isplitl [S31]; · iexact S31
  iintro ⟨H1, H2, H3, H4, H5, H6, H7, H8, H9, H10, H11, H12, H13, H14, H15, H16, H17, H18, S19, S20, S21, S22, S23, S24, S25, S26, S27, S28, S29, S30, S31⟩
  isplitl [HP S19 S20 S21 S22 S23 S24 S25 S26 S27 S28 S29 S30 S31]
  · isplitr [HP]
    · isplitl [S19]; · iexact S19
      isplitl [S20]; · iexact S20
      isplitl [S21]; · iexact S21
      isplitl [S22]; · iexact S22
      isplitl [S23]; · iexact S23
      isplitl [S24]; · iexact S24
      isplitl [S25]; · iexact S25
      isplitl [S26]; · iexact S26
      isplitl [S27]; · iexact S27
      isplitl [S28]; · iexact S28
      isplitl [S29]; · iexact S29
      isplitl [S30]; · iexact S30
      iexact S31
    iexact HP
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

set_option backward.isDefEq.respectTransparency.types false in
/-- Every weakly fair execution terminates, every array at what the proof data say and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The program terminates, its arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_with_sems (frame_of m ρ (dats m) fun _ _ => rfl) (run_main m ρ)

end Cert.Proof.Mixer

end
-- ==== Proof.MixTile.lean ====
module

public import proofs.«01_k».proof.Proof.MixMath
public import proofs.«01_k».proof.Proof.MixStep
public import Idealize.ShloMosaic.Lib.Pointwise
public import Idealize.ShloMosaic.Lib.IdealHost

@[expose] public section

set_option maxRecDepth 16384

/-! # One chunk of the forward scan over the extended reals -/

open Idealize.ShloMosaic

namespace Cert.Proof.Mix

open Cert.KernelIdeal Cert.KernelIdeal.Gen Cert.Proof.Mixer

noncomputable section

/-- A selection by a decided bit. -/
theorem select_bit (p : Prop) [Decidable p] (a b : EReal) :
    Scalar.select (BitVec.ofBool (decide p)) a b = if p then a else b := by
  by_cases h : p <;> simp [h, Scalar.select]

/-- The lanes of the forward direction. -/
theorem lane8 (j : Fin 128) : IntOp.cmpi .slt (BitVec.ofNat 32 j.val) 8#32 = BitVec.ofBool (decide (j.val < 8)) := by
  revert j; decide +kernel

/-- The lanes of the first head of a pair. -/
theorem lane64 (j : Fin 128) : IntOp.cmpi .slt (BitVec.ofNat 32 j.val) 64#32 = BitVec.ofBool (decide (j.val < 64)) := by
  revert j; decide +kernel

/-- A sum over a triangle does not see the remainders of an exact splitting. -/
theorem sum_tri {n : ℕ} (m d : Fin n → EReal) (hm : ∀ u, m u = 0 ∨ m u = 1) (hd : ∀ u, d u ≤ 0) :
    ∑ u, m u * d u + ∑ u, m u * (d u - d u) + ∑ u, m u * (d u - d u - (d u - d u)) = ∑ u, m u * d u := by
  rw [← Finset.sum_add_distrib, ← Finset.sum_add_distrib]
  refine Finset.sum_congr rfl fun u _ => ?_
  rcases hm u with h | h
  · simp [h]
  · rw [h, one_mul, one_mul, one_mul]
    have ht : d u ≠ ⊤ := fun e => absurd (hd u) (by rw [e]; simp)
    by_cases hb : d u = ⊥
    · simp [hb]
    · rw [EReal.sub_self ht hb]; simp

/-- An exponential of a number that is not positive is finite. -/
theorem exp_sub_self {x : EReal} (h : x ≤ 0) : Ideal.exp x - Ideal.exp x = 0 := by
  refine EReal.sub_self ?_ ?_
  · unfold Ideal.exp
    split
    · simp
    · exact absurd h (not_le_of_gt EReal.zero_lt_top)
    · exact EReal.coe_ne_top _
  · unfold Ideal.exp
    split
    · simp
    · simp
    · exact EReal.coe_ne_bot _

/-- A one-hot column selects its row. -/
theorem sum_hot {n : ℕ} (f : Fin n → EReal) (E : Fin n → EReal) (j : Fin n) (hE : ∀ i, E i = if i = j then 1 else 0) :
    ∑ i, f i * E i = f j := by
  rw [Finset.sum_eq_single j]
  · rw [hE, if_pos rfl, mul_one]
  · intro i _ hi; rw [hE, if_neg hi, mul_zero]
  · intro h; exact absurd (Finset.mem_univ _) h

/-- The lane of a value column. -/
theorem lane_lt (q : Fin 1024) : q.val / 64 < 128 := by omega
/-- The lane whose number a value column carries. -/
abbrev lane (q : Fin 1024) : Fin 128 := ⟨q.val / 64, lane_lt q⟩

section Cum

variable (v25 : FVec Ideal S1x128 .f32) (dt : Vec Ideal S128x128 .f32) (T U : Vec Ideal S128x128 .bf16)
  (E : Vec Ideal S128x1024 .bf16) (v26 : IVec S128x128 32) (v27 : IVec S1x128 32)

/-- The running sums as the program computes them. -/
abbrev cumE : FVec Ideal S128x128 .f32 :=
  k0_pay42 (k0_pay1 v26) (k0_pay35 v25 dt T) (k0_pay36 U) (k0_pay37 v25 dt) (k0_pay39 v25 dt) (k0_pay40 v25 dt)

/-- The running sums: from the chunk's start on the forward lanes, to its end on the others. -/
theorem cumE_apply (h26 : v26 = iota .tc S128x128 32 [1] iota_S128x128_d1_w32)
    (hT : ∀ l u : Fin 128, T (ix2 l u) = if u ≤ l then 1 else 0) (hU : ∀ l u : Fin 128, U (ix2 l u) = if l ≤ u then 1 else 0)
    (hdt : ∀ u j : Fin 128, 0 ≤ dt (ix2 u j)) (ha : ∀ j : Fin 128, v25 (ix2 0 j) ≤ 0) (l j : Fin 128) :
    cumE v25 dt T U v26 (ix2 l j)
      = if j.val < 8 then ∑ u : Fin 128, (if u ≤ l then dt (ix2 u j) * v25 (ix2 0 j) else 0)
        else ∑ u : Fin 128, (if l ≤ u then dt (ix2 u j) * v25 (ix2 0 j) else 0) := by
  subst h26
  have hd : ∀ u, dt (ix2 u j) * v25 (ix2 0 j) ≤ 0 := fun u => EReal.mul_nonpos_iff.2 (.inl ⟨hdt u j, ha j⟩)
  pointwise [k0_pay42, k0_pay41, k0_pay35, k0_pay36, k0_pay37, k0_pay39, k0_pay40, k0_pay34, k0_pay38, k0_pay1]
  simp only [lane8, select_bit]
  rw [sum_tri (fun u => T (ix2 l u)) (fun u => dt (ix2 u j) * v25 (ix2 0 j)) (fun u => by rw [hT]; split <;> simp) hd,
    sum_tri (fun u => U (ix2 l u)) (fun u => dt (ix2 u j) * v25 (ix2 0 j)) (fun u => by rw [hU]; split <;> simp) hd]
  simp only [hT, hU, ite_mul, one_mul, zero_mul]

/-- No running sum is positive. -/
theorem cumE_nonpos (h26 : v26 = iota .tc S128x128 32 [1] iota_S128x128_d1_w32)
    (hT : ∀ l u : Fin 128, T (ix2 l u) = if u ≤ l then 1 else 0) (hU : ∀ l u : Fin 128, U (ix2 l u) = if l ≤ u then 1 else 0)
    (hdt : ∀ u j : Fin 128, 0 ≤ dt (ix2 u j)) (ha : ∀ j : Fin 128, v25 (ix2 0 j) ≤ 0) (l j : Fin 128) :
    cumE v25 dt T U v26 (ix2 l j) ≤ 0 := by
  have hd : ∀ u, dt (ix2 u j) * v25 (ix2 0 j) ≤ 0 := fun u => EReal.mul_nonpos_iff.2 (.inl ⟨hdt u j, ha j⟩)
  rw [cumE_apply v25 dt T U v26 h26 hT hU hdt ha]
  split
  · refine Finset.sum_nonpos fun u _ => ?_
    split
    · exact hd u
    · exact le_rfl
  · refine Finset.sum_nonpos fun u _ => ?_
    split
    · exact hd u
    · exact le_rfl

variable (hE : ∀ (j : Fin 128) (q : Fin 1024), E (ix2 j q) = if j = lane q then 1 else 0)
include hE

/-- A row expanded to the value columns. -/
theorem sum_expand (f : Fin 128 → EReal) (q : Fin 1024) :
    ∑ j, f j * E (ix2 j q) = f (lane q) := sum_hot f _ _ fun j => hE j q

/-- The decay of a whole chunk, spread over the value columns. -/
theorem decay_apply (h27 : v27 = iota .tc S1x128 32 [1] iota_S1x128_d1_w32)
    (he : ∀ l j : Fin 128, cumE v25 dt T U v26 (ix2 l j) ≤ 0) (q : Fin 1024) :
    k0_pay44 (k0_pay1 v26) (k0_pay2 v27) (k0_pay35 v25 dt T) (k0_pay36 U) (k0_pay37 v25 dt) (k0_pay39 v25 dt) (k0_pay40 v25 dt) E (ix2 0 q)
      = Ideal.exp (cumE v25 dt T U v26 (ix2 (if q.val < 512 then 127 else 0) (lane q))) := by
  subst h27
  have e : ∀ i, k0_pay41 (k0_pay1 v26) (k0_pay35 v25 dt T) (k0_pay36 U) (k0_pay37 v25 dt) (k0_pay39 v25 dt) (k0_pay40 v25 dt) i
      = cumE v25 dt T U v26 i := fun i => by
    obtain ⟨l, j, rfl⟩ : ∃ l j : Fin 128, i = ix2 l j := ⟨i 0, i 1, eq_ix2 i⟩
    unfold cumE
    pointwise [k0_pay42]
  pointwise [k0_pay44, k0_pay43, k0_pay2]
  simp only [lane8, select_bit, e]
  have hs : ∀ j : Fin 128, (if j.val < 8 then cumE v25 dt T U v26 (ix2 127 j) else cumE v25 dt T U v26 (ix2 0 j)) ≤ 0 := fun j => by
    split
    · exact he _ _
    · exact he _ _
  simp only [exp_sub_self (hs _), sub_zero, zero_mul, Finset.sum_const_zero, add_zero]
  rw [sum_expand E hE]
  congr 1
  by_cases h : q.val < 512
  · rw [if_pos (show q.val / 64 < 8 by omega), if_pos h]
  · rw [if_neg (show ¬ q.val / 64 < 8 by omega), if_neg h]

/-- The weights of the values in the state a chunk adds. -/
theorem weight_apply (h27 : v27 = iota .tc S1x128 32 [1] iota_S1x128_d1_w32) (l : Fin 128) (q : Fin 1024) :
    k0_pay45 (k0_pay1 v26) (k0_pay2 v27) dt (k0_pay35 v25 dt T) (k0_pay36 U) (k0_pay37 v25 dt) (k0_pay39 v25 dt) (k0_pay40 v25 dt) E (ix2 l q)
      = dt (ix2 l (lane q))
        * Ideal.exp (cumE v25 dt T U v26 (ix2 (if q.val < 512 then 127 else 0) (lane q))
            - cumE v25 dt T U v26 (ix2 l (lane q))) := by
  subst h27
  have e : ∀ i, k0_pay41 (k0_pay1 v26) (k0_pay35 v25 dt T) (k0_pay36 U) (k0_pay37 v25 dt) (k0_pay39 v25 dt) (k0_pay40 v25 dt) i
      = cumE v25 dt T U v26 i := fun i => by
    obtain ⟨l, j, rfl⟩ : ∃ l j : Fin 128, i = ix2 l j := ⟨i 0, i 1, eq_ix2 i⟩
    unfold cumE
    pointwise [k0_pay42]
  pointwise [k0_pay45, k0_pay43, k0_pay2]
  simp only [lane8, select_bit, e]
  rw [sum_expand E hE]
  congr 2
  by_cases h : q.val < 512
  · rw [if_pos (show q.val / 64 < 8 by omega), if_pos h]
  · rw [if_neg (show ¬ q.val / 64 < 8 by omega), if_neg h]

end Cum

/-- The column of the first projection a value column's group uses. -/
abbrev bcol (q : Fin 512) (n : Fin 128) : Fin 1024 := ⟨512 + (q.val / 256 * 128 + n.val), by omega⟩

/-- The state a chunk adds, backward, from the weighted values. -/
theorem csb_pay (v91 : FVec Ideal S128x1024 .f32) (w : FVec Ideal S128x512 .bf16) (n : Fin 128) (q : Fin 512) :
    k0_pay5 v91 w (k0_pay48 v91) (ix3 0 n q) = ∑ u : Fin 128, v91 (ix2 u (bcol q n)) * w (ix2 u q) := by
  by_cases h : q.val < 256
  · pointwise [k0_pay5, k0_pay48, k0_pay3, k0_pay4]
    rw [dif_pos h]
    refine Finset.sum_congr rfl fun u _ => congrArg₂ (· * ·) (congrArg (fun i => v91 (ix2 u i)) (Fin.ext ?_)) rfl
    show 512 + n.val = 512 + (q.val / 256 * 128 + n.val)
    omega
  · pointwise [k0_pay5, k0_pay48, k0_pay3, k0_pay4]
    rw [dif_neg h]
    refine Finset.sum_congr rfl fun u _ => congrArg₂ (· * ·) (congrArg (fun i => v91 (ix2 u i)) (Fin.ext ?_))
      (congrArg (fun i => w (ix2 u i)) (Fin.ext ?_))
    · show 640 + n.val = 512 + (q.val / 256 * 128 + n.val)
      omega
    · show 256 + (q.val - 256) = q.val
      omega

/-- The forward state after a chunk, from the weighted values. -/
theorem step_pay (v91 : FVec Ideal S128x1024 .f32) (d : FVec Ideal S1x1024 .f32) (w : FVec Ideal S128x512 .bf16)
    (s : Vec Ideal S128x512 .f32) (n : Fin 128) (q : Fin 512) :
    k0_pay8 v91 d w (k0_pay48 v91) s (ix2 n q)
      = s (ix2 n q) * d (ix2 0 ⟨q.val, by omega⟩) + ∑ u : Fin 128, v91 (ix2 u (bcol q n)) * w (ix2 u q) := by
  by_cases h : q.val < 256
  · pointwise [k0_pay8, k0_pay48, k0_pay3, k0_pay4]
    rw [dif_pos h]
    refine congrArg (_ + ·) (Finset.sum_congr rfl fun u _ => congrArg₂ (· * ·) (congrArg (fun i => v91 (ix2 u i)) (Fin.ext ?_)) rfl)
    show 512 + n.val = 512 + (q.val / 256 * 128 + n.val)
    omega
  · pointwise [k0_pay8, k0_pay48, k0_pay3, k0_pay4]
    rw [dif_neg h]
    refine congrArg (_ + ·) (Finset.sum_congr rfl fun u _ => congrArg₂ (· * ·) (congrArg (fun i => v91 (ix2 u i)) (Fin.ext ?_))
      (congrArg (fun i => w (ix2 u i)) (Fin.ext ?_)))
    · show 640 + n.val = 512 + (q.val / 256 * 128 + n.val)
      omega
    · show 256 + (q.val - 256) = q.val
      omega

end

end Cert.Proof.Mix
-- ==== Proof.MixProj.lean ====
module

public import proofs.«01_k».proof.Proof.MixTile
public import proofs.«01_k».proof.Proof.MixVal

@[expose] public section

set_option maxRecDepth 16384
set_option maxHeartbeats 4000000

/-! # The projections and the convolutions of a slab, over the extended reals -/

open Idealize.ShloMosaic

namespace Cert.Proof.Mix

open Cert.KernelIdeal Cert.KernelIdeal.Gen Cert.Proof.Mixer

noncomputable section

/-- An element of a part of a matrix. -/
theorem part_ix2 {n m n' m' : ℕ} {e : EltTy} (V : Vec Ideal ⟨2, ![n, m]⟩ e) (off : Fin 2 → ℕ)
    (inb : ∀ a, off a + (⟨2, ![n', m']⟩ : Shape).size a ≤ (⟨2, ![n, m]⟩ : Shape).size a)
    (r : Fin n') (l : Fin m') (i : Fin n) (j : Fin m) (hi : off 0 + r.val = i.val) (hj : off 1 + l.val = j.val) :
    part V off (⟨2, ![n', m']⟩ : Shape).size inb (ix2 r l) = V (ix2 i j) := by
  refine congrArg V (funext fun a => Fin.ext ?_)
  match a with
  | ⟨0, _⟩ => show off 0 + 1 * r.val = i.val; rw [Nat.one_mul, hi]
  | ⟨1, _⟩ => show off 1 + 1 * l.val = j.val; rw [Nat.one_mul, hj]

/-- An element of a plane of an array. -/
theorem part_ix3 {p n m p' n' m' : ℕ} {e : EltTy} (V : Vec Ideal ⟨3, ![p, n, m]⟩ e) (off : Fin 3 → ℕ)
    (inb : ∀ a, off a + (⟨3, ![p', n', m']⟩ : Shape).size a ≤ (⟨3, ![p, n, m]⟩ : Shape).size a)
    (k : Fin p') (r : Fin n') (l : Fin m') (h : Fin p) (i : Fin n) (j : Fin m)
    (hh : off 0 + k.val = h.val) (hi : off 1 + r.val = i.val) (hj : off 2 + l.val = j.val) :
    part V off (⟨3, ![p', n', m']⟩ : Shape).size inb (ix3 k r l) = V (ix3 h i j) := by
  refine congrArg V (funext fun a => Fin.ext ?_)
  match a with
  | ⟨0, _⟩ => show off 0 + 1 * k.val = h.val; rw [Nat.one_mul, hh]
  | ⟨1, _⟩ => show off 1 + 1 * r.val = i.val; rw [Nat.one_mul, hi]
  | ⟨2, _⟩ => show off 2 + 1 * l.val = j.val; rw [Nat.one_mul, hj]

/-- Sequence `j` of slab `w`. -/
abbrev sq (w : Fin 8) (j : ℕ) (hj : j < 4) : Fin 32 := ⟨4 * w.val + j, by omega⟩

/-- A slab's input blocks, as parts of the arguments. -/
structure Reads (A : Args) (w : Fin 8) (M : MixIn Ideal) : Prop where
  r1 : ∀ (j : ℕ) (hj : j < 4) (p : Fin 256) (l : Fin 1024) (h : 256 * j + p.val < 1024),
    M.a1 (ix2 ⟨256 * j + p.val, h⟩ l) = A.x0 (ix3 (sq w j hj) p l)
  r2 : ∀ (i : Fin 6) (l : Fin 1024), M.a2 (ix3 0 i l) = A.x1 (ix3 0 i l)
  r3 : ∀ l : Fin 1024, M.a3 (ix2 0 l) = A.x2 (ix2 0 l)
  r4 : ∀ (k : Fin 1024) (j : Fin 3088) (h : j.val < 3200), M.a4 (ix2 k ⟨j.val, h⟩) = A.x3 (ix3 0 k j)
  r5 : ∀ (i : Fin 3) (j : Fin 512), M.a5 (ix2 i j) = A.x4 (ix3 0 i j)
  r6 : ∀ (i : Fin 3) (j : Fin 1024), M.a6 (ix2 i j) = A.x5 (ix3 0 i j)
  r7 : ∀ j : Fin 1024, M.a7 (ix2 0 j) = A.x6 (ix2 0 j)
  r8 : ∀ (d : Fin 2) (h : Fin 8) (hl : d.val * 8 + h.val < 128), M.a8 (ix2 0 ⟨d.val * 8 + h.val, hl⟩) = A.x7 (ix3 0 d h)
  r9 : ∀ (d : Fin 2) (h : Fin 8) (hl : d.val * 8 + h.val < 128), M.a9 (ix2 0 ⟨d.val * 8 + h.val, hl⟩) = A.x8 (ix3 0 d h)
  r10 : ∀ (q : Fin 512) (h : q.val / 64 < 8), M.a10 (ix2 0 q) = A.x9 (ix2 0 ⟨q.val / 64, h⟩)
  r11 : ∀ j : Fin 512, M.a11 (ix2 0 j) = A.x10 (ix2 0 j)
  r12 : ∀ j l : Fin 1024, M.a12 (ix2 j l) = A.x11 (ix3 0 j l)
  r13 : ∀ l u : Fin 128, M.a13 (ix2 l u) = if u ≤ l then 1 else 0
  r14 : ∀ l u : Fin 128, M.a14 (ix2 l u) = if l ≤ u then 1 else 0
  r15 : ∀ (j : Fin 128) (q : Fin 1024), M.a15 (ix2 j q) = if j = lane q then 1 else 0

/-- The smooth positive part is not negative. -/
theorem sp_nonneg (v : EReal) : 0 ≤ sp v := by
  refine add_nonneg (le_max_right _ _) ?_
  generalize hx : Ideal.exp (0 - max v (-v)) = x
  have h : 0 ≤ x := by
    rw [← hx]
    unfold Ideal.exp
    split
    · exact le_rfl
    · exact le_top
    · exact_mod_cast (Real.exp_pos _).le
  have h1 : (1 : EReal) ≤ 1 + x := le_add_of_nonneg_right h
  unfold Ideal.log1p
  generalize 1 + x = y at h1
  induction y using EReal.rec with
  | bot => exact absurd (le_bot_iff.1 h1) (EReal.coe_ne_bot 1)
  | top => exact le_top
  | coe r =>
    have hr : 1 ≤ r := by exact_mod_cast h1
    show (0 : EReal) ≤ if r ≤ 0 then ⊥ else ((Real.log r : ℝ) : EReal)
    rw [if_neg (not_le_of_gt (lt_of_lt_of_le one_pos hr))]
    exact_mod_cast Real.log_nonneg hr

/-- A normalized and modulated row. -/
theorem norm_pay (v0 v2 : Vec Ideal S1x1x1024 .f32) (x : Vec Ideal S256x1024 .f32) (g : Vec Ideal S1x1024 .f32) (r : Fin 256) (l : Fin 1024) :
    k0_pay17 (F := Ideal) (k0_pay101 v0) (k0_pay102 v2) x g (ix2 r l)
      = rms 1149239296#32 (fun k => x (ix2 r k)) (fun k => g (ix2 0 k)) l * (1 + v2 (ix3 0 0 l)) + v0 (ix3 0 0 l) := by
  pointwise [k0_pay17, k0_pay101, k0_pay102, rms]

/-- The gated rows are products of two projections of the normalized rows. -/
theorem pay18_eq (v1 v3 : FVec Ideal S1x1024 .f32) (x : Vec Ideal S256x1024 .f32) (g : Vec Ideal S1x1024 .f32)
    (a b : Vec Ideal S1024x512 .bf16) (r : Fin 256) (q : Fin 512) :
    k0_pay18 (F := Ideal) v1 v3 x g a b (ix2 r q)
      = (∑ k : Fin 1024, k0_pay17 v1 v3 x g (ix2 r k) * a (ix2 k q)) * ∑ k : Fin 1024, k0_pay17 v1 v3 x g (ix2 r k) * b (ix2 k q) := by
  pointwise [k0_pay18]

section Slab

variable {A : Args} {w : Fin 8} {M : MixIn Ideal} (R : Reads A w M)
include R

/-- The normalized rows of a segment. -/
theorem norm_apply (k : Fin k0_t1_loop.trips) (hk : k.val < 4) (r : Fin 256) (l : Fin 1024) :
    M.pro.norm k (ix2 r l) = h1 A (sq w k.val hk) r l := by
  unfold ProIn.norm h1
  rw [norm_pay]
  refine congrArg₂ (· + ·) (congrArg₂ (· * ·) ?_ (congrArg (1 + ·) ?_)) ?_
  · refine congrArg₂ (fun a b => rms 1149239296#32 a b l) (funext fun q => ?_) (funext fun q => ?_)
    · rw [← R.r1 k.val hk r q (by omega)]
      exact part_ix2 M.a1 _ _ r q _ _ (by rw [k0_off1_eq]; rfl) (by rw [k0_off1_eq]; exact Nat.zero_add _)
    · rw [← R.r3]
      exact part_ix2 M.a3 _ _ 0 q 0 q rfl (Nat.zero_add _)
  · rw [← R.r2]
    exact part_ix3 M.a2 _ _ 0 0 l 0 1 l rfl rfl (Nat.zero_add _)
  · rw [← R.r2]
    exact part_ix3 M.a2 _ _ 0 0 l 0 0 l rfl rfl (Nat.zero_add _)

/-- A projection of a segment's rows, from the columns of the weights it reads. -/
theorem proj_sum (k : Fin k0_t1_loop.trips) (hk : k.val < 4) (r : Fin 256) {m : ℕ} (o : ℕ)
    (inb : ∀ a, (![0, o] : Fin 2 → ℕ) a + (⟨2, ![1024, m]⟩ : Shape).size a ≤ S1024x3200.size a) (q : Fin m) (h : o + q.val < 3088) :
    ∑ i : Fin 1024, M.pro.norm k (ix2 r i) * part M.a4 ![0, o] (⟨2, ![1024, m]⟩ : Shape).size inb (ix2 i q)
      = proj A (sq w k.val hk) r ⟨o + q.val, h⟩ := by
  unfold proj
  refine Finset.sum_congr rfl fun i _ => congrArg₂ (· * ·) (norm_apply R k hk r i) ?_
  rw [← R.r4 i ⟨o + q.val, h⟩ (by show o + q.val < 3200; omega)]
  exact part_ix2 M.a4 _ _ i q _ _ (Nat.zero_add _) rfl

/-- The rows the scan's convolution reads. -/
theorem b20_apply (k : Fin k0_t1_loop.trips) (hk : k.val < 4) (r : Fin 256) (q : Fin 1024) :
    M.pro.b20 k (ix2 r q) = proj A (sq w k.val hk) r ⟨2048 + q.val, by omega⟩ := by
  unfold ProIn.b20
  rw [← proj_sum R k hk r 2048 inb_S1024x3200_S1024x1024_0_2048 q (by omega)]
  pointwise [k0_pay21]

/-- The gates of the short convolution. -/
theorem b21_apply (k : Fin k0_t1_loop.trips) (hk : k.val < 4) (r : Fin 256) (q : Fin 512) :
    M.pro.b21 k (ix2 r q) = proj A (sq w k.val hk) r ⟨512 + q.val, by omega⟩ := by
  unfold ProIn.b21
  rw [← proj_sum R k hk r 512 inb_S1024x3200_S1024x512_0_512 q (by omega)]
  pointwise [k0_pay19]

/-- The gates of the scan. -/
theorem b22_apply (k : Fin k0_t1_loop.trips) (hk : k.val < 4) (r : Fin 256) (q : Fin 512) :
    M.pro.b22 k (ix2 r q) = proj A (sq w k.val hk) r ⟨1536 + q.val, by omega⟩ := by
  unfold ProIn.b22
  rw [← proj_sum R k hk r 1536 inb_S1024x3200_S1024x512_0_1536 q (by omega)]
  pointwise [k0_pay20]

/-- The gated rows the short convolution reads. -/
theorem b19_apply (k : Fin k0_t1_loop.trips) (hk : k.val < 4) (r : Fin 256) (q : Fin 512) :
    M.pro.b19 k (ix2 r q)
      = proj A (sq w k.val hk) r ⟨1024 + q.val, by omega⟩ * proj A (sq w k.val hk) r ⟨q.val, by omega⟩ := by
  unfold ProIn.b19
  rw [pay18_eq, mul_comm]
  refine congrArg₂ (· * ·) (proj_sum R k hk r 1024 inb_S1024x3200_S1024x512_0_1024 q (by omega)) ?_
  refine (proj_sum R k hk r 0 inb_S1024x3200_S1024x512_0_0 q (by omega)).trans ?_
  exact congrArg (proj A _ r) (Fin.ext (Nat.zero_add _))

omit R in
/-- The step sizes of a segment are smooth positive parts. -/
theorem b23_eq (k : Fin k0_t1_loop.trips) (r : Fin 256) (j : Fin 128) :
    M.pro.b23 k (ix2 r j) = sp ((∑ i : Fin 1024, M.pro.norm k (ix2 r i)
      * part M.a4 ![0, 3072] (⟨2, ![1024, 128]⟩ : Shape).size inb_S1024x3200_S1024x128_0_3072 (ix2 i j)) + M.a8 (ix2 0 j)) := by
  have e : part M.a8 ![0, 0] S1x128.size inb_S1x128_S1x128_0_0 (ix2 (0 : Fin 1) j) = M.a8 (ix2 0 j) :=
    part_ix2 M.a8 _ _ 0 j 0 j rfl (Nat.zero_add _)
  rw [← e]
  unfold ProIn.b23 sp
  pointwise [k0_pay110, k0_pay22]
  rfl

/-- The step sizes of a segment. -/
theorem b23_apply (k : Fin k0_t1_loop.trips) (hk : k.val < 4) (r : Fin 256) (d : Fin 2) (h : Fin 8) (hl : d.val * 8 + h.val < 128) :
    M.pro.b23 k (ix2 r ⟨d.val * 8 + h.val, hl⟩) = dt A (sq w k.val hk) d r h := by
  rw [b23_eq, R.r8]
  unfold dt
  refine congrArg (fun v => sp (v + _)) ((proj_sum R k hk r 3072 inb_S1024x3200_S1024x128_0_3072 _ (by show 3072 + (d.val * 8 + h.val) < 3088; omega)).trans ?_)
  exact congrArg (proj A _ r) (Fin.ext (by show 3072 + (d.val * 8 + h.val) = 3072 + d.val * 8 + h.val; omega))

end Slab

end

end Cert.Proof.Mix
-- ==== Proof.MixHost.lean ====
module

public import proofs.«01_k».proof.Proof.MixRun
public import proofs.«01_k».proof.Proof.MixProj
public import Idealize.ShloMosaic.Lib.Pipeline.ValueKit
public import Idealize.ShloMosaic.Lib.Pipeline.ValueKit.Point

@[expose] public section

set_option maxRecDepth 16384
set_option maxHeartbeats 2000000

/-! # What the call receives from the host, and its blocks -/

open Idealize.ShloMosaic Idealize.ShloMosaic.TcCoe

namespace Cert.Proof.Mix

open Cert.KernelIdeal Cert.KernelIdeal.Gen Cert.Proof.Mixer

noncomputable section

variable (m : (ℓ : Loc nD τ sig) → Buf (Elt Ideal) ℓ) (c : Dev nD)

/-- The arguments of the call, read from the memory. -/
abbrev args : Args where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)
  x11 := m ((c : Thread nD τ).loc main_arg11)

/-- The index of each input's block at a grid point. -/
theorem idx : ∀ t : Fin cfg0.N,
    win0_0.index t = ![t.val, 0] ∧ win0_1.index t = ![0, 0, 0] ∧ win0_2.index t = ![0, 0] ∧
    win0_3.index t = ![0, 0] ∧ win0_4.index t = ![0, 0] ∧ win0_5.index t = ![0, 0] ∧ win0_6.index t = ![0, 0] ∧
    win0_7.index t = ![0, 0] ∧ win0_8.index t = ![0, 0] ∧ win0_9.index t = ![0, 0] ∧ win0_10.index t = ![0, 0] ∧
    win0_11.index t = ![0, 0] ∧ win0_12.index t = ![0, 0] ∧ win0_13.index t = ![0, 0] ∧ win0_14.index t = ![0, 0] := by
  decide +kernel

/-- The grid has 8 points. -/
theorem n8 (t : Fin cfg0.N) : t.val < 8 := lt_of_lt_of_eq t.isLt N_0

variable (t : Fin cfg0.N)

/-- The norm's weights as the call receives them. -/
theorem V26 : V m c main_v26 = shapeCast S1x1024 (shapeCast S1024 (m ((c : Thread nD τ).loc main_arg2)) shapeCasts_S1x1024_S1024) shapeCasts_S1024_S1x1024 := by
  unfold V
  simp only [List.flatten_cons, List.flatten_nil, List.append_nil, List.cons_append, List.nil_append]
  after_results
  try rfl

/-- The input projection as the call receives it: padded by columns of zeros. -/
theorem V2 : V m c main_v2 = (truncf .bf16 (pad S1024x3200 ![0, 0] ![0, 112] ![0, 0] (shapeCast S1024x3088 (m ((c : Thread nD τ).loc main_arg3)) shapeCasts_S1x1024x3088_S1024x3088) (sitofp .f32 (constantI S_ 32 0#32)) pads_S1024x3088_S1024x3200_000_01120 h_S_) bitsLt_bf16_f32 : FVec Ideal S1024x3200 .bf16) := by
  unfold V
  simp only [List.flatten_cons, List.flatten_nil, List.append_nil, List.cons_append, List.nil_append]
  after_results
  try rfl

/-- The short convolution's taps as the call receives them. -/
theorem V27 : V m c main_v27 = shapeCast S3x512 (m ((c : Thread nD τ).loc main_arg4)) shapeCasts_S1x3x512_S3x512 := by
  unfold V
  simp only [List.flatten_cons, List.flatten_nil, List.append_nil, List.cons_append, List.nil_append]
  after_results
  try rfl

/-- The scan's convolution's taps as the call receives them. -/
theorem V28 : V m c main_v28 = shapeCast S3x1024 (m ((c : Thread nD τ).loc main_arg5)) shapeCasts_S1x3x1024_S3x1024 := by
  unfold V
  simp only [List.flatten_cons, List.flatten_nil, List.append_nil, List.cons_append, List.nil_append]
  after_results
  try rfl

/-- The scan's convolution's bias as the call receives it. -/
theorem V30 : V m c main_v30 = shapeCast S1x1024 (shapeCast S1024 (m ((c : Thread nD τ).loc main_arg6)) shapeCasts_S1x1024_S1024) shapeCasts_S1024_S1x1024 := by
  unfold V
  simp only [List.flatten_cons, List.flatten_nil, List.append_nil, List.cons_append, List.nil_append]
  after_results
  try rfl

/-- The step sizes' biases as the call receives them: padded by zeros. -/
theorem V33 : V m c main_v33 = (pad S1x128 ![0, 0] ![0, 112] ![0, 0] (shapeCast S1x16 (shapeCast S2x8 (m ((c : Thread nD τ).loc main_arg7)) shapeCasts_S1x2x8_S2x8) shapeCasts_S2x8_S1x16) (sitofp .f32 (constantI S_ 32 0#32)) pads_S1x16_S1x128_000_01120 h_S_ : FVec Ideal S1x128 .f32) := by
  unfold V
  simp only [List.flatten_cons, List.flatten_nil, List.append_nil, List.cons_append, List.nil_append]
  after_results
  try rfl

/-- The log decay rates as the call receives them: padded by zeros. -/
theorem V36 : V m c main_v36 = (pad S1x128 ![0, 0] ![0, 112] ![0, 0] (shapeCast S1x16 (shapeCast S2x8 (m ((c : Thread nD τ).loc main_arg8)) shapeCasts_S1x2x8_S2x8) shapeCasts_S2x8_S1x16) (sitofp .f32 (constantI S_ 32 0#32)) pads_S1x16_S1x128_000_01120 h_S_ : FVec Ideal S1x128 .f32) := by
  unfold V
  simp only [List.flatten_cons, List.flatten_nil, List.append_nil, List.cons_append, List.nil_append]
  after_results
  try rfl

/-- The skip weights as the call receives them: each repeated over its head's columns. -/
theorem V40 : V m c main_v40 = shapeCast S1x512 (shapeCast S512 (broadcastInDim S8x64 ![0] bcast_S8_S8x64_0 (shapeCast S8 (m ((c : Thread nD τ).loc main_arg9)) shapeCasts_S1x8_S8)) shapeCasts_S8x64_S512) shapeCasts_S512_S1x512 := by
  unfold V
  simp only [List.flatten_cons, List.flatten_nil, List.append_nil, List.cons_append, List.nil_append]
  after_results
  try rfl

/-- The second norm's weights as the call receives them. -/
theorem V42 : V m c main_v42 = shapeCast S1x512 (shapeCast S512 (m ((c : Thread nD τ).loc main_arg10)) shapeCasts_S1x512_S512) shapeCasts_S512_S1x512 := by
  unfold V
  simp only [List.flatten_cons, List.flatten_nil, List.append_nil, List.cons_append, List.nil_append]
  after_results
  try rfl

/-- The output projection as the call receives it. -/
theorem V44 : V m c main_v44 = (truncf .bf16 (shapeCast S1024x1024 (m ((c : Thread nD τ).loc main_arg11)) shapeCasts_S1x1024x1024_S1024x1024) bitsLt_bf16_f32 : FVec Ideal S1024x1024 .bf16) := by
  unfold V
  simp only [List.flatten_cons, List.flatten_nil, List.append_nil, List.cons_append, List.nil_append]
  after_results
  try rfl

/-- The lower triangle as the call receives it. -/
theorem V9 : V m c main_v9 = (uitofp .bf16 (cmpi .sge
      (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0)))) : FVec Ideal S128x128 .bf16) := by
  unfold V
  simp only [List.flatten_cons, List.flatten_nil, List.append_nil, List.cons_append, List.nil_append]
  after_results
  try rfl

/-- The upper triangle as the call receives it. -/
theorem V15 : V m c main_v15 = (uitofp .bf16 (cmpi .sle
      (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0)))) : FVec Ideal S128x128 .bf16) := by
  unfold V
  simp only [List.flatten_cons, List.flatten_nil, List.append_nil, List.cons_append, List.nil_append]
  after_results
  try rfl

/-- The number of every value column. -/
abbrev cols : IVec S1x1024 32 := broadcastInDim S1x1024 ![1] bcast_S1024_S1x1024_1 (iotaInDim S1024 32 0)
/-- The number of columns of a head. -/
abbrev width : IVec S_ 32 := constantI S_ 32 64#32
/-- The head of every value column, as the host computes it: a division rounded down. -/
abbrev heads : IVec S1x1024 32 :=
  select (andi (cmpi .ne (signi cols) (broadcastInDim S1x1024 ![] bcast_S_S1x1024 (signi width)))
      (cmpi .ne (Host.remsi cols (broadcastInDim S1x1024 ![] bcast_S_S1x1024 width)) (broadcastInDim S1x1024 ![] bcast_S_S1x1024 (constantI S_ 32 0#32))))
    (subi (Host.divsi cols (broadcastInDim S1x1024 ![] bcast_S_S1x1024 width)) (broadcastInDim S1x1024 ![] bcast_S_S1x1024 (constantI S_ 32 1#32)))
    (Host.divsi cols (broadcastInDim S1x1024 ![] bcast_S_S1x1024 width))

/-- The head expansion as the call receives it. -/
theorem V24 : V m c main_v24 = (uitofp .bf16 (cmpi .eq
      (broadcastInDim S128x1024 ![0, 1] bcast_S128x1_S128x1024_0_1 (broadcastInDim S128x1 ![0] bcast_S128_S128x1_0 (iotaInDim S128 32 0)))
      (broadcastInDim S128x1024 ![0, 1] bcast_S1x1024_S128x1024_0_1 heads)) : FVec Ideal S128x1024 .bf16) := by
  unfold V
  simp only [List.flatten_cons, List.flatten_nil, List.append_nil, List.cons_append, List.nil_append]
  after_results
  try rfl

/-- Input 2's block is the whole array. -/
theorem whole2 (i : Fin 1) (j : Fin 1024) : iblk m c 2 t (ix2 i j) = (V m c main_v26 : FVec Ideal S1x1024 .f32) (ix2 i j) := by
  refine congrArg (V m c main_v26 : FVec Ideal S1x1024 .f32) (funext fun a => Fin.ext ?_)
  match a with
  | ⟨0, _⟩ => show win0_2.index t 0 * 1 + 1 * i.val = i.val; rw [(idx t).2.2.1]; show 0 * 1 + 1 * i.val = i.val; omega
  | ⟨1, _⟩ => show win0_2.index t 1 * 1024 + 1 * j.val = j.val; rw [(idx t).2.2.1]; show 0 * 1024 + 1 * j.val = j.val; omega

/-- Input 3's block is the whole array. -/
theorem whole3 (i : Fin 1024) (j : Fin 3200) : iblk m c 3 t (ix2 i j) = (V m c main_v2 : FVec Ideal S1024x3200 .bf16) (ix2 i j) := by
  refine congrArg (V m c main_v2 : FVec Ideal S1024x3200 .bf16) (funext fun a => Fin.ext ?_)
  match a with
  | ⟨0, _⟩ => show win0_3.index t 0 * 1024 + 1 * i.val = i.val; rw [(idx t).2.2.2.1]; show 0 * 1024 + 1 * i.val = i.val; omega
  | ⟨1, _⟩ => show win0_3.index t 1 * 3200 + 1 * j.val = j.val; rw [(idx t).2.2.2.1]; show 0 * 3200 + 1 * j.val = j.val; omega

/-- Input 4's block is the whole array. -/
theorem whole4 (i : Fin 3) (j : Fin 512) : iblk m c 4 t (ix2 i j) = (V m c main_v27 : FVec Ideal S3x512 .f32) (ix2 i j) := by
  refine congrArg (V m c main_v27 : FVec Ideal S3x512 .f32) (funext fun a => Fin.ext ?_)
  match a with
  | ⟨0, _⟩ => show win0_4.index t 0 * 3 + 1 * i.val = i.val; rw [(idx t).2.2.2.2.1]; show 0 * 3 + 1 * i.val = i.val; omega
  | ⟨1, _⟩ => show win0_4.index t 1 * 512 + 1 * j.val = j.val; rw [(idx t).2.2.2.2.1]; show 0 * 512 + 1 * j.val = j.val; omega

/-- Input 5's block is the whole array. -/
theorem whole5 (i : Fin 3) (j : Fin 1024) : iblk m c 5 t (ix2 i j) = (V m c main_v28 : FVec Ideal S3x1024 .f32) (ix2 i j) := by
  refine congrArg (V m c main_v28 : FVec Ideal S3x1024 .f32) (funext fun a => Fin.ext ?_)
  match a with
  | ⟨0, _⟩ => show win0_5.index t 0 * 3 + 1 * i.val = i.val; rw [(idx t).2.2.2.2.2.1]; show 0 * 3 + 1 * i.val = i.val; omega
  | ⟨1, _⟩ => show win0_5.index t 1 * 1024 + 1 * j.val = j.val; rw [(idx t).2.2.2.2.2.1]; show 0 * 1024 + 1 * j.val = j.val; omega

/-- Input 6's block is the whole array. -/
theorem whole6 (i : Fin 1) (j : Fin 1024) : iblk m c 6 t (ix2 i j) = (V m c main_v30 : FVec Ideal S1x1024 .f32) (ix2 i j) := by
  refine congrArg (V m c main_v30 : FVec Ideal S1x1024 .f32) (funext fun a => Fin.ext ?_)
  match a with
  | ⟨0, _⟩ => show win0_6.index t 0 * 1 + 1 * i.val = i.val; rw [(idx t).2.2.2.2.2.2.1]; show 0 * 1 + 1 * i.val = i.val; omega
  | ⟨1, _⟩ => show win0_6.index t 1 * 1024 + 1 * j.val = j.val; rw [(idx t).2.2.2.2.2.2.1]; show 0 * 1024 + 1 * j.val = j.val; omega

/-- Input 7's block is the whole array. -/
theorem whole7 (i : Fin 1) (j : Fin 128) : iblk m c 7 t (ix2 i j) = (V m c main_v33 : FVec Ideal S1x128 .f32) (ix2 i j) := by
  refine congrArg (V m c main_v33 : FVec Ideal S1x128 .f32) (funext fun a => Fin.ext ?_)
  match a with
  | ⟨0, _⟩ => show win0_7.index t 0 * 1 + 1 * i.val = i.val; rw [(idx t).2.2.2.2.2.2.2.1]; show 0 * 1 + 1 * i.val = i.val; omega
  | ⟨1, _⟩ => show win0_7.index t 1 * 128 + 1 * j.val = j.val; rw [(idx t).2.2.2.2.2.2.2.1]; show 0 * 128 + 1 * j.val = j.val; omega

/-- Input 8's block is the whole array. -/
theorem whole8 (i : Fin 1) (j : Fin 128) : iblk m c 8 t (ix2 i j) = (V m c main_v36 : FVec Ideal S1x128 .f32) (ix2 i j) := by
  refine congrArg (V m c main_v36 : FVec Ideal S1x128 .f32) (funext fun a => Fin.ext ?_)
  match a with
  | ⟨0, _⟩ => show win0_8.index t 0 * 1 + 1 * i.val = i.val; rw [(idx t).2.2.2.2.2.2.2.2.1]; show 0 * 1 + 1 * i.val = i.val; omega
  | ⟨1, _⟩ => show win0_8.index t 1 * 128 + 1 * j.val = j.val; rw [(idx t).2.2.2.2.2.2.2.2.1]; show 0 * 128 + 1 * j.val = j.val; omega

/-- Input 9's block is the whole array. -/
theorem whole9 (i : Fin 1) (j : Fin 512) : iblk m c 9 t (ix2 i j) = (V m c main_v40 : FVec Ideal S1x512 .f32) (ix2 i j) := by
  refine congrArg (V m c main_v40 : FVec Ideal S1x512 .f32) (funext fun a => Fin.ext ?_)
  match a with
  | ⟨0, _⟩ => show win0_9.index t 0 * 1 + 1 * i.val = i.val; rw [(idx t).2.2.2.2.2.2.2.2.2.1]; show 0 * 1 + 1 * i.val = i.val; omega
  | ⟨1, _⟩ => show win0_9.index t 1 * 512 + 1 * j.val = j.val; rw [(idx t).2.2.2.2.2.2.2.2.2.1]; show 0 * 512 + 1 * j.val = j.val; omega

/-- Input 10's block is the whole array. -/
theorem whole10 (i : Fin 1) (j : Fin 512) : iblk m c 10 t (ix2 i j) = (V m c main_v42 : FVec Ideal S1x512 .f32) (ix2 i j) := by
  refine congrArg (V m c main_v42 : FVec Ideal S1x512 .f32) (funext fun a => Fin.ext ?_)
  match a with
  | ⟨0, _⟩ => show win0_10.index t 0 * 1 + 1 * i.val = i.val; rw [(idx t).2.2.2.2.2.2.2.2.2.2.1]; show 0 * 1 + 1 * i.val = i.val; omega
  | ⟨1, _⟩ => show win0_10.index t 1 * 512 + 1 * j.val = j.val; rw [(idx t).2.2.2.2.2.2.2.2.2.2.1]; show 0 * 512 + 1 * j.val = j.val; omega

/-- Input 11's block is the whole array. -/
theorem whole11 (i : Fin 1024) (j : Fin 1024) : iblk m c 11 t (ix2 i j) = (V m c main_v44 : FVec Ideal S1024x1024 .bf16) (ix2 i j) := by
  refine congrArg (V m c main_v44 : FVec Ideal S1024x1024 .bf16) (funext fun a => Fin.ext ?_)
  match a with
  | ⟨0, _⟩ => show win0_11.index t 0 * 1024 + 1 * i.val = i.val; rw [(idx t).2.2.2.2.2.2.2.2.2.2.2.1]; show 0 * 1024 + 1 * i.val = i.val; omega
  | ⟨1, _⟩ => show win0_11.index t 1 * 1024 + 1 * j.val = j.val; rw [(idx t).2.2.2.2.2.2.2.2.2.2.2.1]; show 0 * 1024 + 1 * j.val = j.val; omega

/-- Input 12's block is the whole array. -/
theorem whole12 (i : Fin 128) (j : Fin 128) : iblk m c 12 t (ix2 i j) = (V m c main_v9 : FVec Ideal S128x128 .bf16) (ix2 i j) := by
  refine congrArg (V m c main_v9 : FVec Ideal S128x128 .bf16) (funext fun a => Fin.ext ?_)
  match a with
  | ⟨0, _⟩ => show win0_12.index t 0 * 128 + 1 * i.val = i.val; rw [(idx t).2.2.2.2.2.2.2.2.2.2.2.2.1]; show 0 * 128 + 1 * i.val = i.val; omega
  | ⟨1, _⟩ => show win0_12.index t 1 * 128 + 1 * j.val = j.val; rw [(idx t).2.2.2.2.2.2.2.2.2.2.2.2.1]; show 0 * 128 + 1 * j.val = j.val; omega

/-- Input 13's block is the whole array. -/
theorem whole13 (i : Fin 128) (j : Fin 128) : iblk m c 13 t (ix2 i j) = (V m c main_v15 : FVec Ideal S128x128 .bf16) (ix2 i j) := by
  refine congrArg (V m c main_v15 : FVec Ideal S128x128 .bf16) (funext fun a => Fin.ext ?_)
  match a with
  | ⟨0, _⟩ => show win0_13.index t 0 * 128 + 1 * i.val = i.val; rw [(idx t).2.2.2.2.2.2.2.2.2.2.2.2.2.1]; show 0 * 128 + 1 * i.val = i.val; omega
  | ⟨1, _⟩ => show win0_13.index t 1 * 128 + 1 * j.val = j.val; rw [(idx t).2.2.2.2.2.2.2.2.2.2.2.2.2.1]; show 0 * 128 + 1 * j.val = j.val; omega

/-- Input 14's block is the whole array. -/
theorem whole14 (i : Fin 128) (j : Fin 1024) : iblk m c 14 t (ix2 i j) = (V m c main_v24 : FVec Ideal S128x1024 .bf16) (ix2 i j) := by
  refine congrArg (V m c main_v24 : FVec Ideal S128x1024 .bf16) (funext fun a => Fin.ext ?_)
  match a with
  | ⟨0, _⟩ => show win0_14.index t 0 * 128 + 1 * i.val = i.val; rw [(idx t).2.2.2.2.2.2.2.2.2.2.2.2.2.2]; show 0 * 128 + 1 * i.val = i.val; omega
  | ⟨1, _⟩ => show win0_14.index t 1 * 1024 + 1 * j.val = j.val; rw [(idx t).2.2.2.2.2.2.2.2.2.2.2.2.2.2]; show 0 * 1024 + 1 * j.val = j.val; omega

/-- The tokens as the call receives them. -/
theorem V45 : V m c main_v45 = shapeCast S8192x1024 (m ((c : Thread nD τ).loc main_arg0)) shapeCasts_S32x256x1024_S8192x1024 := by
  unfold V
  simp only [List.flatten_cons, List.flatten_nil, List.append_nil, List.cons_append, List.nil_append]
  after_results
  try rfl

/-- Input 0's block is a slab of the array. -/
theorem whole0 (i : Fin 1024) (j : Fin 1024) (h : t.val * 1024 + i.val < 8192) :
    iblk m c 0 t (ix2 i j) = (V m c main_v45 : FVec Ideal S8192x1024 .f32) (ix2 ⟨t.val * 1024 + i.val, h⟩ j) := by
  refine congrArg (V m c main_v45 : FVec Ideal S8192x1024 .f32) (funext fun a => Fin.ext ?_)
  match a with
  | ⟨0, _⟩ => show win0_0.index t 0 * 1024 + 1 * i.val = t.val * 1024 + i.val; rw [(idx t).1]; show t.val * 1024 + 1 * i.val = t.val * 1024 + i.val; omega
  | ⟨1, _⟩ => show win0_0.index t 1 * 1024 + 1 * j.val = j.val; rw [(idx t).1]; show 0 * 1024 + 1 * j.val = j.val; omega

/-- The modulation vectors' block. -/
theorem whole1 (i : Fin 6) (l : Fin 1024) : iblk m c 1 t (ix3 0 i l) = (args m c).x1 (ix3 0 i l) := by
  blk_ext! [iblk, V, idx t]

end

end Cert.Proof.Mix
-- ==== Proof.MixArg.lean ====
module

public import proofs.«01_k».proof.Proof.MixProj

@[expose] public section

set_option maxRecDepth 16384
set_option maxHeartbeats 2000000

/-! # The host's preparations of the arguments, element by element -/

open Idealize.ShloMosaic

namespace Cert.Proof.Mix

open Cert.KernelIdeal Cert.KernelIdeal.Gen

noncomputable section

/-- A comparison of lane numbers. -/
theorem sge_bit (l u : Fin 128) : IntOp.cmpi .sge (BitVec.ofNat 32 l.val) (BitVec.ofNat 32 u.val) = BitVec.ofBool (decide (u ≤ l)) := by
  revert l u; decide +kernel

/-- A comparison of lane numbers. -/
theorem sle_bit (l u : Fin 128) : IntOp.cmpi .sle (BitVec.ofNat 32 l.val) (BitVec.ofNat 32 u.val) = BitVec.ofBool (decide (l ≤ u)) := by
  revert l u; decide +kernel

/-- A comparison of lane numbers. -/
theorem eq_bit (j h : Fin 128) : IntOp.cmpi .eq (BitVec.ofNat 32 j.val) (BitVec.ofNat 32 h.val) = BitVec.ofBool (decide (j = h)) := by
  revert j h; decide +kernel

/-- A decided bit as a number. -/
theorem bit_val (p : Prop) [Decidable p] : (FloatOps.uitofp .bf16 (BitVec.ofBool (decide p)) : Ideal .bf16) = if p then (1 : EReal) else 0 := by
  by_cases h : p
  · simp only [h, decide_true, if_true]
    show (((BitVec.ofBool true).toNat : ℝ) : EReal) = 1
    simp
  · simp only [h, decide_false, if_false]
    show (((BitVec.ofBool false).toNat : ℝ) : EReal) = 0
    simp

/-- A row reshaped twice is itself. -/
theorem row_twice (x : FVec Ideal S1x1024 .f32) (l : Fin 1024) :
    shapeCast S1x1024 (shapeCast S1024 x shapeCasts_S1x1024_S1024) shapeCasts_S1024_S1x1024 (ix2 0 l) = x (ix2 0 l) := by
  pointwise []

/-- A row reshaped twice is itself. -/
theorem row_twice' (x : FVec Ideal S1x512 .f32) (l : Fin 512) :
    shapeCast S1x512 (shapeCast S512 x shapeCasts_S1x512_S512) shapeCasts_S512_S1x512 (ix2 0 l) = x (ix2 0 l) := by
  pointwise []

/-- The short convolution's taps. -/
theorem taps_s (x : FVec Ideal S1x3x512 .f32) (i : Fin 3) (j : Fin 512) :
    shapeCast S3x512 x shapeCasts_S1x3x512_S3x512 (ix2 i j) = x (ix3 0 i j) := by
  pointwise []

/-- The scan's convolution's taps. -/
theorem taps_x (x : FVec Ideal S1x3x1024 .f32) (i : Fin 3) (j : Fin 1024) :
    shapeCast S3x1024 x shapeCasts_S1x3x1024_S3x1024 (ix2 i j) = x (ix3 0 i j) := by
  pointwise []

/-- The output projection's weights. -/
theorem weights_out (x : FVec Ideal S1x1024x1024 .f32) (i j : Fin 1024) :
    (truncf .bf16 (shapeCast S1024x1024 x shapeCasts_S1x1024x1024_S1024x1024) bitsLt_bf16_f32 : FVec Ideal S1024x1024 .bf16) (ix2 i j) = x (ix3 0 i j) := by
  pointwise []

/-- The input projection's weights, before the padding. -/
theorem weights_in (x : FVec Ideal S1x1024x3088 .f32) (z : FVec Ideal S_ .f32) (k : Fin 1024) (j : Fin 3088) (h : j.val < 3200) :
    (truncf .bf16 (pad S1024x3200 ![0, 0] ![0, 112] ![0, 0] (shapeCast S1024x3088 x shapeCasts_S1x1024x3088_S1024x3088) z
      pads_S1024x3088_S1024x3200_000_01120 h_S_) bitsLt_bf16_f32 : FVec Ideal S1024x3200 .bf16) (ix2 k ⟨j.val, h⟩) = x (ix3 0 k j) := by
  pointwise []

/-- A lane of a value per direction and head, before the padding. -/
theorem lanes_in (x : FVec Ideal S1x2x8 .f32) (z : FVec Ideal S_ .f32) (d : Fin 2) (h : Fin 8) (hl : d.val * 8 + h.val < 128) :
    (pad S1x128 ![0, 0] ![0, 112] ![0, 0] (shapeCast S1x16 (shapeCast S2x8 x shapeCasts_S1x2x8_S2x8) shapeCasts_S2x8_S1x16) z
      pads_S1x16_S1x128_000_01120 h_S_ : FVec Ideal S1x128 .f32) (ix2 0 ⟨d.val * 8 + h.val, hl⟩) = x (ix3 0 d h) := by
  pointwise []
  exact dif_pos (show d.val * 8 + h.val < 16 by omega)

/-- A value per head, repeated over the head's columns. -/
theorem skip_in (x : FVec Ideal S1x8 .f32) (q : Fin 512) (h : q.val / 64 < 8) :
    shapeCast S1x512 (shapeCast S512 (broadcastInDim S8x64 ![0] bcast_S8_S8x64_0 (shapeCast S8 x shapeCasts_S1x8_S8)) shapeCasts_S8x64_S512)
      shapeCasts_S512_S1x512 (ix2 0 q) = x (ix2 0 ⟨q.val / 64, h⟩) := by
  pointwise []

/-- A row of the tokens. -/
theorem tokens_in (x : FVec Ideal S32x256x1024 .f32) (b : Fin 32) (p : Fin 256) (l : Fin 1024) (i : Fin 8192) (h : i.val = 256 * b.val + p.val) :
    shapeCast S8192x1024 x shapeCasts_S32x256x1024_S8192x1024 (ix2 i l) = x (ix3 b p l) := by
  obtain ⟨i, hi⟩ := i
  obtain rfl : i = 256 * b.val + p.val := h
  pointwise []

end

end Cert.Proof.Mix
-- ==== Proof.MixBlocks.lean ====
module

public import proofs.«01_k».proof.Proof.MixHost
public import proofs.«01_k».proof.Proof.MixArg

@[expose] public section

set_option maxRecDepth 16384
set_option maxHeartbeats 400000

/-! # The blocks the mixer reads, as parts of the arguments -/

open Idealize.ShloMosaic Idealize.ShloMosaic.TcCoe

namespace Cert.Proof.Mix

open Cert.KernelIdeal Cert.KernelIdeal.Gen Cert.Proof.Mixer

noncomputable section

/-- The head of a value column. -/
theorem heads_apply (q : Fin 1024) : heads (ix2 0 q) = BitVec.ofNat 32 (lane q).val := by
  pointwise []
  revert q
  decide +kernel

/-- The lower triangle, element by element. -/
theorem low_in (l u : Fin 128) : (uitofp .bf16 (cmpi .sge
      (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0)))) : FVec Ideal S128x128 .bf16) (ix2 l u)
    = if u ≤ l then 1 else 0 := by
  refine Eq.trans ?_ (bit_val (u ≤ l))
  rw [← sge_bit]
  pointwise []

/-- The upper triangle, element by element. -/
theorem up_in (l u : Fin 128) : (uitofp .bf16 (cmpi .sle
      (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0)))) : FVec Ideal S128x128 .bf16) (ix2 l u)
    = if l ≤ u then 1 else 0 := by
  refine Eq.trans ?_ (bit_val (l ≤ u))
  rw [← sle_bit]
  pointwise []

/-- A comparison of a lane with every column's head. -/
theorem lanes_cmp (y : IVec S1x1024 32) (j : Fin 128) (q : Fin 1024) : (uitofp .bf16 (cmpi .eq
      (broadcastInDim S128x1024 ![0, 1] bcast_S128x1_S128x1024_0_1 (broadcastInDim S128x1 ![0] bcast_S128_S128x1_0 (iotaInDim S128 32 0)))
      (broadcastInDim S128x1024 ![0, 1] bcast_S1x1024_S128x1024_0_1 y)) : FVec Ideal S128x1024 .bf16) (ix2 j q)
    = FloatOps.uitofp .bf16 (IntOp.cmpi .eq (BitVec.ofNat 32 j.val) (y (ix2 0 q))) := by
  pointwise []

variable (m : (ℓ : Loc nD τ sig) → Buf (Elt Ideal) ℓ) (c : Dev nD)

/-- The tokens, element by element. -/
theorem in_rows (b : Fin 32) (p : Fin 256) (l : Fin 1024) (i : Fin 8192) (h : i.val = 256 * b.val + p.val) : (V m c main_v45 : FVec Ideal S8192x1024 .f32) (ix2 i l) = (m ((c : Thread nD τ).loc main_arg0) : FVec Ideal S32x256x1024 .f32) (ix3 b p l) := by
  rw [V45]
  exact tokens_in _ b p l i h

/-- The norm's weights, element by element. -/
theorem in_gain (l : Fin 1024) : (V m c main_v26 : FVec Ideal S1x1024 .f32) (ix2 0 l) = (m ((c : Thread nD τ).loc main_arg2) : FVec Ideal S1x1024 .f32) (ix2 0 l) := by
  rw [V26]
  exact row_twice _ l

/-- The input projection, element by element. -/
theorem in_win (k : Fin 1024) (j : Fin 3088) (h : j.val < 3200) : (V m c main_v2 : FVec Ideal S1024x3200 .bf16) (ix2 k ⟨j.val, h⟩) = (m ((c : Thread nD τ).loc main_arg3) : FVec Ideal S1x1024x3088 .f32) (ix3 0 k j) := by
  rw [V2]
  exact weights_in _ _ k j h

/-- The short convolution's taps, element by element. -/
theorem in_taps (i : Fin 3) (j : Fin 512) : (V m c main_v27 : FVec Ideal S3x512 .f32) (ix2 i j) = (m ((c : Thread nD τ).loc main_arg4) : FVec Ideal S1x3x512 .f32) (ix3 0 i j) := by
  rw [V27]
  exact taps_s _ i j

/-- The scan's convolution's taps, element by element. -/
theorem in_tapx (i : Fin 3) (j : Fin 1024) : (V m c main_v28 : FVec Ideal S3x1024 .f32) (ix2 i j) = (m ((c : Thread nD τ).loc main_arg5) : FVec Ideal S1x3x1024 .f32) (ix3 0 i j) := by
  rw [V28]
  exact taps_x _ i j

/-- The scan's convolution's bias, element by element. -/
theorem in_bias (j : Fin 1024) : (V m c main_v30 : FVec Ideal S1x1024 .f32) (ix2 0 j) = (m ((c : Thread nD τ).loc main_arg6) : FVec Ideal S1x1024 .f32) (ix2 0 j) := by
  rw [V30]
  exact row_twice _ j

/-- The step sizes' biases, element by element. -/
theorem in_dtb (d : Fin 2) (h : Fin 8) (hl : d.val * 8 + h.val < 128) : (V m c main_v33 : FVec Ideal S1x128 .f32) (ix2 0 ⟨d.val * 8 + h.val, hl⟩) = (m ((c : Thread nD τ).loc main_arg7) : FVec Ideal S1x2x8 .f32) (ix3 0 d h) := by
  rw [V33]
  exact lanes_in _ _ d h hl

/-- The log decay rates, element by element. -/
theorem in_alog (d : Fin 2) (h : Fin 8) (hl : d.val * 8 + h.val < 128) : (V m c main_v36 : FVec Ideal S1x128 .f32) (ix2 0 ⟨d.val * 8 + h.val, hl⟩) = (m ((c : Thread nD τ).loc main_arg8) : FVec Ideal S1x2x8 .f32) (ix3 0 d h) := by
  rw [V36]
  exact lanes_in _ _ d h hl

/-- The skip weights, element by element. -/
theorem in_skip (q : Fin 512) (h : q.val / 64 < 8) : (V m c main_v40 : FVec Ideal S1x512 .f32) (ix2 0 q) = (m ((c : Thread nD τ).loc main_arg9) : FVec Ideal S1x8 .f32) (ix2 0 ⟨q.val / 64, h⟩) := by
  rw [V40]
  exact skip_in _ q h

/-- The second norm's weights, element by element. -/
theorem in_gain2 (j : Fin 512) : (V m c main_v42 : FVec Ideal S1x512 .f32) (ix2 0 j) = (m ((c : Thread nD τ).loc main_arg10) : FVec Ideal S1x512 .f32) (ix2 0 j) := by
  rw [V42]
  exact row_twice' _ j

/-- The output projection, element by element. -/
theorem in_wout (j l : Fin 1024) : (V m c main_v44 : FVec Ideal S1024x1024 .bf16) (ix2 j l) = (m ((c : Thread nD τ).loc main_arg11) : FVec Ideal S1x1024x1024 .f32) (ix3 0 j l) := by
  rw [V44]
  exact weights_out _ j l

/-- The lower triangle, element by element. -/
theorem in_low (l u : Fin 128) : (V m c main_v9 : FVec Ideal S128x128 .bf16) (ix2 l u) = if u ≤ l then (1 : EReal) else (0 : EReal) := by
  rw [V9]
  exact low_in l u

/-- The upper triangle, element by element. -/
theorem in_up (l u : Fin 128) : (V m c main_v15 : FVec Ideal S128x128 .bf16) (ix2 l u) = if l ≤ u then (1 : EReal) else (0 : EReal) := by
  rw [V15]
  exact up_in l u

/-- The head expansion, element by element. -/
theorem in_heads (j : Fin 128) (q : Fin 1024) : (V m c main_v24 : FVec Ideal S128x1024 .bf16) (ix2 j q) = if j = lane q then (1 : EReal) else (0 : EReal) := by
  rw [V24, lanes_cmp, heads_apply, eq_bit]
  exact bit_val _

section

variable (t : Fin cfg0.N)

/-- The point's rows. -/
theorem rd1 (j : ℕ) (hj : j < 4) (p : Fin 256) (l : Fin 1024) (h : 256 * j + p.val < 1024) :
    (inAt m c t).a1 (ix2 ⟨256 * j + p.val, h⟩ l) = (args m c).x0 (ix3 (sq ⟨t.val, n8 t⟩ j hj) p l) := by
  have ht := n8 t
  refine (whole0 m c t ⟨256 * j + p.val, h⟩ l (by show t.val * 1024 + (256 * j + p.val) < 8192; omega)).trans
    (in_rows m c _ p l _ ?_)
  show t.val * 1024 + (256 * j + p.val) = 256 * (4 * t.val + j) + p.val
  omega

/-- The modulation vectors at a point. -/
theorem rd2 (i : Fin 6) (l : Fin 1024) : (inAt m c t).a2 (ix3 0 i l) = (args m c).x1 (ix3 0 i l) := whole1 m c t i l

/-- The norm's weights at a point. -/
theorem rd3 (l : Fin 1024) : (inAt m c t).a3 (ix2 0 l) = (args m c).x2 (ix2 0 l) :=
  (whole2 m c t 0 l).trans (in_gain m c l)

/-- The input projection at a point. -/
theorem rd4 (k : Fin 1024) (j : Fin 3088) (h : j.val < 3200) : (inAt m c t).a4 (ix2 k ⟨j.val, h⟩) = (args m c).x3 (ix3 0 k j) :=
  (whole3 m c t k ⟨j.val, h⟩).trans (in_win m c k j h)

/-- The short convolution's taps at a point. -/
theorem rd5 (i : Fin 3) (j : Fin 512) : (inAt m c t).a5 (ix2 i j) = (args m c).x4 (ix3 0 i j) :=
  (whole4 m c t i j).trans (in_taps m c i j)

/-- The scan's convolution's taps at a point. -/
theorem rd6 (i : Fin 3) (j : Fin 1024) : (inAt m c t).a6 (ix2 i j) = (args m c).x5 (ix3 0 i j) :=
  (whole5 m c t i j).trans (in_tapx m c i j)

/-- The scan's convolution's bias at a point. -/
theorem rd7 (j : Fin 1024) : (inAt m c t).a7 (ix2 0 j) = (args m c).x6 (ix2 0 j) :=
  (whole6 m c t 0 j).trans (in_bias m c j)

/-- The step sizes' biases at a point. -/
theorem rd8 (d : Fin 2) (h : Fin 8) (hl : d.val * 8 + h.val < 128) :
    (inAt m c t).a8 (ix2 0 ⟨d.val * 8 + h.val, hl⟩) = (args m c).x7 (ix3 0 d h) :=
  (whole7 m c t 0 ⟨d.val * 8 + h.val, hl⟩).trans (in_dtb m c d h hl)

/-- The log decay rates at a point. -/
theorem rd9 (d : Fin 2) (h : Fin 8) (hl : d.val * 8 + h.val < 128) :
    (inAt m c t).a9 (ix2 0 ⟨d.val * 8 + h.val, hl⟩) = (args m c).x8 (ix3 0 d h) :=
  (whole8 m c t 0 ⟨d.val * 8 + h.val, hl⟩).trans (in_alog m c d h hl)

/-- The skip weights at a point. -/
theorem rd10 (q : Fin 512) (h : q.val / 64 < 8) : (inAt m c t).a10 (ix2 0 q) = (args m c).x9 (ix2 0 ⟨q.val / 64, h⟩) :=
  (whole9 m c t 0 q).trans (in_skip m c q h)

/-- The second norm's weights at a point. -/
theorem rd11 (j : Fin 512) : (inAt m c t).a11 (ix2 0 j) = (args m c).x10 (ix2 0 j) :=
  (whole10 m c t 0 j).trans (in_gain2 m c j)

/-- The output projection at a point. -/
theorem rd12 (j l : Fin 1024) : (inAt m c t).a12 (ix2 j l) = (args m c).x11 (ix3 0 j l) :=
  (whole11 m c t j l).trans (in_wout m c j l)

/-- The lower triangle at a point. -/
theorem rd13 (l u : Fin 128) : (inAt m c t).a13 (ix2 l u) = if u ≤ l then (1 : EReal) else (0 : EReal) :=
  (whole12 m c t l u).trans (in_low m c l u)

/-- The upper triangle at a point. -/
theorem rd14 (l u : Fin 128) : (inAt m c t).a14 (ix2 l u) = if l ≤ u then (1 : EReal) else (0 : EReal) :=
  (whole13 m c t l u).trans (in_up m c l u)

/-- The head expansion at a point. -/
theorem rd15 (j : Fin 128) (q : Fin 1024) : (inAt m c t).a15 (ix2 j q) = if j = lane q then (1 : EReal) else (0 : EReal) :=
  (whole14 m c t j q).trans (in_heads m c j q)

/-- A grid point's blocks are the arguments' parts. -/
theorem reads : Reads (args m c) ⟨t.val, n8 t⟩ (inAt m c t) :=
  Reads.mk (rd1 m c t) (rd2 m c t) (rd3 m c t) (rd4 m c t) (rd5 m c t) (rd6 m c t) (rd7 m c t) (rd8 m c t) (rd9 m c t)
    (rd10 m c t) (rd11 m c t) (rd12 m c t) (rd13 m c t) (rd14 m c t) (rd15 m c t)

end

end

end Cert.Proof.Mix
-- ==== Proof.MixConv.lean ====
module

public import proofs.«01_k».proof.Proof.MixProj

@[expose] public section

set_option maxRecDepth 16384
set_option maxHeartbeats 4000000

/-! # The chunks of a slab, over the extended reals -/

open Idealize.ShloMosaic

namespace Cert.Proof.Mix

open Cert.KernelIdeal Cert.KernelIdeal.Gen Cert.Proof.Mixer

noncomputable section

/-- The rows whose left neighbour a chunk does not take. -/
theorem first_row : ∀ (k : Fin k0_t2_loop.trips) (l : Fin 128),
    IntOp.cmpi .eq (BitVec.ofNat 32 l.val) (FwdIn.startRow k) = BitVec.ofBool (decide (k.val % 2 = 0 ∧ l.val = 0)) := by
  decide +kernel

/-- The rows whose right neighbour a chunk does not take. -/
theorem last_row : ∀ (k : Fin k0_t2_loop.trips) (l : Fin 128),
    IntOp.cmpi .eq (BitVec.ofNat 32 l.val) (FwdIn.endRow k) = BitVec.ofBool (decide (k.val % 2 = 1 ∧ l.val = 127)) := by
  decide +kernel

/-- A chunk's convolution from the window of rows around it. -/
theorem conv_window (v : Fin 256 → EReal) (win : Fin 144 → EReal) (c : ℕ) (hc : c < 2) (l : Fin 128) (w0 w1 w2 : EReal)
    (hw : ∀ (y : Fin 144) (p : Fin 256), p.val + 8 = c * 128 + y.val → win y = v p) :
    (if c = 0 ∧ l.val = 0 then 0 else win ⟨7 + l.val, by omega⟩) * w0 + win ⟨8 + l.val, by omega⟩ * w1
        + (if c = 1 ∧ l.val = 127 then 0 else win ⟨9 + l.val, by omega⟩) * w2
      = conv3 v w0 w1 w2 (pos ⟨c, hc⟩ l) := by
  unfold conv3
  refine congrArg₂ (· + ·) (congrArg₂ (· + ·) (congrArg (· * w0) ?_) (congrArg (· * w1) ?_)) (congrArg (· * w2) ?_)
  · by_cases h : c * 128 + l.val = 0
    · rw [if_pos (show c = 0 ∧ l.val = 0 by omega), if_pos h]
    · rw [if_neg (show ¬ (c = 0 ∧ l.val = 0) by omega), if_neg h]
      exact hw _ _ (by show c * 128 + l.val - 1 + 8 = c * 128 + (7 + l.val); omega)
  · exact hw _ _ (by show c * 128 + l.val + 8 = c * 128 + (8 + l.val); omega)
  · by_cases h : c * 128 + l.val = 255
    · rw [if_pos (show c = 1 ∧ l.val = 127 by omega), dif_pos h]
    · rw [if_neg (show ¬ (c = 1 ∧ l.val = 127) by omega), dif_neg h]
      exact hw _ _ (by show c * 128 + l.val + 1 + 8 = c * 128 + (9 + l.val); omega)

/-- The gated rows' convolution, before its gate, from the window. -/
theorem pay33_eq (k : Fin k0_t2_loop.trips) (wn : Vec Ideal S144x512 .f32) (t0 t1 t2 : Vec Ideal S1x512 .f32) (g : Vec Ideal S128x512 .f32)
    (l : Fin 128) (q : Fin 512) :
    k0_pay33 (F := Ideal) (k0_pay29 wn) (k0_pay30 (FwdIn.startRow k) wn) (k0_pay31 (FwdIn.endRow k) wn) (k0_pay32 t0) t1 t2 g (ix2 l q)
      = g (ix2 l q) * ((if k.val % 2 = 0 ∧ l.val = 0 then 0 else wn (ix2 ⟨7 + l.val, by omega⟩ q)) * t0 (ix2 0 q)
          + wn (ix2 ⟨8 + l.val, by omega⟩ q) * t1 (ix2 0 q)
          + (if k.val % 2 = 1 ∧ l.val = 127 then 0 else wn (ix2 ⟨9 + l.val, by omega⟩ q)) * t2 (ix2 0 q)) := by
  pointwise [k0_pay33, k0_pay29, k0_pay30, k0_pay31, k0_pay32]
  have ea : (8 + l.val + 144 - 1) % 144 = 7 + l.val := by omega
  have eb : (8 + l.val + 144 - 143) % 144 = 9 + l.val := by omega
  simp only [first_row, last_row, select_bit, ea, eb, ite_mul, zero_mul]

/-- The scan's convolution with its bias, from the window. -/
theorem pay25_eq (k : Fin k0_t2_loop.trips) (wn : Vec Ideal S144x1024 .f32) (t0 t1 t2 b : Vec Ideal S1x1024 .f32)
    (l : Fin 128) (q : Fin 1024) :
    k0_pay25 (F := Ideal) (k0_pay23 0#32 1#32 k wn t0 t1) (k0_pay24 0#32 1#32 k wn t2) b (ix2 l q)
      = silu ((if k.val % 2 = 0 ∧ l.val = 0 then 0 else wn (ix2 ⟨7 + l.val, by omega⟩ q)) * t0 (ix2 0 q)
          + wn (ix2 ⟨8 + l.val, by omega⟩ q) * t1 (ix2 0 q)
          + (if k.val % 2 = 1 ∧ l.val = 127 then 0 else wn (ix2 ⟨9 + l.val, by omega⟩ q)) * t2 (ix2 0 q) + b (ix2 0 q)) := by
  unfold silu
  pointwise [k0_pay25, k0_pay23, k0_pay24]
  have h0 := first_row k l
  have h1 := last_row k l
  dsimp only [FwdIn.startRow, FwdIn.endRow] at h0 h1
  have ea : (8 + l.val + 144 - 1) % 144 = 7 + l.val := by omega
  have eb : (8 + l.val + 144 - 143) % 144 = 9 + l.val := by omega
  simp only [h0, h1, select_bit, ea, eb, ite_mul, zero_mul]

/-- There are eight chunks. -/
theorem lt8 (k : Fin k0_t2_loop.trips) : k.val < 8 := lt_of_lt_of_eq k.isLt t2_trips

/-- The sequence of chunk `k`. -/
abbrev sqk (w : Fin 8) (k : Fin k0_t2_loop.trips) : Fin 32 := sq w (k.val / 2) (by have := lt8 k; omega)

/-- The place of chunk `k` in its sequence. -/
abbrev ck (k : Fin k0_t2_loop.trips) : Fin 2 := ⟨k.val % 2, Nat.mod_lt _ (by decide)⟩

section Slab

variable {A : Args} {w : Fin 8} {M : MixIn Ideal} (R : Reads A w M)
include R

/-- The padded gated rows. -/
theorem g19_apply (j : ℕ) (hj : j < 4) (p : Fin 256) (y : Fin 1040) (h : y.val = 8 + 256 * j + p.val) (q : Fin 512) :
    M.g19 (ix2 y q) = proj A (sq w j hj) p ⟨1024 + q.val, by omega⟩ * proj A (sq w j hj) p ⟨q.val, by omega⟩ := by
  have e : (y.val - 8) / 256 = j := by omega
  have e' : (⟨(y.val - 8) % 256, Nat.mod_lt _ (by decide)⟩ : Fin 256) = p := Fin.ext (by show (y.val - 8) % 256 = p.val; omega)
  unfold MixIn.g19
  refine (dif_neg (show ¬ y.val < 8 by omega)).trans ((dif_pos (show y.val < 1032 by omega)).trans ?_)
  subst e e'
  exact b19_apply R ⟨(y.val - 8) / 256, by rw [t1_trips]; exact hj⟩ hj _ q

/-- The padded rows of the scan's convolution. -/
theorem g20_apply (j : ℕ) (hj : j < 4) (p : Fin 256) (y : Fin 1040) (h : y.val = 8 + 256 * j + p.val) (q : Fin 1024) :
    M.g20 (ix2 y q) = proj A (sq w j hj) p ⟨2048 + q.val, by omega⟩ := by
  have e : (y.val - 8) / 256 = j := by omega
  have e' : (⟨(y.val - 8) % 256, Nat.mod_lt _ (by decide)⟩ : Fin 256) = p := Fin.ext (by show (y.val - 8) % 256 = p.val; omega)
  unfold MixIn.g20
  refine (dif_neg (show ¬ y.val < 8 by omega)).trans ((dif_pos (show y.val < 1032 by omega)).trans ?_)
  subst e e'
  exact b20_apply R ⟨(y.val - 8) / 256, by rw [t1_trips]; exact hj⟩ hj _ q

/-- The short convolution's gates. -/
theorem g21_apply (j : ℕ) (hj : j < 4) (p : Fin 256) (y : Fin 1024) (h : y.val = 256 * j + p.val) (q : Fin 512) :
    M.g21 (ix2 y q) = proj A (sq w j hj) p ⟨512 + q.val, by omega⟩ := by
  have e : y.val / 256 = j := by omega
  have e' : (⟨y.val % 256, Nat.mod_lt _ (by decide)⟩ : Fin 256) = p := Fin.ext (by show y.val % 256 = p.val; omega)
  subst e e'
  exact b21_apply R ⟨y.val / 256, by rw [t1_trips]; exact hj⟩ hj _ q

/-- The scan's gates. -/
theorem g22_apply (j : ℕ) (hj : j < 4) (p : Fin 256) (y : Fin 1024) (h : y.val = 256 * j + p.val) (q : Fin 512) :
    M.g22 (ix2 y q) = proj A (sq w j hj) p ⟨1536 + q.val, by omega⟩ := by
  have e : y.val / 256 = j := by omega
  have e' : (⟨y.val % 256, Nat.mod_lt _ (by decide)⟩ : Fin 256) = p := Fin.ext (by show y.val % 256 = p.val; omega)
  subst e e'
  exact b22_apply R ⟨y.val / 256, by rw [t1_trips]; exact hj⟩ hj _ q

/-- The step sizes. -/
theorem g23_apply (j : ℕ) (hj : j < 4) (p : Fin 256) (y : Fin 1024) (h : y.val = 256 * j + p.val) (d : Fin 2) (i : Fin 8)
    (hl : d.val * 8 + i.val < 128) : M.g23 (ix2 y ⟨d.val * 8 + i.val, hl⟩) = dt A (sq w j hj) d p i := by
  have e : y.val / 256 = j := by omega
  have e' : (⟨y.val % 256, Nat.mod_lt _ (by decide)⟩ : Fin 256) = p := Fin.ext (by show y.val % 256 = p.val; omega)
  subst e e'
  exact b23_apply R ⟨y.val / 256, by rw [t1_trips]; exact hj⟩ hj _ d i hl

omit R in
/-- No step size is negative. -/
theorem g23_nonneg (y : Fin 1024) (j : Fin 128) : 0 ≤ M.g23 (ix2 y j) := by
  refine le_of_le_of_eq (sp_nonneg _) (b23_eq (M := M) ⟨y.val / 256, by rw [t1_trips]; omega⟩ ⟨y.val % 256, Nat.mod_lt _ (by decide)⟩ j).symm

/-- A chunk's convolved and gated rows. -/
theorem xc_apply (k : Fin k0_t2_loop.trips) (l : Fin 128) (q : Fin 1024) :
    M.fwd.xc k (ix2 l q) = xc A (sqk w k) (pos (ck k) l) q := by
  have hk := lt8 k
  unfold FwdIn.xc FwdIn.taps01 FwdIn.tap2
  rw [pay25_eq]
  unfold xc
  refine congrArg silu (congrArg₂ (· + ·) ?_ ?_)
  · rw [← R.r6 0 q, ← R.r6 1 q, ← R.r6 2 q]
    rw [show part M.fwd.a6 ![0, 0] S1x1024.size inb_S3x1024_S1x1024_0_0 (ix2 (0 : Fin 1) q) = M.a6 (ix2 0 q) from
        part_ix2 M.a6 _ _ 0 q 0 q rfl (Nat.zero_add _),
      show part M.fwd.a6 ![1, 0] S1x1024.size inb_S3x1024_S1x1024_1_0 (ix2 (0 : Fin 1) q) = M.a6 (ix2 1 q) from
        part_ix2 M.a6 _ _ 0 q 1 q rfl (Nat.zero_add _),
      show part M.fwd.a6 ![2, 0] S1x1024.size inb_S3x1024_S1x1024_2_0 (ix2 (0 : Fin 1) q) = M.a6 (ix2 2 q) from
        part_ix2 M.a6 _ _ 0 q 2 q rfl (Nat.zero_add _)]
    refine conv_window _ (fun y => M.fwd.win k (ix2 y q)) (k.val % 2) (Nat.mod_lt _ (by decide)) l _ _ _ fun y p h => ?_
    refine (part_ix2 M.g20 _ _ y q ⟨128 * k.val + y.val, by omega⟩ q (by rw [k0_off6_eq]; rfl) (by rw [k0_off6_eq]; exact Nat.zero_add _)).trans ?_
    exact g20_apply R (k.val / 2) _ p _ (by show 128 * k.val + y.val = 8 + 256 * (k.val / 2) + p.val; omega) q
  · rw [← R.r7]
    exact part_ix2 M.a7 _ _ 0 q 0 q rfl (Nat.zero_add _)

/-- The short convolution's half of the mixed rows of a chunk. -/
theorem ya_apply (k : Fin k0_t2_loop.trips) (l : Fin 128) (q : Fin 512) :
    M.fwd.ya k (ix2 l q) = outa A (sqk w k) (pos (ck k) l) q := by
  have hk := lt8 k
  unfold FwdIn.ya
  rw [pay33_eq]
  unfold outa
  refine congrArg₂ (· * ·) ?_ ?_
  · refine (part_ix2 M.g21 _ _ l q ⟨128 * k.val + l.val, by omega⟩ q (by rw [k0_off7_eq]; rfl) (by rw [k0_off7_eq]; exact Nat.zero_add _)).trans ?_
    exact g21_apply R (k.val / 2) _ _ _ (by show 128 * k.val + l.val = 256 * (k.val / 2) + (k.val % 2 * 128 + l.val); omega) q
  · rw [← R.r5 0 q, ← R.r5 1 q, ← R.r5 2 q]
    rw [show part M.fwd.a5 ![0, 0] S1x512.size inb_S3x512_S1x512_0_0 (ix2 (0 : Fin 1) q) = M.a5 (ix2 0 q) from
        part_ix2 M.a5 _ _ 0 q 0 q rfl (Nat.zero_add _),
      show part M.fwd.a5 ![1, 0] S1x512.size inb_S3x512_S1x512_1_0 (ix2 (0 : Fin 1) q) = M.a5 (ix2 1 q) from
        part_ix2 M.a5 _ _ 0 q 1 q rfl (Nat.zero_add _),
      show part M.fwd.a5 ![2, 0] S1x512.size inb_S3x512_S1x512_2_0 (ix2 (0 : Fin 1) q) = M.a5 (ix2 2 q) from
        part_ix2 M.a5 _ _ 0 q 2 q rfl (Nat.zero_add _)]
    refine conv_window _ (fun y => M.fwd.winA k (ix2 y q)) (k.val % 2) (Nat.mod_lt _ (by decide)) l _ _ _ fun y p h => ?_
    refine (part_ix2 M.g19 _ _ y q ⟨128 * k.val + y.val, by omega⟩ q (by rw [k0_off8_eq]; rfl) (by rw [k0_off8_eq]; exact Nat.zero_add _)).trans ?_
    exact g19_apply R (k.val / 2) _ p _ (by show 128 * k.val + y.val = 8 + 256 * (k.val / 2) + p.val; omega) q

/-- A chunk's step sizes. -/
theorem dt_apply (k : Fin k0_t2_loop.trips) (l : Fin 128) (d : Fin 2) (i : Fin 8) (hl : d.val * 8 + i.val < 128) :
    M.fwd.dt k (ix2 l ⟨d.val * 8 + i.val, hl⟩) = dt A (sqk w k) d (pos (ck k) l) i := by
  have hk := lt8 k
  refine (part_ix2 M.g23 _ _ l _ ⟨128 * k.val + l.val, by omega⟩ ⟨d.val * 8 + i.val, hl⟩ (by rw [k0_off10_eq]; rfl) (by rw [k0_off10_eq]; exact Nat.zero_add _)).trans ?_
  exact g23_apply R (k.val / 2) _ _ _ (by show 128 * k.val + l.val = 256 * (k.val / 2) + (k.val % 2 * 128 + l.val); omega) d i hl

omit R in
/-- No step size of a chunk is negative. -/
theorem dt_nonneg (k : Fin k0_t2_loop.trips) (l j : Fin 128) : 0 ≤ M.fwd.dt k (ix2 l j) := by
  have hk := lt8 k
  refine le_of_le_of_eq (g23_nonneg (M := M) ⟨128 * k.val + l.val, by omega⟩ j) (part_ix2 M.g23 _ _ l j _ j (by rw [k0_off10_eq]; rfl) (by rw [k0_off10_eq]; exact Nat.zero_add _)).symm

/-- A chunk's gates. -/
theorem z_apply (k : Fin k0_t3_loop.trips) (l : Fin 128) (q : Fin 512) :
    (M.bwd k).z (ix2 l q) = proj A (sqk w (MixIn.rev k)) (pos (ck (MixIn.rev k)) l) ⟨1536 + q.val, by omega⟩ := by
  have hk : k.val < 8 := lt_of_lt_of_eq k.isLt t3_trips
  refine (part_ix2 M.g22 _ _ l q ⟨896 - 128 * k.val + l.val, by omega⟩ q (by rw [k0_off14_eq]; rfl) (by rw [k0_off14_eq]; exact Nat.zero_add _)).trans ?_
  exact g22_apply R ((7 - k.val) / 2) (by omega) _ _ (by show 896 - 128 * k.val + l.val = 256 * ((7 - k.val) / 2) + ((7 - k.val) % 2 * 128 + l.val); omega) q

/-- The decay rates. -/
theorem rate_apply (d : Fin 2) (i : Fin 8) (hl : d.val * 8 + i.val < 128) : M.fwd.v25 (ix2 0 ⟨d.val * 8 + i.val, hl⟩) = rate A d i := by
  unfold rate
  rw [← R.r9 d i hl]
  have e : part M.a9 ![0, 0] S1x128.size inb_S1x128_S1x128_0_0 (ix2 (0 : Fin 1) (⟨d.val * 8 + i.val, hl⟩ : Fin 128)) = M.a9 (ix2 0 ⟨d.val * 8 + i.val, hl⟩) :=
    part_ix2 M.a9 _ _ 0 _ 0 _ rfl (Nat.zero_add _)
  rw [← e]
  unfold MixIn.fwd
  pointwise [k0_pay111]

omit R in
/-- No decay rate is positive. -/
theorem rate_nonpos (j : Fin 128) : M.fwd.v25 (ix2 0 j) ≤ 0 := by
  unfold MixIn.fwd
  pointwise [k0_pay111]
  generalize part M.a9 _ _ _ _ = x
  rw [zero_sub, EReal.neg_le, neg_zero]
  unfold Ideal.exp
  split
  · exact le_rfl
  · exact le_top
  · exact_mod_cast (Real.exp_pos _).le

end Slab

end

end Cert.Proof.Mix
-- ==== Proof.MixYb.lean ====
module

public import proofs.«01_k».proof.Proof.MixTile

@[expose] public section

set_option maxRecDepth 16384
set_option maxHeartbeats 4000000

/-! # One chunk of the backward scan over the extended reals -/

open Idealize.ShloMosaic

namespace Cert.Proof.Mix

open Cert.KernelIdeal Cert.KernelIdeal.Gen Cert.Proof.Mixer

noncomputable section

/-- Which positions a position sees, forward. -/
theorem sees (l u : Fin 128) : k0_pay11 (ix2 l u) = BitVec.ofBool (decide (u ≤ l)) := by
  pointwise [k0_pay11]
  revert l u; decide +kernel

/-- Which positions a position sees, backward. -/
theorem sees' (l u : Fin 128) : k0_pay12 (ix2 l u) = BitVec.ofBool (decide (l ≤ u)) := by
  pointwise [k0_pay12]
  revert l u; decide +kernel

/-- A complemented bit. -/
theorem not_bit (p : Prop) [Decidable p] : IntOp.xori (BitVec.ofBool (decide p)) 1#1 = BitVec.ofBool (decide (¬ p)) := by
  by_cases h : p <;> simp [h, IntOp.xori]

/-- A sum of products with values kept only under a condition. -/
theorem sum_kept (p : Prop) [Decidable p] (f g : Fin 128 → EReal) :
    ∑ u, f u * (if p then g u else 0) = if p then ∑ u, f u * g u else 0 := by
  by_cases h : p <;> simp [h]

variable (B : BwdIn Ideal) (s : Vec Ideal S128x512 .f32)

/-- The product of the two projections of group `g`. -/
def gmat (g : Fin 2) (l u : Fin 128) : EReal :=
  ∑ n : Fin 128, B.bc (ix2 l ⟨256 + (g.val * 128 + n.val), by omega⟩) * B.bc (ix2 u ⟨g.val * 128 + n.val, by omega⟩)

/-- What the chunk's own positions contribute, forward. -/
def own (h : Fin 8) (l : Fin 128) (q : Fin 512) : EReal :=
  ∑ u : Fin 128, if u ≤ l then
    gmat B (grp h) l u * Ideal.exp (B.e (ix2 l ⟨h.val, by omega⟩) - B.e (ix2 u ⟨h.val, by omega⟩))
      * (B.xs (ix2 u q) * B.dt (ix2 u ⟨h.val, by omega⟩)) else 0

/-- What the chunk's own positions contribute, backward. -/
def own' (h : Fin 8) (l : Fin 128) (q : Fin 512) : EReal :=
  ∑ u : Fin 128, if l ≤ u then
    gmat B (grp h) l u * Ideal.exp (B.e (ix2 l ⟨8 + h.val, by omega⟩) - B.e (ix2 u ⟨8 + h.val, by omega⟩))
      * (B.xs (ix2 u q) * B.dt (ix2 u ⟨8 + h.val, by omega⟩)) else 0

/-- What the two states contribute. -/
def cross (h : Fin 8) (l : Fin 128) (q : Fin 512) : EReal :=
  (∑ n : Fin 128, B.bc (ix2 l ⟨256 + ((grp h).val * 128 + n.val), by omega⟩) * B.sf (ix3 0 n q)) * Ideal.exp (B.e (ix2 l ⟨h.val, by omega⟩))
    + (∑ n : Fin 128, B.bc (ix2 l ⟨256 + ((grp h).val * 128 + n.val), by omega⟩) * s (ix2 n q)) * Ideal.exp (B.e (ix2 l ⟨8 + h.val, by omega⟩))

/-- Both scans' output of head `h`. -/
def both (h : Fin 8) (l : Fin 128) (q : Fin 512) : EReal := cross B s h l q + own B h l q + own' B h l q

variable (h26 : B.v26 = iota .tc S128x128 32 [1] iota_S128x128_d1_w32)
  (hE : ∀ (j : Fin 128) (q : Fin 1024), B.expand (ix2 j q) = if j = lane q then 1 else 0)
include h26 hE

/-- The values times the step sizes, forward. -/
theorem v69_apply (u : Fin 128) (q : Fin 512) : B.v69 (ix2 u q) = B.xs (ix2 u q) * B.dt (ix2 u ⟨q.val / 64, by omega⟩) := by
  unfold BwdIn.v69
  pointwise [k0_pay54, k0_pay53]
  rw [sum_expand _ hE]

/-- The values times the step sizes, backward. -/
theorem v71_apply (u : Fin 128) (q : Fin 512) : B.v71 (ix2 u q) = B.xs (ix2 u q) * B.dt (ix2 u ⟨8 + q.val / 64, by omega⟩) := by
  unfold BwdIn.v71
  pointwise [k0_pay55, k0_pay53]
  rw [sum_expand _ hE]
  congr 3
  exact Fin.ext (by show (512 + q.val) / 64 = 8 + q.val / 64; omega)

/-- The decays from the chunk's ends, spread over the value columns. -/
theorem v76_apply (l : Fin 128) (q : Fin 1024) : B.v76 (ix2 l q) = Ideal.exp (B.e (ix2 l ⟨q.val / 64, by omega⟩)) := by
  unfold BwdIn.v76
  pointwise [k0_pay56]
  rw [sum_expand _ hE]

/-- The first pair of heads. -/
theorem v152_apply (l : Fin 128) (p : Fin 128) :
    B.v152 s (ix2 l p) = if p.val < 64 then both B s 0 l ⟨p.val, by omega⟩ else both B s 1 l ⟨p.val, by omega⟩ := by
  unfold BwdIn.v152
  pointwise [k0_pay67, k0_pay63, k0_pay60, k0_pay13, k0_pay61, k0_pay62, k0_pay64, k0_pay65, k0_pay66, k0_pay59, k0_pay57, k0_pay58, k0_pay50, k0_pay51, k0_pay52]
  simp only [h26]
  pointwise []
  simp only [sees, sees', lane64, not_bit, select_bit, sum_kept, v69_apply B h26 hE, v71_apply B h26 hE, v76_apply B h26 hE]
  by_cases h : p.val < 64
  · have e1 : p.val / 64 = 0 := by omega
    have e2 : (512 + p.val) / 64 = 8 := by omega
    simp only [e1, e2, h, not_true_eq_false, if_true, if_false, Finset.sum_const_zero, add_zero]
    rfl
  · have e1 : p.val / 64 = 1 := by omega
    have e2 : (512 + p.val) / 64 = 9 := by omega
    simp only [e1, e2, h, not_false_eq_true, if_true, if_false, Finset.sum_const_zero, add_zero]
    rfl

/-- The second pair of heads. -/
theorem v216_apply (l : Fin 128) (p : Fin 128) :
    B.v216 s (ix2 l p) = if p.val < 64 then both B s 2 l ⟨128 + p.val, by omega⟩ else both B s 3 l ⟨128 + p.val, by omega⟩ := by
  unfold BwdIn.v216
  pointwise [k0_pay76, k0_pay60, k0_pay13, k0_pay68, k0_pay69, k0_pay70, k0_pay71, k0_pay72, k0_pay73, k0_pay74, k0_pay75, k0_pay59, k0_pay57, k0_pay58, k0_pay50, k0_pay51, k0_pay52]
  simp only [h26]
  pointwise []
  simp only [sees, sees', lane64, not_bit, select_bit, sum_kept, v69_apply B h26 hE, v71_apply B h26 hE, v76_apply B h26 hE]
  by_cases h : p.val < 64
  · have e1 : (128 + p.val) / 64 = 2 := by omega
    have e2 : (512 + (128 + p.val)) / 64 = 10 := by omega
    have e3 : (640 + p.val) / 64 = 10 := by omega
    simp only [e1, e2, e3, h, not_true_eq_false, if_true, if_false, Finset.sum_const_zero, add_zero]
    rfl
  · have e1 : (128 + p.val) / 64 = 3 := by omega
    have e2 : (512 + (128 + p.val)) / 64 = 11 := by omega
    have e3 : (640 + p.val) / 64 = 11 := by omega
    simp only [e1, e2, e3, h, not_false_eq_true, if_true, if_false, Finset.sum_const_zero, add_zero]
    rfl

/-- The third pair of heads. -/
theorem v292_apply (l : Fin 128) (p : Fin 128) :
    B.v292 s (ix2 l p) = if p.val < 64 then both B s 4 l ⟨256 + p.val, by omega⟩ else both B s 5 l ⟨256 + p.val, by omega⟩ := by
  unfold BwdIn.v292
  pointwise [k0_pay92, k0_pay85, k0_pay13, k0_pay77, k0_pay78, k0_pay79, k0_pay80, k0_pay81, k0_pay82, k0_pay83, k0_pay84, k0_pay86, k0_pay87, k0_pay88, k0_pay89, k0_pay90, k0_pay91, k0_pay50, k0_pay51, k0_pay52]
  simp only [h26]
  pointwise []
  simp only [sees, sees', lane64, not_bit, select_bit, sum_kept, v69_apply B h26 hE, v71_apply B h26 hE, v76_apply B h26 hE]
  by_cases h : p.val < 64
  · have e1 : (256 + p.val) / 64 = 4 := by omega
    have e2 : (512 + (256 + p.val)) / 64 = 12 := by omega
    have e3 : (768 + p.val) / 64 = 12 := by omega
    simp only [e1, e2, e3, h, not_true_eq_false, if_true, if_false, Finset.sum_const_zero, add_zero]
    rfl
  · have e1 : (256 + p.val) / 64 = 5 := by omega
    have e2 : (512 + (256 + p.val)) / 64 = 13 := by omega
    have e3 : (768 + p.val) / 64 = 13 := by omega
    simp only [e1, e2, e3, h, not_false_eq_true, if_true, if_false, Finset.sum_const_zero, add_zero]
    rfl

/-- The scans' output with its skip, gated. -/
theorem v371_apply (l : Fin 128) (q : Fin 512) :
    B.v371 s (ix2 l q) = (both B s ⟨q.val / 64, by omega⟩ l q + B.xs (ix2 l q) * B.skip (ix2 0 q)) * silu (B.z (ix2 l q)) := by
  unfold BwdIn.v371
  pointwise [k0_pay97, k0_pay95, k0_pay93, k0_pay94, k0_pay96, k0_pay13, k0_pay77, k0_pay78, k0_pay79, k0_pay80, k0_pay81, k0_pay82, k0_pay50, k0_pay51, k0_pay52]
  simp only [h26]
  pointwise []
  simp only [sees, sees', v69_apply B h26 hE, v71_apply B h26 hE, v76_apply B h26 hE]
  refine congrArg₂ (· * ·) (congrArg (· + _) ?_) rfl
  by_cases h0 : q.val < 128
  · rw [dif_pos h0, v152_apply B s h26 hE]
    by_cases h : q.val < 64
    · rw [if_pos h]; exact congrArg (fun i => both B s i l q) (Fin.ext (by show 0 = q.val / 64; omega))
    · rw [if_neg h]; exact congrArg (fun i => both B s i l q) (Fin.ext (by show 1 = q.val / 64; omega))
  rw [dif_neg h0]
  by_cases h1 : q.val - 128 < 128
  · rw [dif_pos h1, v216_apply B s h26 hE]
    have hq : (⟨128 + (q.val - 128), by omega⟩ : Fin 512) = q := Fin.ext (by show 128 + (q.val - 128) = q.val; omega)
    by_cases h : q.val - 128 < 64
    · rw [if_pos h]; exact congrArg₂ (fun i q => both B s i l q) (Fin.ext (by show 2 = q.val / 64; omega)) hq
    · rw [if_neg h]; exact congrArg₂ (fun i q => both B s i l q) (Fin.ext (by show 3 = q.val / 64; omega)) hq
  rw [dif_neg h1]
  by_cases h2 : q.val - 128 - 128 < 128
  · rw [dif_pos h2, v292_apply B s h26 hE]
    have hq : (⟨256 + (q.val - 128 - 128), by omega⟩ : Fin 512) = q := Fin.ext (by show 256 + (q.val - 128 - 128) = q.val; omega)
    by_cases h : q.val - 128 - 128 < 64
    · rw [if_pos h]; exact congrArg₂ (fun i q => both B s i l q) (Fin.ext (by show 4 = q.val / 64; omega)) hq
    · rw [if_neg h]; exact congrArg₂ (fun i q => both B s i l q) (Fin.ext (by show 5 = q.val / 64; omega)) hq
  rw [dif_neg h2]
  obtain ⟨q, hq⟩ := q
  obtain ⟨p, rfl⟩ : ∃ p, q = 384 + p := ⟨q - 384, by have : ¬ q - 128 - 128 < 128 := h2; omega⟩
  have e0 : 384 + p - 128 - 128 - 128 = p := by omega
  have hl : IntOp.cmpi .slt (BitVec.ofNat 32 p) 64#32 = BitVec.ofBool (decide (p < 64)) := lane64 ⟨p, by omega⟩
  have e4 : 256 + (128 + p) = 384 + p := by omega
  simp only [e0, hl, not_bit, select_bit]
  by_cases h : p < 64
  · have e1 : (384 + p) / 64 = 6 := by omega
    have e3 : (768 + (128 + p)) / 64 = 14 := by omega
    simp only [e4, e1, e3, h, not_true_eq_false, if_true, if_false, Finset.sum_const_zero, add_zero]
    unfold both cross own own' gmat
    simp only [grp, Nat.reduceDiv, Nat.reduceMul, ← Nat.add_assoc, Nat.reduceAdd]
    rfl
  · have e1 : (384 + p) / 64 = 7 := by omega
    have e3 : (768 + (128 + p)) / 64 = 15 := by omega
    simp only [e4, e1, e3, h, not_false_eq_true, if_true, if_false, Finset.sum_const_zero, add_zero]
    unfold both cross own own' gmat
    simp only [grp, Nat.reduceDiv, Nat.reduceMul, ← Nat.add_assoc, Nat.reduceAdd]
    rfl

/-- The normalized rows: each row is normalized over the columns. -/
theorem yb_apply (l : Fin 128) (q : Fin 512) :
    B.yb s (ix2 l q) = rms 1140850688#32
      (fun q => (both B s ⟨q.val / 64, by omega⟩ l q + B.xs (ix2 l q) * B.skip (ix2 0 q)) * silu (B.z (ix2 l q)))
      (fun k => B.gain (ix2 0 k)) q := by
  unfold BwdIn.yb rms
  pointwise [k0_pay99, k0_pay98]
  simp only [v371_apply B s h26 hE]

omit h26 in
/-- The backward state after a chunk. -/
theorem v418_apply (h27 : B.v27 = iota .tc S1x128 32 [1] iota_S1x128_d1_w32) (he : ∀ l j : Fin 128, B.e (ix2 l j) ≤ 0)
    (n : Fin 128) (q : Fin 512) :
    B.v418 s (ix2 n q) = s (ix2 n q) * Ideal.exp (B.e (ix2 0 ⟨8 + q.val / 64, by omega⟩)) + B.csb (ix3 0 n q) := by
  unfold BwdIn.v418
  pointwise [k0_pay100, k0_pay2]
  simp only [h27]
  pointwise []
  simp only [lane8, select_bit]
  have hs : ∀ j : Fin 128, (if j.val < 8 then B.e (ix2 127 j) else B.e (ix2 0 j)) ≤ 0 := fun j => by
    split
    · exact he _ _
    · exact he _ _
  simp only [exp_sub_self (hs _), sub_zero, zero_mul, Finset.sum_const_zero, add_zero]
  rw [sum_expand _ hE, if_neg (show ¬ (512 + q.val) / 64 < 8 by omega)]
  congr 5
  exact Fin.ext (by show (512 + q.val) / 64 = 8 + q.val / 64; omega)

end

end Cert.Proof.Mix
-- ==== Proof.MixChunk.lean ====
module

public import proofs.«01_k».proof.Proof.MixConv
public import proofs.«01_k».proof.Proof.MixYb

@[expose] public section

set_option maxRecDepth 16384
set_option maxHeartbeats 2000000

/-! # What a chunk computes, in terms of the mixer's functions -/

open Idealize.ShloMosaic

namespace Cert.Proof.Mix

open Cert.KernelIdeal Cert.KernelIdeal.Gen Cert.Proof.Mixer

noncomputable section

/-- The head of a value column. -/
abbrev hd (q : Fin 512) : Fin 8 := ⟨q.val / 64, by omega⟩
/-- A value column's place in its head. -/
abbrev cl (q : Fin 512) : Fin 64 := ⟨q.val % 64, Nat.mod_lt _ (by decide)⟩

/-- A position counted from both ends. -/
theorem flip_pos (c : Fin 2) (l : Fin 128) : flip (pos (Fin.rev c) (Fin.rev l)) = pos c l := by
  refine Fin.ext ?_
  show 255 - ((2 - (c.val + 1)) * 128 + (128 - (l.val + 1))) = c.val * 128 + l.val
  omega

/-- A sum over positions from the end. -/
theorem sum_rev (f : Fin 128 → EReal) : ∑ u, f u = ∑ u, f (Fin.rev u) := (Equiv.sum_comp Fin.revPerm f).symm

section Slab

variable {A : Args} {w : Fin 8} {M : MixIn Ideal} (R : Reads A w M) (k : Fin k0_t2_loop.trips)
include R

/-- The step sizes of the forward scan. -/
theorem dt_fwd (l : Fin 128) (h : Fin 8) (hh : h.val < 128) : M.fwd.dt k (ix2 l ⟨h.val, hh⟩) = (fwd A (sqk w k)).dt (pos (ck k) l) h := by
  refine (congrArg (fun j => M.fwd.dt k (ix2 l j)) (Fin.ext ?_)).trans (dt_apply R k l 0 h (by show 0 * 8 + h.val < 128; omega))
  show h.val = 0 * 8 + h.val
  omega

/-- The step sizes of the backward scan. -/
theorem dt_bwd (l : Fin 128) (h : Fin 8) (hh : 8 + h.val < 128) :
    M.fwd.dt k (ix2 l ⟨8 + h.val, hh⟩) = (bwd A (sqk w k)).dt (pos (Fin.rev (ck k)) (Fin.rev l)) h := by
  refine (congrArg (fun j => M.fwd.dt k (ix2 l j)) (Fin.ext ?_)).trans ((dt_apply R k l 1 h (by show 1 * 8 + h.val < 128; omega)).trans ?_)
  · show 8 + h.val = 1 * 8 + h.val
    omega
  · show _ = dt A (sqk w k) 1 (flip (pos (Fin.rev (ck k)) (Fin.rev l))) h
    rw [flip_pos]

/-- The decay rates of the forward scan. -/
theorem rate_fwd (h : Fin 8) (hh : h.val < 128) : M.fwd.v25 (ix2 0 ⟨h.val, hh⟩) = (fwd A (sqk w k)).a h := by
  refine (congrArg (fun j => M.fwd.v25 (ix2 0 j)) (Fin.ext ?_)).trans (rate_apply R 0 h (by show 0 * 8 + h.val < 128; omega))
  show h.val = 0 * 8 + h.val
  omega

/-- The decay rates of the backward scan. -/
theorem rate_bwd (h : Fin 8) (hh : 8 + h.val < 128) : M.fwd.v25 (ix2 0 ⟨8 + h.val, hh⟩) = (bwd A (sqk w k)).a h := by
  refine (congrArg (fun j => M.fwd.v25 (ix2 0 j)) (Fin.ext ?_)).trans (rate_apply R 1 h (by show 1 * 8 + h.val < 128; omega))
  show 8 + h.val = 1 * 8 + h.val
  omega

/-- The program's lower triangle. -/
theorem tri_low (l u : Fin 128) : part M.fwd.a13 ![0, 0] S128x128.size inb_S128x128_S128x128_0_0 (ix2 l u) = if u ≤ l then (1 : EReal) else 0 :=
  (part_ix2 M.a13 _ _ l u l u (Nat.zero_add _) (Nat.zero_add _)).trans (R.r13 l u)

/-- The program's upper triangle. -/
theorem tri_up (l u : Fin 128) : part M.fwd.a14 ![0, 0] S128x128.size inb_S128x128_S128x128_0_0 (ix2 l u) = if l ≤ u then (1 : EReal) else 0 :=
  (part_ix2 M.a14 _ _ l u l u (Nat.zero_add _) (Nat.zero_add _)).trans (R.r14 l u)

/-- The program's head expansion. -/
theorem exp_apply (j : Fin 128) (q : Fin 1024) : M.fwd.expand (ix2 j q) = if j = lane q then (1 : EReal) else 0 :=
  (part_ix2 M.a15 _ _ j q j q (Nat.zero_add _) (Nat.zero_add _)).trans (R.r15 j q)

/-- No running sum of a chunk is positive. -/
theorem e_nonpos (l j : Fin 128) : M.fwd.e k (ix2 l j) ≤ 0 :=
  cumE_nonpos M.fwd.v25 (M.fwd.dt k) _ _ M.fwd.v26 rfl (tri_low R) (tri_up R) (dt_nonneg (M := M) k) (rate_nonpos (M := M)) l j

/-- The running sums of the forward scan. -/
theorem e_fwd (l : Fin 128) (h : Fin 8) (hh : h.val < 128) : M.fwd.e k (ix2 l ⟨h.val, hh⟩) = (fwd A (sqk w k)).cs h (ck k) l := by
  refine (cumE_apply M.fwd.v25 (M.fwd.dt k) _ _ M.fwd.v26 rfl (tri_low R) (tri_up R) (dt_nonneg (M := M) k) (rate_nonpos (M := M)) l _).trans ?_
  rw [if_pos (show h.val < 8 from h.isLt)]
  unfold Scan.cs
  simp only [dt_fwd R k, rate_fwd R k]

/-- The running sums of the backward scan. -/
theorem e_bwd (l : Fin 128) (h : Fin 8) (hh : 8 + h.val < 128) :
    M.fwd.e k (ix2 l ⟨8 + h.val, hh⟩) = (bwd A (sqk w k)).cs h (Fin.rev (ck k)) (Fin.rev l) := by
  refine (cumE_apply M.fwd.v25 (M.fwd.dt k) _ _ M.fwd.v26 rfl (tri_low R) (tri_up R) (dt_nonneg (M := M) k) (rate_nonpos (M := M)) l _).trans ?_
  rw [if_neg (show ¬ 8 + h.val < 8 by omega)]
  unfold Scan.cs
  rw [sum_rev (fun u => if u ≤ Fin.rev l then _ else _)]
  simp only [dt_bwd R k, rate_bwd R k, Fin.rev_le_rev]

/-- A chunk's values. -/
theorem xs_eq (l : Fin 128) (q : Fin 512) : M.fwd.xs k (ix2 l q) = M.fwd.xc k (ix2 l ⟨q.val, by omega⟩) := by
  unfold FwdIn.xs FwdIn.xc
  pointwise [k0_pay27, k0_pay26]

/-- A chunk's values, by head. -/
theorem xs_fwd (l : Fin 128) (q : Fin 512) : M.fwd.xs k (ix2 l q) = (fwd A (sqk w k)).x (pos (ck k) l) (hd q) (cl q) := by
  rw [xs_eq R k, xc_apply R k]
  refine congrArg (xc A _ _) (Fin.ext ?_)
  show q.val = q.val / 64 * 64 + q.val % 64
  omega

/-- A chunk's values, by head, from the end. -/
theorem xs_bwd (l : Fin 128) (q : Fin 512) :
    M.fwd.xs k (ix2 l q) = (bwd A (sqk w k)).x (pos (Fin.rev (ck k)) (Fin.rev l)) (hd q) (cl q) := by
  refine (xs_fwd R k l q).trans ?_
  show xv A _ (pos (ck k) l) _ _ = xv A _ (flip (pos (Fin.rev (ck k)) (Fin.rev l))) _ _
  rw [flip_pos]

/-- A chunk's projections. -/
theorem bc_eq (l : Fin 128) (j : Fin 512) : M.fwd.bc k (ix2 l j) = xc A (sqk w k) (pos (ck k) l) ⟨512 + j.val, by omega⟩ := by
  rw [← xc_apply R k]
  unfold FwdIn.bc FwdIn.xc
  pointwise [k0_pay28]

/-- The first projection. -/
theorem b_fwd (l : Fin 128) (g : Fin 2) (n : Fin 128) (h : g.val * 128 + n.val < 512) :
    M.fwd.bc k (ix2 l ⟨g.val * 128 + n.val, h⟩) = (fwd A (sqk w k)).bm (pos (ck k) l) g n := bc_eq R k l _

/-- The second projection. -/
theorem c_fwd (l : Fin 128) (g : Fin 2) (n : Fin 128) (h : 256 + (g.val * 128 + n.val) < 512) :
    M.fwd.bc k (ix2 l ⟨256 + (g.val * 128 + n.val), h⟩) = (fwd A (sqk w k)).cm (pos (ck k) l) g n := by
  refine (bc_eq R k l _).trans (congrArg (xc A _ _) (Fin.ext ?_))
  show 512 + (256 + (g.val * 128 + n.val)) = 768 + (g.val * 128 + n.val)
  omega

omit R in
/-- The first projection from the end. -/
theorem bm_flip (l : Fin 128) (g : Fin 2) (n : Fin 128) :
    (bwd A (sqk w k)).bm (pos (Fin.rev (ck k)) (Fin.rev l)) g n = (fwd A (sqk w k)).bm (pos (ck k) l) g n := by
  show bv A _ (flip (pos (Fin.rev (ck k)) (Fin.rev l))) _ _ = bv A _ (pos (ck k) l) _ _
  rw [flip_pos]

omit R in
/-- The second projection from the end. -/
theorem cm_flip (l : Fin 128) (g : Fin 2) (n : Fin 128) :
    (bwd A (sqk w k)).cm (pos (Fin.rev (ck k)) (Fin.rev l)) g n = (fwd A (sqk w k)).cm (pos (ck k) l) g n := by
  show cv A _ (flip (pos (Fin.rev (ck k)) (Fin.rev l))) _ _ = cv A _ (pos (ck k) l) _ _
  rw [flip_pos]

/-! ## The states -/

/-- The projection a value column's state uses. -/
theorem b_col (u n : Fin 128) (q : Fin 512) : M.fwd.xc k (ix2 u (bcol q n)) = (fwd A (sqk w k)).bm (pos (ck k) u) (grp (hd q)) n := by
  rw [xc_apply R k]
  refine congrArg (xc A _ _) (Fin.ext ?_)
  show 512 + (q.val / 256 * 128 + n.val) = 512 + (q.val / 64 / 4 * 128 + n.val)
  omega

/-- The values weighted for the state a chunk adds, forward. -/
theorem wf_apply (u : Fin 128) (q : Fin 512) :
    M.fwd.wf k (ix2 u q) = (fwd A (sqk w k)).x (pos (ck k) u) (hd q) (cl q) * ((fwd A (sqk w k)).dt (pos (ck k) u) (hd q)
      * Ideal.exp ((fwd A (sqk w k)).cs (hd q) (ck k) 127 - (fwd A (sqk w k)).cs (hd q) (ck k) u)) := by
  have hx : k0_pay26 (M.fwd.taps01 k) (M.fwd.tap2 k) M.fwd.bias (ix2 u q) = (fwd A (sqk w k)).x (pos (ck k) u) (hd q) (cl q) := by
    rw [← xs_fwd R k]
    unfold FwdIn.xs
    pointwise [k0_pay27]
  have hw := weight_apply M.fwd.v25 (M.fwd.dt k) (part M.fwd.a13 ![0, 0] S128x128.size inb_S128x128_S128x128_0_0)
    (part M.fwd.a14 ![0, 0] S128x128.size inb_S128x128_S128x128_0_0) M.fwd.expand M.fwd.v26 M.fwd.v27 (exp_apply R) rfl u ⟨q.val, by omega⟩
  rw [if_pos (show q.val < 512 from q.isLt)] at hw
  rw [← e_fwd R k 127 (hd q) (by show q.val / 64 < 128; omega), ← e_fwd R k u (hd q) (by show q.val / 64 < 128; omega),
    ← dt_fwd R k u (hd q) (by show q.val / 64 < 128; omega), ← hx]
  refine Eq.trans ?_ (congrArg (_ * ·) hw)
  unfold FwdIn.wf
  pointwise [k0_pay46]

/-- The values weighted for the state a chunk adds, backward. -/
theorem wb_apply (u : Fin 128) (q : Fin 512) :
    M.fwd.wb k (ix2 u q) = (bwd A (sqk w k)).x (pos (Fin.rev (ck k)) (Fin.rev u)) (hd q) (cl q)
      * ((bwd A (sqk w k)).dt (pos (Fin.rev (ck k)) (Fin.rev u)) (hd q)
      * Ideal.exp ((bwd A (sqk w k)).cs (hd q) (Fin.rev (ck k)) 127 - (bwd A (sqk w k)).cs (hd q) (Fin.rev (ck k)) (Fin.rev u))) := by
  have hx : k0_pay26 (M.fwd.taps01 k) (M.fwd.tap2 k) M.fwd.bias (ix2 u q)
      = (bwd A (sqk w k)).x (pos (Fin.rev (ck k)) (Fin.rev u)) (hd q) (cl q) := by
    rw [← xs_bwd R k]
    unfold FwdIn.xs
    pointwise [k0_pay27]
  have hw := weight_apply M.fwd.v25 (M.fwd.dt k) (part M.fwd.a13 ![0, 0] S128x128.size inb_S128x128_S128x128_0_0)
    (part M.fwd.a14 ![0, 0] S128x128.size inb_S128x128_S128x128_0_0) M.fwd.expand M.fwd.v26 M.fwd.v27 (exp_apply R) rfl u ⟨512 + q.val, by omega⟩
  rw [if_neg (show ¬ 512 + q.val < 512 by omega)] at hw
  have el : lane ⟨512 + q.val, by omega⟩ = ⟨8 + (hd q).val, by show 8 + q.val / 64 < 128; omega⟩ := Fin.ext (by
    show (512 + q.val) / 64 = 8 + q.val / 64
    omega)
  rw [el] at hw
  have e0 : (127 : Fin 128) = Fin.rev 0 := rfl
  rw [e0, ← e_bwd R k 0 (hd q) (by show 8 + q.val / 64 < 128; omega), ← e_bwd R k u (hd q) (by show 8 + q.val / 64 < 128; omega),
    ← dt_bwd R k u (hd q) (by show 8 + q.val / 64 < 128; omega), ← hx]
  refine Eq.trans ?_ (congrArg (_ * ·) hw)
  unfold FwdIn.wb
  pointwise [k0_pay47]

/-- The state the chunk adds to the backward scan. -/
theorem csb_apply (n : Fin 128) (q : Fin 512) :
    M.fwd.csb k (ix3 0 n q) = (bwd A (sqk w k)).cst (Fin.rev (ck k)) (hd q) (cl q) n := by
  refine (csb_pay _ _ n q).trans ?_
  unfold Scan.cst
  rw [sum_rev (fun s => _ * _)]
  refine Finset.sum_congr rfl fun u _ => ?_
  rw [b_col R k, wb_apply R k, ← bm_flip k (Fin.rev u), Fin.rev_rev, mul_comm, mul_assoc (_ : EReal) (_ : EReal) (Ideal.exp _)]

/-- The decay of the whole chunk. -/
theorem dec_apply (q : Fin 512) : M.fwd.dec k (ix2 0 ⟨q.val, by omega⟩) = Ideal.exp ((fwd A (sqk w k)).cs (hd q) (ck k) 127) := by
  refine (decay_apply M.fwd.v25 (M.fwd.dt k) _ _ M.fwd.expand M.fwd.v26 M.fwd.v27 (exp_apply R) rfl (e_nonpos R k) ⟨q.val, by omega⟩).trans ?_
  rw [if_pos (show q.val < 512 from q.isLt), ← e_fwd R k 127 (hd q) (by show q.val / 64 < 128; omega)]

/-- The forward state after a chunk. -/
theorem pay8_apply (s : Vec Ideal S128x512 .f32) (n : Fin 128) (q : Fin 512) :
    k0_pay8 (M.fwd.xc k) (M.fwd.dec k) (M.fwd.wf k) (k0_pay48 (M.fwd.xc k)) s (ix2 n q)
      = s (ix2 n q) * Ideal.exp ((fwd A (sqk w k)).cs (hd q) (ck k) 127) + (fwd A (sqk w k)).cst (ck k) (hd q) (cl q) n := by
  refine (step_pay _ _ _ s n q).trans ?_
  rw [dec_apply R k]
  refine congrArg (fun z => s (ix2 n q) * Ideal.exp ((fwd A (sqk w k)).cs (hd q) (ck k) 127) + z) ?_
  unfold Scan.cst
  refine Finset.sum_congr rfl fun u _ => ?_
  rw [b_col R k, wf_apply R k, mul_comm, mul_assoc (_ : EReal) (_ : EReal) (Ideal.exp _)]

/-! ## The states a chunk starts from and leaves -/

omit R in
/-- The chunk before is of the same sequence. -/
theorem sqk_prev (h : ¬ k.val % 2 = 0) : sqk w (FwdIn.prev k) = sqk w k := Fin.ext (by
  show 4 * w.val + (k.val - 1) / 2 = 4 * w.val + k.val / 2
  omega)

/-- The forward state a chunk starts from. -/
theorem sin_apply (n : Fin 128) (q : Fin 512) : M.fwd.sin k (ix2 n q) = (fwd A (sqk w k)).start (ck k) (hd q) (cl q) n := by
  by_cases h : k.val % 2 = 0
  · rw [FwdIn.sin_even _ _ h]
    unfold Scan.start
    rw [if_pos (show ck k = 0 from Fin.ext h)]
    pointwise [k0_pay6]
  · rw [FwdIn.sin_odd _ _ h]
    unfold Scan.start
    rw [if_neg (show ¬ ck k = 0 from fun e => h (congrArg Fin.val e))]
    have e : ck (FwdIn.prev k) = 0 := Fin.ext (by show (k.val - 1) % 2 = 0; omega)
    have e8 := pay8_apply R (FwdIn.prev k) (k0_pay6 (F := Ideal)) n q
    rw [sqk_prev k h, e] at e8
    refine Eq.trans ?_ (e8.trans ?_)
    · unfold FwdIn.step
      pointwise [k0_pay9]
    · have e6 : (k0_pay6 : FVec Ideal S128x512 .f32) (ix2 n q) = 0 := by pointwise [k0_pay6]
      rw [e6, zero_mul, zero_add]

/-- The forward state after a sequence's second chunk. -/
theorem fin_apply (h : k.val % 2 = 1) (j : Fin 512) (n : Fin 128) :
    M.fwd.fin k (M.fwd.sin k) (ix3 0 j n) = (fwd A (sqk w k)).fin (hd j) (cl j) n := by
  have e1 : ck k = 1 := Fin.ext h
  have e8 := pay8_apply R k (M.fwd.sin k) n j
  rw [sin_apply R k, e1] at e8
  refine Eq.trans ?_ (e8.trans ?_)
  · unfold FwdIn.fin
    pointwise [k0_pay10]
  · unfold Scan.fin Scan.start
    rw [if_neg (by decide), mul_comm]

end Slab

end

end Cert.Proof.Mix
-- ==== Proof.MixOut.lean ====
module

public import proofs.«01_k».proof.Proof.MixChunk

@[expose] public section

set_option maxRecDepth 16384
set_option maxHeartbeats 2000000

/-! # What a slab leaves: the output rows and both scans' final states -/

open Idealize.ShloMosaic

namespace Cert.Proof.Mix

open Cert.KernelIdeal Cert.KernelIdeal.Gen Cert.Proof.Mixer

noncomputable section

/-- A position counted from the other end. -/
theorem pos_flip (c : Fin 2) (l : Fin 128) : flip (pos c l) = pos (Fin.rev c) (Fin.rev l) := by
  refine Fin.ext ?_
  show 255 - (c.val * 128 + l.val) = (2 - (c.val + 1)) * 128 + (128 - (l.val + 1))
  omega

/-- A scan's output at a place of a chunk. -/
theorem yat_pos (S : Scan) (c : Fin 2) (l : Fin 128) (h : Fin 8) (p : Fin 64) : yat S (pos c l) h p = S.y c l h p := by
  refine congrArg₂ (fun a b => S.y a b h p) (Fin.ext ?_) (Fin.ext ?_)
  · show (c.val * 128 + l.val) / 128 = c.val
    omega
  · show (c.val * 128 + l.val) % 128 = l.val
    omega

section Slab

variable {A : Args} {w : Fin 8} {M : MixIn Ideal} (R : Reads A w M) (k : Fin k0_t3_loop.trips)
include R

/-- The backward state after a chunk. -/
theorem v418_eq (s : Vec Ideal S128x512 .f32) (n : Fin 128) (q : Fin 512) :
    (M.bwd k).v418 s (ix2 n q)
      = s (ix2 n q) * Ideal.exp ((bwd A (sqk w (MixIn.rev k))).cs (hd q) (Fin.rev (ck (MixIn.rev k))) 127)
        + (bwd A (sqk w (MixIn.rev k))).cst (Fin.rev (ck (MixIn.rev k))) (hd q) (cl q) n := by
  refine (v418_apply (M.bwd k) s (exp_apply R) rfl (e_nonpos R (MixIn.rev k)) n q).trans ?_
  have h1 := e_bwd R (MixIn.rev k) 0 (hd q) (by show 8 + q.val / 64 < 128; omega)
  have h2 := csb_apply R (MixIn.rev k) n q
  exact congrArg₂ (fun a b => s (ix2 n q) * Ideal.exp a + b) h1 h2

/-- The backward state a chunk starts from. -/
theorem bsin_apply (n : Fin 128) (q : Fin 512) :
    bwdSin M.bwd k (ix2 n q) = (bwd A (sqk w (MixIn.rev k))).start (Fin.rev (ck (MixIn.rev k))) (hd q) (cl q) n := by
  have hk : k.val < 8 := lt_of_lt_of_eq k.isLt t3_trips
  by_cases h : k.val % 2 = 0
  · rw [bwdSin_even _ _ h]
    unfold Scan.start
    rw [if_pos (show Fin.rev (ck (MixIn.rev k)) = 0 from Fin.ext (by show 2 - ((7 - k.val) % 2 + 1) = 0; omega))]
    pointwise [k0_pay49]
  · rw [bwdSin_odd _ _ h]
    unfold Scan.start
    rw [if_neg (show ¬ Fin.rev (ck (MixIn.rev k)) = 0 from fun e => by
      have e' : 2 - ((7 - k.val) % 2 + 1) = 0 := congrArg Fin.val e
      omega)]
    have e : Fin.rev (ck (MixIn.rev (bwdPrev k))) = 0 := Fin.ext (by show 2 - ((7 - (k.val - 1)) % 2 + 1) = 0; omega)
    have es : sqk w (MixIn.rev (bwdPrev k)) = sqk w (MixIn.rev k) := Fin.ext (by
      show 4 * w.val + (7 - (k.val - 1)) / 2 = 4 * w.val + (7 - k.val) / 2
      omega)
    have e8 := v418_eq R (bwdPrev k) (k0_pay49 (F := Ideal)) n q
    rw [es, e] at e8
    refine Eq.trans ?_ (e8.trans ?_)
    · unfold BwdIn.step
      pointwise [k0_pay14]
    · have e6 : (k0_pay49 : FVec Ideal S128x512 .f32) (ix2 n q) = 0 := by pointwise [k0_pay49]
      rw [e6, zero_mul, zero_add]

/-- The backward state after a sequence's first chunk. -/
theorem bfin_apply (h : (7 - k.val) % 2 = 0) (j : Fin 512) (n : Fin 128) :
    (M.bwd k).fin (bwdSin M.bwd k) (ix3 0 j n) = (bwd A (sqk w (MixIn.rev k))).fin (hd j) (cl j) n := by
  have e1 : Fin.rev (ck (MixIn.rev k)) = 1 := Fin.ext (by show 2 - ((7 - k.val) % 2 + 1) = 1; omega)
  have e8 := v418_eq R k (bwdSin M.bwd k) n j
  rw [bsin_apply R k, e1] at e8
  refine Eq.trans ?_ (e8.trans ?_)
  · unfold BwdIn.fin
    pointwise [k0_pay15]
  · unfold Scan.fin Scan.start
    rw [if_neg (by decide), mul_comm]

/-- The product of the two projections. -/
theorem gmat_eq (g : Fin 2) (l u : Fin 128) :
    gmat (M.bwd k) g l u = ∑ n : Fin 128, (fwd A (sqk w (MixIn.rev k))).cm (pos (ck (MixIn.rev k)) l) g n
      * (fwd A (sqk w (MixIn.rev k))).bm (pos (ck (MixIn.rev k)) u) g n := by
  unfold gmat
  refine Finset.sum_congr rfl fun n _ => ?_
  exact congrArg₂ (· * ·) (c_fwd R (MixIn.rev k) l g n (by omega)) (b_fwd R (MixIn.rev k) u g n (by omega))

/-- What the chunk's own positions contribute, forward. -/
theorem own_eq (l : Fin 128) (q : Fin 512) :
    own (M.bwd k) (hd q) l q = (fwd A (sqk w (MixIn.rev k))).ydiag (ck (MixIn.rev k)) l (hd q) (cl q) := by
  unfold own Scan.ydiag Scan.score
  refine Finset.sum_congr rfl fun u _ => ?_
  have hx : (M.bwd k).xs (ix2 u q) = _ := xs_fwd R (MixIn.rev k) u q
  have hd' : (M.bwd k).dt (ix2 u ⟨(hd q).val, by omega⟩) = _ := dt_fwd R (MixIn.rev k) u (hd q) (by omega)
  have h1 : (M.bwd k).e (ix2 l ⟨(hd q).val, by omega⟩) = _ := e_fwd R (MixIn.rev k) l (hd q) (by omega)
  have h2 : (M.bwd k).e (ix2 u ⟨(hd q).val, by omega⟩) = _ := e_fwd R (MixIn.rev k) u (hd q) (by omega)
  rw [gmat_eq R k, hx, hd', h1, h2]
  by_cases h : u ≤ l
  · rw [if_pos h, if_pos h, mul_comm]
  · rw [if_neg h, if_neg h, mul_zero, mul_zero]

/-- What the chunk's own positions contribute, backward. -/
theorem own'_eq (l : Fin 128) (q : Fin 512) :
    own' (M.bwd k) (hd q) l q = (bwd A (sqk w (MixIn.rev k))).ydiag (Fin.rev (ck (MixIn.rev k))) (Fin.rev l) (hd q) (cl q) := by
  unfold own' Scan.ydiag Scan.score
  rw [sum_rev (fun s => ((bwd A (sqk w (MixIn.rev k))).x _ _ _ * _) * _)]
  refine Finset.sum_congr rfl fun u _ => ?_
  have hx : (M.bwd k).xs (ix2 u q) = _ := xs_bwd R (MixIn.rev k) u q
  have hd' : (M.bwd k).dt (ix2 u ⟨8 + (hd q).val, by omega⟩) = _ := dt_bwd R (MixIn.rev k) u (hd q) (by omega)
  have h1 : (M.bwd k).e (ix2 l ⟨8 + (hd q).val, by omega⟩) = _ := e_bwd R (MixIn.rev k) l (hd q) (by omega)
  have h2 : (M.bwd k).e (ix2 u ⟨8 + (hd q).val, by omega⟩) = _ := e_bwd R (MixIn.rev k) u (hd q) (by omega)
  rw [gmat_eq R k, hx, hd', h1, h2]
  simp only [bm_flip, cm_flip, Fin.rev_le_rev]
  by_cases h : l ≤ u
  · rw [if_pos h, if_pos h, mul_comm]
  · rw [if_neg h, if_neg h, mul_zero, mul_zero]

/-- What the two states contribute. -/
theorem cross_eq (l : Fin 128) (q : Fin 512) :
    cross (M.bwd k) (bwdSin M.bwd k) (hd q) l q
      = (fwd A (sqk w (MixIn.rev k))).yoff (ck (MixIn.rev k)) l (hd q) (cl q)
        + (bwd A (sqk w (MixIn.rev k))).yoff (Fin.rev (ck (MixIn.rev k))) (Fin.rev l) (hd q) (cl q) := by
  unfold cross Scan.yoff
  have hc : ∀ n : Fin 128, (M.bwd k).bc (ix2 l ⟨256 + ((grp (hd q)).val * 128 + n.val), by omega⟩) = _ :=
    fun n => c_fwd R (MixIn.rev k) l (grp (hd q)) n (by omega)
  have h1 : (M.bwd k).e (ix2 l ⟨(hd q).val, by omega⟩) = _ := e_fwd R (MixIn.rev k) l (hd q) (by omega)
  have h2 : (M.bwd k).e (ix2 l ⟨8 + (hd q).val, by omega⟩) = _ := e_bwd R (MixIn.rev k) l (hd q) (by omega)
  have hs : ∀ n : Fin 128, (M.bwd k).sf (ix3 0 n q) = M.fwd.sin (MixIn.rev k) (ix2 n q) := fun n => by
    show k0_pay7 (M.fwd.sin (MixIn.rev k)) (ix3 0 n q) = _
    pointwise [k0_pay7]
  rw [h1, h2]
  simp only [hc, hs, sin_apply R (MixIn.rev k), bsin_apply R k, cm_flip]
  refine congrArg₂ (fun a b => a * _ + b * _) (Finset.sum_congr rfl fun n _ => mul_comm _ _) (Finset.sum_congr rfl fun n _ => mul_comm _ _)

/-- Both scans' output of a chunk. -/
theorem both_eq (l : Fin 128) (q : Fin 512) :
    both (M.bwd k) (bwdSin M.bwd k) (hd q) l q
      = yat (fwd A (sqk w (MixIn.rev k))) (pos (ck (MixIn.rev k)) l) (hd q) (cl q)
        + yat (bwd A (sqk w (MixIn.rev k))) (flip (pos (ck (MixIn.rev k)) l)) (hd q) (cl q) := by
  unfold both
  rw [cross_eq R k, own_eq R k, own'_eq R k, pos_flip, yat_pos, yat_pos]
  unfold Scan.y
  ac_rfl

/-- The scans' rows of a chunk, normalized. -/
theorem yb_eq (l : Fin 128) (q : Fin 512) :
    (M.bwd k).yb (bwdSin M.bwd k) (ix2 l q)
      = rms 1140850688#32 (yz A (sqk w (MixIn.rev k)) (pos (ck (MixIn.rev k)) l)) (fun j => A.x10 (ix2 0 j)) q := by
  refine (yb_apply (M.bwd k) _ rfl (exp_apply R) l q).trans ?_
  refine congrArg₂ (fun a b => rms 1140850688#32 a b q) (funext fun j => ?_) (funext fun j => ?_)
  · have hx : (M.bwd k).xs (ix2 l j) = _ := xs_fwd R (MixIn.rev k) l j
    have hs : (M.bwd k).skip (ix2 0 j) = A.x9 (ix2 0 (hd j)) :=
      (part_ix2 M.a10 _ _ 0 j 0 j rfl (Nat.zero_add _)).trans (R.r10 j (hd j).isLt)
    rw [z_apply R k, hs, hx]
    have hb := both_eq R k l j
    unfold yz yfull
    rw [← hb]
    rfl
  · exact (part_ix2 M.a11 _ _ 0 j 0 j rfl (Nat.zero_add _)).trans (R.r11 j)

omit k

/-- The chunk a row is in. -/
abbrev kk (y : Fin 1024) : Fin k0_t2_loop.trips := ⟨y.val / 128, by rw [t2_trips]; omega⟩
/-- A row's place in its chunk. -/
abbrev ll (y : Fin 1024) : Fin 128 := ⟨y.val % 128, Nat.mod_lt _ (by decide)⟩

/-- The mixed rows. -/
theorem g27_apply (j : ℕ) (hj : j < 4) (p : Fin 256) (y : Fin 1024) (h : y.val = 256 * j + p.val) (q : Fin 1024) :
    M.g27 (ix2 y q) = mix A (sq w j hj) p q := by
  have e1 : sq w j hj = sqk w (kk y) := Fin.ext (by show 4 * w.val + j = 4 * w.val + y.val / 128 / 2; omega)
  have e2 : p = pos (ck (kk y)) (ll y) := Fin.ext (by show p.val = y.val / 128 % 2 * 128 + y.val % 128; omega)
  rw [e1, e2]
  unfold MixIn.g27 mix
  by_cases hq : q.val < 512
  · refine (dif_pos hq).trans (Eq.trans ?_ (dif_pos hq).symm)
    exact ya_apply R (kk y) (ll y) ⟨q.val, hq⟩
  · refine (dif_neg hq).trans (Eq.trans ?_ (dif_neg hq).symm)
    have er : MixIn.rev (MixIn.trip (y.val / 128)) = kk y := Fin.ext (by show 7 - (7 - y.val / 128) = y.val / 128; omega)
    refine (yb_eq R (MixIn.trip (y.val / 128)) (ll y) ⟨q.val - 512, by omega⟩).trans ?_
    rw [er]

/-- The output rows. -/
theorem g16_apply (j : ℕ) (hj : j < 4) (p : Fin 256) (y : Fin 1024) (h : y.val = 256 * j + p.val) (l : Fin 1024) :
    M.g16 (ix2 y l) = out A (sq w j hj) p l := by
  have e : y.val / 256 = j := by omega
  have e' : (⟨y.val % 256, Nat.mod_lt _ (by decide)⟩ : Fin 256) = p := Fin.ext (by show y.val % 256 = p.val; omega)
  subst e e'
  have ht : y.val / 256 < k0_t4_loop.trips := by rw [t4_trips]; exact hj
  show outBlk _ M.g27 M.a12 M.a1 ⟨y.val / 256, ht⟩ (ix2 ⟨y.val % 256, _⟩ l) = _
  unfold outBlk
  pointwise [k0_pay16, k0_pay103]
  refine congrArg₂ (· + ·) ?_ (congrArg₂ (· * ·) ?_ (Finset.sum_congr rfl fun q _ => congrArg₂ (· * ·) ?_ ?_))
  · rw [← R.r1 (y.val / 256) hj ⟨y.val % 256, Nat.mod_lt _ (by decide)⟩ l (by show 256 * (y.val / 256) + y.val % 256 < 1024; omega)]
    exact part_ix2 M.a1 _ _ _ l _ _ (by rw [k0_off18_eq]; rfl) (by rw [k0_off18_eq]; exact Nat.zero_add _)
  · rw [← R.r2]
    exact part_ix3 M.a2 _ _ 0 0 l 0 2 l rfl rfl (Nat.zero_add _)
  · rw [← g27_apply R (y.val / 256) hj ⟨y.val % 256, Nat.mod_lt _ (by decide)⟩ y h q]
    exact part_ix2 M.g27 _ _ _ q _ _ (by rw [k0_off18_eq]; exact h.symm) (by rw [k0_off18_eq]; exact Nat.zero_add _)
  · rw [← R.r12]
    exact part_ix2 M.a12 _ _ q l q l (Nat.zero_add _) (Nat.zero_add _)

/-- The forward scan's final states. -/
theorem g17_apply (j : Fin 4) (i : Fin 512) (n : Fin 128) : M.g17 (ix3 j i n) = (fwd A (sq w j.val j.isLt)).fin (hd i) (cl i) n := by
  have ht : 2 * j.val + 1 < k0_t2_loop.trips := by rw [t2_trips]; omega
  refine (fin_apply R ⟨2 * j.val + 1, ht⟩ (by show (2 * j.val + 1) % 2 = 1; omega) i n).trans ?_
  refine congrArg (fun b => (fwd A b).fin (hd i) (cl i) n) (Fin.ext ?_)
  show 4 * w.val + (2 * j.val + 1) / 2 = 4 * w.val + j.val
  omega

/-- The backward scan's final states. -/
theorem g18_apply (j : Fin 4) (i : Fin 512) (n : Fin 128) : M.g18 (ix3 j i n) = (bwd A (sq w j.val j.isLt)).fin (hd i) (cl i) n := by
  refine (bfin_apply R (MixIn.trip (2 * j.val)) (by show (7 - (7 - 2 * j.val)) % 2 = 0; omega) i n).trans ?_
  refine congrArg (fun b => (bwd A b).fin (hd i) (cl i) n) (Fin.ext ?_)
  show 4 * w.val + (7 - (7 - 2 * j.val)) / 2 = 4 * w.val + j.val
  omega

end Slab

end

end Cert.Proof.Mix
-- ==== Proof.MixArrays.lean ====
module

public import proofs.«01_k».proof.Proof.MixBlocks
public import proofs.«01_k».proof.Proof.MixOut

@[expose] public section

set_option maxRecDepth 16384
set_option maxHeartbeats 2000000

/-! # The mixer's result arrays -/

open Idealize.ShloMosaic Idealize.ShloMosaic.TcCoe

namespace Cert.Proof.Mix

open Cert.KernelIdeal Cert.KernelIdeal.Gen Cert.Proof.Mixer

noncomputable section

/-- The index of each result's block at a grid point. -/
theorem idx_out : ∀ t : Fin cfg0.N,
    win0_15.index t = ![t.val, 0] ∧ win0_16.index t = ![t.val, 0, 0] ∧ win0_17.index t = ![t.val, 0, 0] := by
  decide +kernel

/-- The rows the mixer leaves. -/
def rows (A : Args) : FVec Ideal S8192x1024 .f32 := fun i =>
  out A ⟨(i 0).val / 256, Nat.div_lt_of_lt_mul (i 0).isLt⟩ ⟨(i 0).val % 256, Nat.mod_lt _ (by decide)⟩ (i 1)

/-- The forward scans' final states. -/
def lastF (A : Args) : FVec Ideal S32x512x128 .f32 := fun i => (fwd A (i 0)).fin (hd (i 1)) (cl (i 1)) (i 2)

/-- The backward scans' final states. -/
def lastB (A : Args) : FVec Ideal S32x512x128 .f32 := fun i => (bwd A (i 0)).fin (hd (i 1)) (cl (i 1)) (i 2)

/-- A row of the result, by its sequence and position. -/
theorem rows_at (A : Args) (b : Fin 32) (p : Fin 256) (l : Fin 1024) (i : Fin 8192) (h : i.val = 256 * b.val + p.val) :
    rows A (ix2 i l) = out A b p l := by
  refine congrArg₂ (fun b p => out A b p l) (Fin.ext ?_) (Fin.ext ?_)
  · show i.val / 256 = b.val
    omega
  · show i.val % 256 = p.val
    omega

variable (m : (ℓ : Loc nD τ sig) → Buf (Elt Ideal) ℓ) (c : Dev nD) (t : Fin cfg0.N)

/-- What a point writes back of the rows. -/
theorem flushed15 : (dats m 0 c).flushed 15 t = ((cfg0.win 15).blk t).view.read (Elt Ideal) (rows (args m c)) := by
  show (cfg0.win 15).cut (grid0.coords t) ((dats m 0 c).after 15 t) = _
  rw [after0_15]
  funext y
  have h0 : (y 0).val < 1024 := (y 0).isLt
  have h1 : (y 1).val < 1024 := (y 1).isLt
  have ht := n8 t
  have ex : (cfg0.win 15).xinj (grid0.coords t) y = ix2 (⟨(y 0).val, h0⟩ : Fin 1024) (⟨(y 1).val, h1⟩ : Fin 1024) := by
    funext a; apply Fin.ext
    match a with
    | ⟨0, _⟩ => rfl
    | ⟨1, _⟩ => rfl
  have ee : ((cfg0.win 15).blk t).view.emb y = ix2 (⟨t.val * 1024 + (y 0).val, by omega⟩ : Fin 8192) (⟨(y 1).val, h1⟩ : Fin 1024) := by
    funext a; apply Fin.ext
    match a with
    | ⟨0, _⟩ => show win0_15.index t 0 * 1024 + 1 * (y 0).val = t.val * 1024 + (y 0).val; rw [(idx_out t).1]; show t.val * 1024 + 1 * (y 0).val = _; omega
    | ⟨1, _⟩ => show win0_15.index t 1 * 1024 + 1 * (y 1).val = (y 1).val; rw [(idx_out t).1]; show 0 * 1024 + 1 * (y 1).val = _; omega
  show (inAt m c t).g16 ((cfg0.win 15).xinj (grid0.coords t) y) = rows (args m c) (((cfg0.win 15).blk t).view.emb y)
  rw [ex, ee]
  have hj : (y 0).val / 256 < 4 := by omega
  refine (g16_apply (reads m c t) ((y 0).val / 256) hj ⟨(y 0).val % 256, Nat.mod_lt _ (by decide)⟩ ⟨(y 0).val, h0⟩ ?_ ⟨(y 1).val, h1⟩).trans
    (rows_at _ _ _ _ _ ?_).symm
  · show (y 0).val = 256 * ((y 0).val / 256) + (y 0).val % 256
    omega
  · show t.val * 1024 + (y 0).val = 256 * (4 * t.val + (y 0).val / 256) + (y 0).val % 256
    omega

/-- What a point writes back of the forward states. -/
theorem flushed16 : (dats m 0 c).flushed 16 t = ((cfg0.win 16).blk t).view.read (Elt Ideal) (lastF (args m c)) := by
  show (cfg0.win 16).cut (grid0.coords t) ((dats m 0 c).after 16 t) = _
  rw [after0_16]
  funext y
  have h0 : (y 0).val < 4 := (y 0).isLt
  have h1 : (y 1).val < 512 := (y 1).isLt
  have h2 : (y 2).val < 128 := (y 2).isLt
  have ht := n8 t
  have ex : (cfg0.win 16).xinj (grid0.coords t) y = ix3 (⟨(y 0).val, h0⟩ : Fin 4) (⟨(y 1).val, h1⟩ : Fin 512) (⟨(y 2).val, h2⟩ : Fin 128) := by
    funext a; apply Fin.ext
    match a with
    | ⟨0, _⟩ => rfl
    | ⟨1, _⟩ => rfl
    | ⟨2, _⟩ => rfl
  have ee : ((cfg0.win 16).blk t).view.emb y = ix3 (⟨4 * t.val + (y 0).val, by omega⟩ : Fin 32) (⟨(y 1).val, h1⟩ : Fin 512) (⟨(y 2).val, h2⟩ : Fin 128) := by
    funext a; apply Fin.ext
    match a with
    | ⟨0, _⟩ => show win0_16.index t 0 * 4 + 1 * (y 0).val = 4 * t.val + (y 0).val; rw [(idx_out t).2.1]; show t.val * 4 + 1 * (y 0).val = _; omega
    | ⟨1, _⟩ => show win0_16.index t 1 * 512 + 1 * (y 1).val = (y 1).val; rw [(idx_out t).2.1]; show 0 * 512 + 1 * (y 1).val = _; omega
    | ⟨2, _⟩ => show win0_16.index t 2 * 128 + 1 * (y 2).val = (y 2).val; rw [(idx_out t).2.1]; show 0 * 128 + 1 * (y 2).val = _; omega
  show (inAt m c t).g17 ((cfg0.win 16).xinj (grid0.coords t) y) = lastF (args m c) (((cfg0.win 16).blk t).view.emb y)
  rw [ex, ee]
  exact g17_apply (reads m c t) _ _ _

/-- What a point writes back of the backward states. -/
theorem flushed17 : (dats m 0 c).flushed 17 t = ((cfg0.win 17).blk t).view.read (Elt Ideal) (lastB (args m c)) := by
  show (cfg0.win 17).cut (grid0.coords t) ((dats m 0 c).after 17 t) = _
  rw [after0_17]
  funext y
  have h0 : (y 0).val < 4 := (y 0).isLt
  have h1 : (y 1).val < 512 := (y 1).isLt
  have h2 : (y 2).val < 128 := (y 2).isLt
  have ht := n8 t
  have ex : (cfg0.win 17).xinj (grid0.coords t) y = ix3 (⟨(y 0).val, h0⟩ : Fin 4) (⟨(y 1).val, h1⟩ : Fin 512) (⟨(y 2).val, h2⟩ : Fin 128) := by
    funext a; apply Fin.ext
    match a with
    | ⟨0, _⟩ => rfl
    | ⟨1, _⟩ => rfl
    | ⟨2, _⟩ => rfl
  have ee : ((cfg0.win 17).blk t).view.emb y = ix3 (⟨4 * t.val + (y 0).val, by omega⟩ : Fin 32) (⟨(y 1).val, h1⟩ : Fin 512) (⟨(y 2).val, h2⟩ : Fin 128) := by
    funext a; apply Fin.ext
    match a with
    | ⟨0, _⟩ => show win0_17.index t 0 * 4 + 1 * (y 0).val = 4 * t.val + (y 0).val; rw [(idx_out t).2.2]; show t.val * 4 + 1 * (y 0).val = _; omega
    | ⟨1, _⟩ => show win0_17.index t 1 * 512 + 1 * (y 1).val = (y 1).val; rw [(idx_out t).2.2]; show 0 * 512 + 1 * (y 1).val = _; omega
    | ⟨2, _⟩ => show win0_17.index t 2 * 128 + 1 * (y 2).val = (y 2).val; rw [(idx_out t).2.2]; show 0 * 128 + 1 * (y 2).val = _; omega
  show (inAt m c t).g18 ((cfg0.win 17).xinj (grid0.coords t) y) = lastB (args m c) (((cfg0.win 17).blk t).view.emb y)
  rw [ex, ee]
  exact g18_apply (reads m c t) _ _ _

/-- The array of rows after the run. -/
theorem final15 : (dats m 0 c).arrAt 15 cfg0.N = rows (args m c) :=
  (dats m 0 c).arrAt_eq_of_cover 15 _ (fun t _ => flushed15 m c t) (fun (i : S8192x1024.Idx) => by
    have h0 : (i 0).val < 8192 := (i 0).isLt
    have h1 : (i 1).val < 1024 := (i 1).isLt
    have hq : (i 0).val / 1024 < 8 := by omega
    have hN : (i 0).val / 1024 < cfg0.N := lt_of_lt_of_eq hq N_0.symm
    refine ⟨⟨(i 0).val / 1024, hN⟩, flush0_15 _, ?_⟩
    show i ∈ ((View.whole main_v46_0).slice (win0_15.rect ⟨(i 0).val / 1024, hN⟩)).set
    rw [View.set_slice_whole, Rect.mem_set_unit]
    have hi := (idx_out ⟨(i 0).val / 1024, hN⟩).1
    intro a
    match a with
    | ⟨0, _⟩ =>
      show win0_15.index _ 0 * 1024 ≤ (i 0).val ∧ (i 0).val < win0_15.index _ 0 * 1024 + 1024
      rw [hi]
      show (i 0).val / 1024 * 1024 ≤ (i 0).val ∧ (i 0).val < (i 0).val / 1024 * 1024 + 1024
      omega
    | ⟨1, _⟩ =>
      show win0_15.index _ 1 * 1024 ≤ (i 1).val ∧ (i 1).val < win0_15.index _ 1 * 1024 + 1024
      rw [hi]
      show 0 * 1024 ≤ (i 1).val ∧ (i 1).val < 0 * 1024 + 1024
      omega)

/-- The array of forward states after the run. -/
theorem final16 : (dats m 0 c).arrAt 16 cfg0.N = lastF (args m c) :=
  (dats m 0 c).arrAt_eq_of_cover 16 _ (fun t _ => flushed16 m c t) (fun (i : S32x512x128.Idx) => by
    have h0 : (i 0).val < 32 := (i 0).isLt
    have h1 : (i 1).val < 512 := (i 1).isLt
    have h2 : (i 2).val < 128 := (i 2).isLt
    have hq : (i 0).val / 4 < 8 := by omega
    have hN : (i 0).val / 4 < cfg0.N := lt_of_lt_of_eq hq N_0.symm
    refine ⟨⟨(i 0).val / 4, hN⟩, flush0_16 _, ?_⟩
    show i ∈ ((View.whole main_v46_1).slice (win0_16.rect ⟨(i 0).val / 4, hN⟩)).set
    rw [View.set_slice_whole, Rect.mem_set_unit]
    have hi := (idx_out ⟨(i 0).val / 4, hN⟩).2.1
    intro a
    match a with
    | ⟨0, _⟩ =>
      show win0_16.index _ 0 * 4 ≤ (i 0).val ∧ (i 0).val < win0_16.index _ 0 * 4 + 4
      rw [hi]
      show (i 0).val / 4 * 4 ≤ (i 0).val ∧ (i 0).val < (i 0).val / 4 * 4 + 4
      omega
    | ⟨1, _⟩ =>
      show win0_16.index _ 1 * 512 ≤ (i 1).val ∧ (i 1).val < win0_16.index _ 1 * 512 + 512
      rw [hi]
      show 0 * 512 ≤ (i 1).val ∧ (i 1).val < 0 * 512 + 512
      omega
    | ⟨2, _⟩ =>
      show win0_16.index _ 2 * 128 ≤ (i 2).val ∧ (i 2).val < win0_16.index _ 2 * 128 + 128
      rw [hi]
      show 0 * 128 ≤ (i 2).val ∧ (i 2).val < 0 * 128 + 128
      omega)

/-- The array of backward states after the run. -/
theorem final17 : (dats m 0 c).arrAt 17 cfg0.N = lastB (args m c) :=
  (dats m 0 c).arrAt_eq_of_cover 17 _ (fun t _ => flushed17 m c t) (fun (i : S32x512x128.Idx) => by
    have h0 : (i 0).val < 32 := (i 0).isLt
    have h1 : (i 1).val < 512 := (i 1).isLt
    have h2 : (i 2).val < 128 := (i 2).isLt
    have hq : (i 0).val / 4 < 8 := by omega
    have hN : (i 0).val / 4 < cfg0.N := lt_of_lt_of_eq hq N_0.symm
    refine ⟨⟨(i 0).val / 4, hN⟩, flush0_17 _, ?_⟩
    show i ∈ ((View.whole main_v46_2).slice (win0_17.rect ⟨(i 0).val / 4, hN⟩)).set
    rw [View.set_slice_whole, Rect.mem_set_unit]
    have hi := (idx_out ⟨(i 0).val / 4, hN⟩).2.2
    intro a
    match a with
    | ⟨0, _⟩ =>
      show win0_17.index _ 0 * 4 ≤ (i 0).val ∧ (i 0).val < win0_17.index _ 0 * 4 + 4
      rw [hi]
      show (i 0).val / 4 * 4 ≤ (i 0).val ∧ (i 0).val < (i 0).val / 4 * 4 + 4
      omega
    | ⟨1, _⟩ =>
      show win0_17.index _ 1 * 512 ≤ (i 1).val ∧ (i 1).val < win0_17.index _ 1 * 512 + 512
      rw [hi]
      show 0 * 512 ≤ (i 1).val ∧ (i 1).val < 0 * 512 + 512
      omega
    | ⟨2, _⟩ =>
      show win0_17.index _ 2 * 128 ≤ (i 2).val ∧ (i 2).val < win0_17.index _ 2 * 128 + 128
      rw [hi]
      show 0 * 128 ≤ (i 2).val ∧ (i 2).val < 0 * 128 + 128
      omega)

/-- The mixer's run: each result array at its values. -/
theorem run_values (ρ) : θ_run defs (onTc (main (F := Ideal))) (s₀ m ρ) (fun r => (∀ c : Dev nD,
      r.2.mem ((c : Thread nD τ).loc main_v46_0) = rows (args m c)
      ∧ r.2.mem ((c : Thread nD τ).loc main_v46_1) = lastF (args m c)
      ∧ r.2.mem ((c : Thread nD τ).loc main_v46_2) = lastB (args m c)) ∧ r.2.sem = fun _ => 0) :=
  (θ_run defs _ _).mono (fun _ h => ⟨fun c => ⟨((h.1 c).1 15).trans (final15 m c), ((h.1 c).1 16).trans (final16 m c),
    ((h.1 c).1 17).trans (final17 m c)⟩, h.2⟩) (run_main m ρ)

end

end Cert.Proof.Mix
-- ==== Proof.MixSame.lean ====
module

public import proofs.«01_k».proof.Defs
public import proofs.«01_k».proof.Proof.Gen.Kernel
public import proofs.«01_k».proof.Proof.Gen.KernelIdeal
public import proofs.«01_k».proof.Proof.MixRun

@[expose] public section

set_option maxRecDepth 8192
set_option maxHeartbeats 4000000

/-! # The mixer's program and its idealization are one program -/

noncomputable section

namespace Cert.Proof

open Idealize.ShloMosaic Idealize.ShloMosaic.TcCoe Idealize.SL.Sem

variable {F : FTy → Type} [FloatOps F]

attribute [local instance] Cert.Kernel.Gen.facts Cert.KernelIdeal.Gen.facts

/-- The two kernels' bodies are called the same way. -/
theorem defs0_eq : @Cert.Kernel.defs₀ F _ _ = @Cert.KernelIdeal.defs₀ F _ _ := by
  unfold Cert.Kernel.defs₀ Cert.KernelIdeal.defs₀
  refine congrArg Defs.onTc (funext fun l => ?_)
  match l with
  | 0 => rfl
  | ⟨_ + 1, h⟩ => exact absurd h (Nat.not_lt.2 (Nat.le_add_left _ _))

/-- The two programs' definitions are the same. -/
theorem defs_eq : @Cert.Kernel.defs F _ _ = @Cert.KernelIdeal.defs F _ _ := by
  unfold Cert.Kernel.defs Cert.KernelIdeal.defs
  rw [defs0_eq]
  rfl

/-- The two programs' host parts are the same. -/
theorem main_eq : @Cert.Kernel.main F _ _ = @Cert.KernelIdeal.main F _ _ := rfl

/-- The mixer's program terminates, its arguments unchanged and every counter at zero. -/
theorem mixer_frame : quiescent_Kernel (hKernel := Kernel.Gen.facts) := by
  intro m g _
  rw [main_eq (F := Bits), defs_eq (F := Bits)]
  exact Mixer.run_frame m g

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.FfnRef
public import proofs.«01_k».proof.Proof.FfnKernel
public import proofs.«01_k».proof.Proof.GridRef
public import proofs.«01_k».proof.Proof.GridKernel
public import proofs.«01_k».proof.Proof.Mod
public import proofs.«01_k».proof.Proof.MixRef
public import proofs.«01_k».proof.Proof.MixArrays
public import proofs.«01_k».proof.Proof.MixSame
public import Idealize.ShloMosaic.Adequacy
public import Idealize.ShloMosaic.Init

@[expose] public section

/-! # The certificate's claims -/

noncomputable section

namespace Cert.Proof

open Idealize.ShloMosaic Idealize.ShloMosaic.TcCoe Idealize.SL.Sem

/-- The reference's result is the array the feed-forward call leaves, on equal arguments. -/
theorem ffn_eq (m : (ℓ : Loc Kernel2Ideal.nD Kernel2Ideal.τ Kernel2Ideal.sig) → Buf (Elt Ideal) ℓ) (c : Dev Kernel2Ideal.nD) :
    Reference2Ideal.Read.val_main_v75 (F := Ideal) (Ffn.args m c).x (Ffn.args m c).md (Ffn.args m c).g (Ffn.args m c).wu
      (Ffn.args m c).wc (Ffn.args m c).bc (Ffn.args m c).wd (Ffn.args m c).gf = Kernel2Ideal.Value.G8 m c := by
  funext i
  obtain ⟨r, l, rfl⟩ : ∃ (r : Fin 8192) (l : Fin 1024), i = ix2 r l := ⟨i 0, i 1, eq_ix2 i⟩
  exact (Ffn.ref_out (Ffn.args m c) r l).trans (Ffn.result m c r l).symm

/-- From equal arguments the feed-forward call and the written feed-forward end with equal results. -/
theorem ffn_algebraic : algebraic_Kernel2Ideal_Reference2Ideal (hKernel2Ideal := Kernel2Ideal.Gen.facts)
    (hReference2Ideal := Reference2Ideal.Gen.facts) := by
  intro m g m' g' _ hag
  refine ⟨fun c => Kernel2Ideal.Value.G8 m c, Kernel2Ideal.Value.run m g, ?_⟩
  refine (θ_run Reference2Ideal.defs _ _).mono (fun r h c => ⟨?_, (h c).2⟩) (Reference2Ideal.Value.run m' g')
  obtain ⟨h0, h1, h2, h3, h4, h5, h6, h7⟩ := hag c
  rw [(h c).1, Reference2Ideal.Read.val_main_v75_eq, h0, h1, h2, h3, h4, h5, h6, h7]
  exact ffn_eq m c

/-- The reference's result is the array the samples' feed-forward call leaves, on equal arguments. -/
theorem grid_eq (m : (ℓ : Loc Kernel3Ideal.nD Kernel3Ideal.τ Kernel3Ideal.sig) → Buf (Elt Ideal) ℓ) (c : Dev Kernel3Ideal.nD) :
    Reference3Ideal.Read.val_main_v118 (F := Ideal) (Grid.args m c).x (Grid.args m c).md (Grid.args m c).g (Grid.args m c).wu
      (Grid.args m c).wc (Grid.args m c).bc (Grid.args m c).wd (Grid.args m c).gf = Kernel3Ideal.Value.G8 m c := by
  funext i
  obtain ⟨r, l, rfl⟩ : ∃ (r : Fin 8192) (l : Fin 1024), i = ix2 r l := ⟨i 0, i 1, eq_ix2 i⟩
  exact (Grid.ref_out (Grid.args m c) r l).trans (Grid.result m c r l).symm

/-- From equal arguments the samples' feed-forward call and the one written in the reference end with equal results. -/
theorem grid_algebraic : algebraic_Kernel3Ideal_Reference3Ideal (hKernel3Ideal := Kernel3Ideal.Gen.facts)
    (hReference3Ideal := Reference3Ideal.Gen.facts) := by
  intro m g m' g' _ hag
  refine ⟨fun c => Kernel3Ideal.Value.G8 m c, Kernel3Ideal.Value.run m g, ?_⟩
  refine (θ_run Reference3Ideal.defs _ _).mono (fun r h c => ⟨?_, (h c).2⟩) (Reference3Ideal.Value.run m' g')
  obtain ⟨h0, h1, h2, h3, h4, h5, h6, h7⟩ := hag c
  rw [(h c).1, Reference3Ideal.Read.val_main_v118_eq]
  show Reference3Ideal.Read.val_main_v118 (F := Ideal)
    (m' ((c.tc : Thread Reference3Ideal.nD Reference3Ideal.τ).loc Reference3Ideal.main_arg0)) (m' ((c.tc : Thread Reference3Ideal.nD Reference3Ideal.τ).loc Reference3Ideal.main_arg1))
    (m' ((c.tc : Thread Reference3Ideal.nD Reference3Ideal.τ).loc Reference3Ideal.main_arg2)) (m' ((c.tc : Thread Reference3Ideal.nD Reference3Ideal.τ).loc Reference3Ideal.main_arg3))
    (m' ((c.tc : Thread Reference3Ideal.nD Reference3Ideal.τ).loc Reference3Ideal.main_arg4)) (m' ((c.tc : Thread Reference3Ideal.nD Reference3Ideal.τ).loc Reference3Ideal.main_arg5))
    (m' ((c.tc : Thread Reference3Ideal.nD Reference3Ideal.τ).loc Reference3Ideal.main_arg6)) (m' ((c.tc : Thread Reference3Ideal.nD Reference3Ideal.τ).loc Reference3Ideal.main_arg7)) = _
  rw [h0, h1, h2, h3, h4, h5, h6, h7]
  exact grid_eq m c

/-- From equal arguments the call for the modulation vectors and the written product end with equal results. -/
theorem mod_algebraic : algebraic_Kernel4Ideal_Reference4Ideal (hKernel4Ideal := Kernel4Ideal.Gen.facts)
    (hReference4Ideal := Reference4Ideal.Gen.facts) := by
  intro m g m' g' _ hag
  refine ⟨fun c => Mod.arr (Mod.args m c), (θ_run Kernel4Ideal.defs _ _).mono
    (fun r h c => ⟨(h c).1.trans (Mod.final m c), (h c).2⟩) (Kernel4Ideal.Value.run_blocks m g), ?_⟩
  refine (θ_run Reference4Ideal.defs _ _).mono (fun r h c => ⟨?_, (h c).2⟩) (Reference4Ideal.Value.run m' g')
  obtain ⟨h0, h1, h2⟩ := hag c
  rw [(h c).1, Reference4Ideal.Read.val_main_v6_eq, h0, h1, h2]
  exact Mod.ref_val (Mod.args m c)

/-- The reference's rows are the rows the mixer leaves. -/
theorem mix_rows (A : Mix.Args) :
    ReferenceIdeal.Read.val_main_v283 (F := Ideal) A.x0 A.x1 A.x2 A.x3 A.x4 A.x5 A.x6 A.x7 A.x8 A.x9 A.x10 A.x11 = Mix.rows A := by
  funext i
  obtain ⟨r, l, rfl⟩ : ∃ (r : Fin 8192) (l : Fin 1024), i = ix2 r l := ⟨i 0, i 1, eq_ix2 i⟩
  exact Mix.Ref.ref_res0 A r l

/-- The reference's forward states are the ones the mixer leaves. -/
theorem mix_lastF (A : Mix.Args) :
    ReferenceIdeal.Read.val_main_v284 (F := Ideal) A.x0 A.x1 A.x2 A.x3 A.x5 A.x6 A.x7 A.x8 = Mix.lastF A := by
  funext i
  obtain ⟨b, j, n, rfl⟩ : ∃ (b : Fin 32) (j : Fin 512) (n : Fin 128), i = ix3 b j n := ⟨i 0, i 1, i 2, eq_ix3 i⟩
  exact Mix.Ref.ref_res1 A b j n

/-- The reference's backward states are the ones the mixer leaves. -/
theorem mix_lastB (A : Mix.Args) :
    ReferenceIdeal.Read.val_main_v285 (F := Ideal) A.x0 A.x1 A.x2 A.x3 A.x5 A.x6 A.x7 A.x8 = Mix.lastB A := by
  funext i
  obtain ⟨b, j, n, rfl⟩ : ∃ (b : Fin 32) (j : Fin 512) (n : Fin 128), i = ix3 b j n := ⟨i 0, i 1, i 2, eq_ix3 i⟩
  exact Mix.Ref.ref_res2 A b j n

/-- From equal arguments the mixer call and the written mixer end with equal results. -/
theorem mixer_algebraic : algebraic_KernelIdeal_ReferenceIdeal (hKernelIdeal := KernelIdeal.Gen.facts)
    (hReferenceIdeal := ReferenceIdeal.Gen.facts) := by
  intro m g m' g' _ hag
  have h1 := Mix.run_values m g
  have h2 := Mixer.run_frame m g
  refine ⟨fun c => Mix.rows (Mix.args m c), fun c => Mix.lastF (Mix.args m c), fun c => Mix.lastB (Mix.args m c),
    ⟨fun t ht hf c => ?_, h1.progress, h1.fair⟩, ?_⟩
  · have hv := (h1.post t ht hf).1 c
    exact ⟨hv.1, hv.2.1, hv.2.2, (h2.post t ht hf).1 c⟩
  refine (θ_run ReferenceIdeal.defs _ _).mono (fun r h c => ⟨?_, ?_, ?_, (h c).2.2.2⟩) (ReferenceIdeal.Value.run m' g')
  · obtain ⟨h0, h1, h2, h3, h4, h5, h6, h7, h8, h9, h10, h11⟩ := hag c
    refine (h c).1.trans ((ReferenceIdeal.Read.val_main_v283_eq _).trans ?_)
    refine Eq.trans ?_ (mix_rows (Mix.args m c))
    show ReferenceIdeal.Read.val_main_v283 (F := Ideal)
      (m' ((c.tc : Thread ReferenceIdeal.nD ReferenceIdeal.τ).loc ReferenceIdeal.main_arg0)) (m' ((c.tc : Thread ReferenceIdeal.nD ReferenceIdeal.τ).loc ReferenceIdeal.main_arg1))
      (m' ((c.tc : Thread ReferenceIdeal.nD ReferenceIdeal.τ).loc ReferenceIdeal.main_arg2)) (m' ((c.tc : Thread ReferenceIdeal.nD ReferenceIdeal.τ).loc ReferenceIdeal.main_arg3))
      (m' ((c.tc : Thread ReferenceIdeal.nD ReferenceIdeal.τ).loc ReferenceIdeal.main_arg4)) (m' ((c.tc : Thread ReferenceIdeal.nD ReferenceIdeal.τ).loc ReferenceIdeal.main_arg5))
      (m' ((c.tc : Thread ReferenceIdeal.nD ReferenceIdeal.τ).loc ReferenceIdeal.main_arg6)) (m' ((c.tc : Thread ReferenceIdeal.nD ReferenceIdeal.τ).loc ReferenceIdeal.main_arg7))
      (m' ((c.tc : Thread ReferenceIdeal.nD ReferenceIdeal.τ).loc ReferenceIdeal.main_arg8)) (m' ((c.tc : Thread ReferenceIdeal.nD ReferenceIdeal.τ).loc ReferenceIdeal.main_arg9))
      (m' ((c.tc : Thread ReferenceIdeal.nD ReferenceIdeal.τ).loc ReferenceIdeal.main_arg10)) (m' ((c.tc : Thread ReferenceIdeal.nD ReferenceIdeal.τ).loc ReferenceIdeal.main_arg11)) = _
    rw [h0, h1, h2, h3, h4, h5, h6, h7, h8, h9, h10, h11]
  · obtain ⟨h0, h1, h2, h3, h4, h5, h6, h7, h8, h9, h10, h11⟩ := hag c
    refine (h c).2.1.trans ((ReferenceIdeal.Read.val_main_v284_eq _).trans ?_)
    refine Eq.trans ?_ (mix_lastF (Mix.args m c))
    show ReferenceIdeal.Read.val_main_v284 (F := Ideal)
      (m' ((c.tc : Thread ReferenceIdeal.nD ReferenceIdeal.τ).loc ReferenceIdeal.main_arg0)) (m' ((c.tc : Thread ReferenceIdeal.nD ReferenceIdeal.τ).loc ReferenceIdeal.main_arg1))
      (m' ((c.tc : Thread ReferenceIdeal.nD ReferenceIdeal.τ).loc ReferenceIdeal.main_arg2)) (m' ((c.tc : Thread ReferenceIdeal.nD ReferenceIdeal.τ).loc ReferenceIdeal.main_arg3))
      (m' ((c.tc : Thread ReferenceIdeal.nD ReferenceIdeal.τ).loc ReferenceIdeal.main_arg5)) (m' ((c.tc : Thread ReferenceIdeal.nD ReferenceIdeal.τ).loc ReferenceIdeal.main_arg6))
      (m' ((c.tc : Thread ReferenceIdeal.nD ReferenceIdeal.τ).loc ReferenceIdeal.main_arg7)) (m' ((c.tc : Thread ReferenceIdeal.nD ReferenceIdeal.τ).loc ReferenceIdeal.main_arg8)) = _
    rw [h0, h1, h2, h3, h5, h6, h7, h8]
  · obtain ⟨h0, h1, h2, h3, h4, h5, h6, h7, h8, h9, h10, h11⟩ := hag c
    refine (h c).2.2.1.trans ((ReferenceIdeal.Read.val_main_v285_eq _).trans ?_)
    refine Eq.trans ?_ (mix_lastB (Mix.args m c))
    show ReferenceIdeal.Read.val_main_v285 (F := Ideal)
      (m' ((c.tc : Thread ReferenceIdeal.nD ReferenceIdeal.τ).loc ReferenceIdeal.main_arg0)) (m' ((c.tc : Thread ReferenceIdeal.nD ReferenceIdeal.τ).loc ReferenceIdeal.main_arg1))
      (m' ((c.tc : Thread ReferenceIdeal.nD ReferenceIdeal.τ).loc ReferenceIdeal.main_arg2)) (m' ((c.tc : Thread ReferenceIdeal.nD ReferenceIdeal.τ).loc ReferenceIdeal.main_arg3))
      (m' ((c.tc : Thread ReferenceIdeal.nD ReferenceIdeal.τ).loc ReferenceIdeal.main_arg5)) (m' ((c.tc : Thread ReferenceIdeal.nD ReferenceIdeal.τ).loc ReferenceIdeal.main_arg6))
      (m' ((c.tc : Thread ReferenceIdeal.nD ReferenceIdeal.τ).loc ReferenceIdeal.main_arg7)) (m' ((c.tc : Thread ReferenceIdeal.nD ReferenceIdeal.τ).loc ReferenceIdeal.main_arg8)) = _
    rw [h0, h1, h2, h3, h5, h6, h7, h8]

/-- Everything the certificate states. -/
theorem claim : Cert.Claim := by
  refine ⟨Kernel.Gen.facts, KernelIdeal.Gen.facts, ReferenceIdeal.Gen.facts, Kernel2.Gen.facts, Kernel2Ideal.Gen.facts,
    Reference2Ideal.Gen.facts, Kernel3.Gen.facts, Kernel3Ideal.Gen.facts, Reference3Ideal.Gen.facts, Kernel4.Gen.facts,
    Kernel4Ideal.Gen.facts, Reference4Ideal.Gen.facts, ?_, ?_, ?_, ?_, ?_, ?_, ?_, ?_, ?_, ?_, ?_, ?_, trivial, mixer_algebraic,
    trivial, ffn_algebraic, trivial, grid_algebraic, trivial, mod_algebraic⟩
  · exact mixer_frame
  · exact fun m g _ => Mixer.run_frame m g
  · exact fun m g _ => (θ_run ReferenceIdeal.defs _ _).mono
      (fun r h => ⟨fun c => (h c).2.2.2, sem_eq_zero_of_no_sems (by decide) r.2⟩) (ReferenceIdeal.Value.run m g)
  · exact fun m g _ => Kernel2.Gen.frame m g
  · exact fun m g _ => Kernel2Ideal.Gen.frame m g
  · exact fun m g _ => (θ_run Reference2Ideal.defs _ _).mono
      (fun r h => ⟨fun c => (h c).2, sem_eq_zero_of_no_sems (by decide) r.2⟩) (Reference2Ideal.Value.run m g)
  · exact fun m g _ => Kernel3.Gen.frame m g
  · exact fun m g _ => Kernel3Ideal.Gen.frame m g
  · exact fun m g _ => (θ_run Reference3Ideal.defs _ _).mono
      (fun r h => ⟨fun c => (h c).2, sem_eq_zero_of_no_sems (by decide) r.2⟩) (Reference3Ideal.Value.run m g)
  · exact fun m g _ => Kernel4.Gen.frame m g
  · exact fun m g _ => Kernel4Ideal.Gen.frame m g
  · exact fun m g _ => (θ_run Reference4Ideal.defs _ _).mono
      (fun r h => ⟨fun c => (h c).2, sem_eq_zero_of_no_sems (by decide) r.2⟩) (Reference4Ideal.Value.run m g)

end Cert.Proof

end
